-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v69) = v0 c
          ∧ r.2.mem ((c.tc : Thread Cert.Reference2Ideal.nD Cert.Reference2Ideal.τ).loc Cert.Reference2Ideal.main_v67) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v15) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_v12) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v12) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v5) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v5) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)) (v2 : (c : Dev Cert.Kernel12Ideal.nD) → Buf (Elt Ideal) ((c.tc : Thread Cert.Kernel12Ideal.nD Cert.Kernel12Ideal.τ).loc Cert.Kernel12Ideal.main_v0_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_v0_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_v15) = v1 c
          ∧ r.2.mem ((c.tc : Thread Cert.Reference12Ideal.nD Cert.Reference12Ideal.τ).loc Cert.Reference12Ideal.main_v18) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v20) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v2) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v2) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v49) = v0 c
          ∧ r.2.mem ((c.tc : Thread Cert.Reference17Ideal.nD Cert.Reference17Ideal.τ).loc Cert.Reference17Ideal.main_v50) = v1 c
          ∧ r.2.mem ((c.tc : Thread Cert.Reference17Ideal.nD Cert.Reference17Ideal.τ).loc Cert.Reference17Ideal.main_v51) = v2 c
          ∧ r.2.mem ((c.tc : Thread Cert.Reference17Ideal.nD Cert.Reference17Ideal.τ).loc Cert.Reference17Ideal.main_v52) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v14) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v14) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v14) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v14) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v0)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v0) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hPre_finite2 : Cert.Pre_finite2.Facts) (hPre_finite7 : Cert.Pre_finite7.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite7 (hKernel7Ideal := hKernel7Ideal) (hReference7Ideal := hReference7Ideal) (hPre_finite7 := hPre_finite7)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Pre_finite2.lean ====
abbrev S4x2048x4352 : Shape := ⟨3, ![4, 2048, 4352]⟩
abbrev S4x256x1024 : Shape := ⟨3, ![4, 256, 1024]⟩
abbrev S4x2048x512 : Shape := ⟨3, ![4, 2048, 512]⟩
abbrev S_ : Shape := ⟨0, ![]⟩

class Facts : Prop where
  bitsLt_bf16_f32 : FTy.bits .bf16 < FTy.bits .f32
  bcast_S_S4x2048x4352 : S_.BroadcastsInDim S4x2048x4352 (![] : Fin 0 → Fin S4x2048x4352.rank)
  reducesTo_S4x2048x4352_S_d0_1_2 : S4x2048x4352.ReducesTo [0, 1, 2] S_
  h_S_ : 0 < S_.numel
  bcast_S_S4x256x1024 : S_.BroadcastsInDim S4x256x1024 (![] : Fin 0 → Fin S4x256x1024.rank)
  reducesTo_S4x256x1024_S_d0_1_2 : S4x256x1024.ReducesTo [0, 1, 2] S_
  bcast_S_S4x2048x512 : S_.BroadcastsInDim S4x2048x512 (![] : Fin 0 → Fin S4x2048x512.rank)
  reducesTo_S4x2048x512_S_d0_1_2 : S4x2048x512.ReducesTo [0, 1, 2] S_

variable [Facts]

def fn {F : FTy → Type} [FloatOps F] (main_arg0 : FVec F S4x2048x4352 .bf16) (main_arg1 : FVec F S4x256x1024 .bf16) (main_arg2 : FVec F S4x2048x512 .bf16) : IVec S_ 1 :=
  let main_v0 : FVec F S4x2048x4352 .f32 := (extf .f32 · bitsLt_bf16_f32) main_arg0
  let main_v1 : FVec F S4x2048x4352 .f32 := Host.absf main_v0
  let main_cst : FVec F S_ .f32 := constant S_ .f32 0x7F800000#32
  let main_v2 : FVec F S4x2048x4352 .f32 := broadcastInDim S4x2048x4352 ![] bcast_S_S4x2048x4352 main_cst
  let main_v3 : IVec S4x2048x4352 1 := cmpf .olt main_v1 main_v2
  let main_c : IVec S_ 1 := constantI S_ 1 1#1
  let main_v4 : IVec S_ 1 := (fun x v => Host.reduce IntOp.andi x v reducesTo_S4x2048x4352_S_d0_1_2 h_S_) main_v3 main_c
  let main_v5 : FVec F S4x256x1024 .f32 := (extf .f32 · bitsLt_bf16_f32) main_arg1
  let main_v6 : FVec F S4x256x1024 .f32 := Host.absf main_v5
  let main_cst_0 : FVec F S_ .f32 := constant S_ .f32 0x7F800000#32
  let main_v7 : FVec F S4x256x1024 .f32 := broadcastInDim S4x256x1024 ![] bcast_S_S4x256x1024 main_cst_0
  let main_v8 : IVec S4x256x1024 1 := cmpf .olt main_v6 main_v7
  let main_c_1 : IVec S_ 1 := constantI S_ 1 1#1
  let main_v9 : IVec S_ 1 := (fun x v => Host.reduce IntOp.andi x v reducesTo_S4x256x1024_S_d0_1_2 h_S_) main_v8 main_c_1
  let main_v10 : IVec S_ 1 := andi main_v4 main_v9
  let main_v11 : FVec F S4x2048x512 .f32 := (extf .f32 · bitsLt_bf16_f32) main_arg2
  let main_v12 : FVec F S4x2048x512 .f32 := Host.absf main_v11
  let main_cst_2 : FVec F S_ .f32 := constant S_ .f32 0x7F800000#32
  let main_v13 : FVec F S4x2048x512 .f32 := broadcastInDim S4x2048x512 ![] bcast_S_S4x2048x512 main_cst_2
  let main_v14 : IVec S4x2048x512 1 := cmpf .olt main_v12 main_v13
  let main_c_3 : IVec S_ 1 := constantI S_ 1 1#1
  let main_v15 : IVec S_ 1 := (fun x v => Host.reduce IntOp.andi x v reducesTo_S4x2048x512_S_d0_1_2 h_S_) main_v14 main_c_3
  let main_v16 : IVec S_ 1 := andi main_v10 main_v15
  main_v16
-- ==== Pre_finite7.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .bf16) (main_arg3 : FVec F S8192x2816 .bf16) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S8192x2816 .f32 := (extf .f32 · bitsLt_bf16_f32) main_arg3
  let main_v12 : FVec F S8192x2816 .f32 := Host.absf main_v11
  let main_cst_2 : FVec F S_ .f32 := constant S_ .f32 0x7F800000#32
  let main_v13 : FVec F S8192x2816 .f32 := broadcastInDim S8192x2816 ![] bcast_S_S8192x2816 main_cst_2
  let main_v14 : IVec S8192x2816 1 := cmpf .olt main_v12 main_v13
  let main_c_3 : IVec S_ 1 := constantI S_ 1 1#1
  let main_v15 : IVec S_ 1 := (fun x v => Host.reduce IntOp.andi x v reducesTo_S8192x2816_S_d0_1 h_S_) main_v14 main_c_3
  let main_v16 : IVec S_ 1 := andi main_v10 main_v15
  main_v16
-- ==== Kernel.lean ====
abbrev S4x2048x4352 : Shape := ⟨3, ![4, 2048, 4352]⟩
abbrev S4x2048x512 : Shape := ⟨3, ![4, 2048, 512]⟩
abbrev S4x2048x8x64 : Shape := ⟨4, ![4, 2048, 8, 64]⟩
abbrev S4x8x2048x2048 : Shape := ⟨4, ![4, 8, 2048, 2048]⟩
abbrev S_ : Shape := ⟨0, ![]⟩
abbrev S2048x2048 : Shape := ⟨2, ![2048, 2048]⟩
abbrev S4x8x64x2048 : Shape := ⟨4, ![4, 8, 64, 2048]⟩
abbrev S4x4x2x8x256x8x256 : Shape := ⟨7, ![4, 4, 2, 8, 256, 8, 256]⟩
abbrev S4x4x8x2x8x256x256 : Shape := ⟨7, ![4, 4, 8, 2, 8, 256, 256]⟩
abbrev S1x256x128 : Shape := ⟨3, ![1, 256, 128]⟩
abbrev S1x2048x128 : Shape := ⟨3, ![1, 2048, 128]⟩
abbrev S1x1x1x2x8x256x256 : Shape := ⟨7, ![1, 1, 1, 2, 8, 256, 256]⟩
abbrev S2048x128 : Shape := ⟨2, ![2048, 128]⟩
abbrev S256x256 : Shape := ⟨2, ![256, 256]⟩
abbrev S1x128 : Shape := ⟨2, ![1, 128]⟩
abbrev S256x128 : Shape := ⟨2, ![256, 128]⟩
abbrev S256 : Shape := ⟨1, ![256]⟩
abbrev S256x1 : Shape := ⟨2, ![256, 1]⟩
abbrev S1x1x1x1x1x256x256 : Shape := ⟨7, ![1, 1, 1, 1, 1, 256, 256]⟩

abbrev nBuf : Space → Nat
  | .hbm => 74
  | .vmem => 20
  | .smem => 0
  | _ => 0

abbrev bufTy : (tb : Table) → Fin (tcTables nBuf tb) → BufTy
  | .hbm, ⟨0, _⟩ => ⟨S4x2048x4352, .bf16⟩
  | .hbm, ⟨1, _⟩ => ⟨S4x2048x512, .bf16⟩
  | .hbm, ⟨2, _⟩ => ⟨S4x2048x4352, .f32⟩
  | .hbm, ⟨3, _⟩ => ⟨S4x2048x512, .f32⟩
  | .hbm, ⟨4, _⟩ => ⟨S4x2048x8x64, .f32⟩
  | .hbm, ⟨5, _⟩ => ⟨S4x2048x512, .f32⟩
  | .hbm, ⟨6, _⟩ => ⟨S4x2048x8x64, .f32⟩
  | .hbm, ⟨7, _⟩ => ⟨S4x2048x512, .f32⟩
  | .hbm, ⟨8, _⟩ => ⟨S4x2048x8x64, .f32⟩
  | .hbm, ⟨9, _⟩ => ⟨S4x8x2048x2048, .f32⟩
  | .hbm, ⟨10, _⟩ => ⟨S_, .f32⟩
  | .hbm, ⟨11, _⟩ => ⟨S4x8x2048x2048, .f32⟩
  | .hbm, ⟨12, _⟩ => ⟨S4x8x2048x2048, .f32⟩
  | .hbm, ⟨13, _⟩ => ⟨S2048x2048, .i32⟩
  | .hbm, ⟨14, _⟩ => ⟨S2048x2048, .i32⟩
  | .hbm, ⟨15, _⟩ => ⟨S2048x2048, .i1⟩
  | .hbm, ⟨16, _⟩ => ⟨S4x8x2048x2048, .f32⟩
  | .hbm, ⟨17, _⟩ => ⟨S_, .f32⟩
  | .hbm, ⟨18, _⟩ => ⟨S4x8x2048x2048, .f32⟩
  | .hbm, ⟨19, _⟩ => ⟨S4x8x2048x2048, .f32⟩
  | .hbm, ⟨20, _⟩ => ⟨S4x8x2048x2048, .f32⟩
  | .hbm, ⟨21, _⟩ => ⟨S4x8x2048x2048, .f32⟩
  | .hbm, ⟨22, _⟩ => ⟨S4x8x2048x2048, .i1⟩
  | .hbm, ⟨23, _⟩ => ⟨S4x8x2048x2048, .f32⟩
  | .hbm, ⟨24, _⟩ => ⟨S4x8x2048x2048, .f32⟩
  | .hbm, ⟨25, _⟩ => ⟨S4x8x2048x2048, .f32⟩
  | .hbm, ⟨26, _⟩ => ⟨S4x8x2048x2048, .f32⟩
  | .hbm, ⟨27, _⟩ => ⟨S4x8x2048x2048, .f32⟩
  | .hbm, ⟨28, _⟩ => ⟨S4x8x2048x2048, .f32⟩
  | .hbm, ⟨29, _⟩ => ⟨S4x8x2048x2048, .f32⟩
  | .hbm, ⟨30, _⟩ => ⟨S4x8x2048x2048, .f32⟩
  | .hbm, ⟨31, _⟩ => ⟨S4x8x2048x2048, .f32⟩
  | .hbm, ⟨32, _⟩ => ⟨S4x8x2048x2048, .f32⟩
  | .hbm, ⟨33, _⟩ => ⟨S4x8x2048x2048, .f32⟩
  | .hbm, ⟨34, _⟩ => ⟨S_, .f32⟩
  | .hbm, ⟨35, _⟩ => ⟨S4x8x2048x2048, .f32⟩
  | .hbm, ⟨36, _⟩ => ⟨S4x8x2048x2048, .f32⟩
  | .hbm, ⟨37, _⟩ => ⟨S4x8x2048x2048, .f32⟩
  | .hbm, ⟨38, _⟩ => ⟨S4x8x2048x2048, .f32⟩
  | .hbm, ⟨39, _⟩ => ⟨S4x8x2048x2048, .i1⟩
  | .hbm, ⟨40, _⟩ => ⟨S4x8x2048x2048, .f32⟩
  | .hbm, ⟨41, _⟩ => ⟨S4x8x2048x2048, .f32⟩
  | .hbm, ⟨42, _⟩ => ⟨S4x8x2048x2048, .f32⟩
  | .hbm, ⟨43, _⟩ => ⟨S4x8x2048x2048, .f32⟩
  | .hbm, ⟨44, _⟩ => ⟨S4x8x2048x2048, .f32⟩
  | .hbm, ⟨45, _⟩ => ⟨S4x8x2048x2048, .f32⟩
  | .hbm, ⟨46, _⟩ => ⟨S4x8x2048x2048, .f32⟩
  | .hbm, ⟨47, _⟩ => ⟨S4x8x2048x2048, .f32⟩
  | .hbm, ⟨48, _⟩ => ⟨S4x8x2048x2048, .f32⟩
  | .hbm, ⟨49, _⟩ => ⟨S_, .f32⟩
  | .hbm, ⟨50, _⟩ => ⟨S_, .f32⟩
  | .hbm, ⟨51, _⟩ => ⟨S4x8x2048x2048, .i1⟩
  | .hbm, ⟨52, _⟩ => ⟨S4x8x2048x2048, .f32⟩
  | .hbm, ⟨53, _⟩ => ⟨S4x8x2048x2048, .f32⟩
  | .hbm, ⟨54, _⟩ => ⟨S_, .f32⟩
  | .hbm, ⟨55, _⟩ => ⟨S_, .f32⟩
  | .hbm, ⟨56, _⟩ => ⟨S4x8x2048x2048, .f32⟩
  | .hbm, ⟨57, _⟩ => ⟨S4x8x2048x2048, .f32⟩
  | .hbm, ⟨58, _⟩ => ⟨S4x8x2048x2048, .f32⟩
  | .hbm, ⟨59, _⟩ => ⟨S4x8x2048x2048, .f32⟩
  | .hbm, ⟨60, _⟩ => ⟨S_, .f32⟩
  | .hbm, ⟨61, _⟩ => ⟨S_, .f32⟩
  | .hbm, ⟨62, _⟩ => ⟨S4x8x2048x2048, .i1⟩
  | .hbm, ⟨63, _⟩ => ⟨S4x8x2048x2048, .f32⟩
  | .hbm, ⟨64, _⟩ => ⟨S4x8x2048x2048, .f32⟩
  | .hbm, ⟨65, _⟩ => ⟨S4x8x64x2048, .f32⟩
  | .hbm, ⟨66, _⟩ => ⟨S4x2048x8x64, .f32⟩
  | .hbm, ⟨67, _⟩ => ⟨S4x2048x512, .f32⟩
  | .hbm, ⟨68, _⟩ => ⟨S4x8x2048x2048, .bf16⟩
  | .hbm, ⟨69, _⟩ => ⟨S4x4x2x8x256x8x256, .bf16⟩
  | .hbm, ⟨70, _⟩ => ⟨S4x4x8x2x8x256x256, .bf16⟩
  | .hbm, ⟨71, _⟩ => ⟨S4x2048x512, .bf16⟩
  | .hbm, ⟨72, _⟩ => ⟨S4x2048x512, .bf16⟩
  | .hbm, ⟨73, _⟩ => ⟨S4x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .f32⟩
  | .local _ .vmem, ⟨7, _⟩ => ⟨S1x256x128, .f32⟩
  | .local _ .vmem, ⟨8, _⟩ => ⟨S1x256x128, .bf16⟩
  | .local _ .vmem, ⟨9, _⟩ => ⟨S1x256x128, .bf16⟩
  | .local _ .vmem, ⟨10, _⟩ => ⟨S1x1x1x2x8x256x256, .bf16⟩
  | .local _ .vmem, ⟨11, _⟩ => ⟨S1x1x1x2x8x256x256, .bf16⟩
  | .local _ .vmem, ⟨12, _⟩ => ⟨S1x256x128, .bf16⟩
  | .local _ .vmem, ⟨13, _⟩ => ⟨S1x256x128, .bf16⟩
  | .local _ .vmem, ⟨14, _⟩ => ⟨S1x2048x128, .bf16⟩
  | .local _ .vmem, ⟨15, _⟩ => ⟨S1x2048x128, .bf16⟩
  | .local _ .vmem, ⟨16, _⟩ => ⟨S1x2048x128, .bf16⟩
  | .local _ .vmem, ⟨17, _⟩ => ⟨S1x2048x128, .bf16⟩
  | .local _ .vmem, ⟨18, _⟩ => ⟨S2048x128, .f32⟩
  | .local _ .vmem, ⟨19, _⟩ => ⟨S2048x128, .f32⟩
  | _, _ => ⟨S4x2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1 : Ref sig .tc := ⟨.hbm, 30, rfl⟩
abbrev main_v13 : Ref sig .tc := ⟨.hbm, 31, rfl⟩
abbrev main_v14 : Ref sig .tc := ⟨.hbm, 32, rfl⟩
abbrev main_call1_v0 : Ref sig .tc := ⟨.hbm, 33, rfl⟩
abbrev main_call1_call0_cst : Ref sig .tc := ⟨.hbm, 34, rfl⟩
abbrev main_call1_call0_v0 : Ref sig .tc := ⟨.hbm, 35, rfl⟩
abbrev main_call1_call0_v1 : Ref sig .tc := ⟨.hbm, 36, rfl⟩
abbrev main_call1_call0_v2 : Ref sig .tc := ⟨.hbm, 37, rfl⟩
abbrev main_call1_call0_v3 : Ref sig .tc := ⟨.hbm, 38, rfl⟩
abbrev main_call1_call0_v4 : Ref sig .tc := ⟨.hbm, 39, rfl⟩
abbrev main_call1_call0_v5 : Ref sig .tc := ⟨.hbm, 40, rfl⟩
abbrev main_call1_call0_v6 : Ref sig .tc := ⟨.hbm, 41, rfl⟩
abbrev main_call1_call0_v7 : Ref sig .tc := ⟨.hbm, 42, rfl⟩
abbrev main_call1_call0_v8 : Ref sig .tc := ⟨.hbm, 43, rfl⟩
abbrev main_call1_call0_v9 : Ref sig .tc := ⟨.hbm, 44, rfl⟩
abbrev main_call1_call0_v10 : Ref sig .tc := ⟨.hbm, 45, rfl⟩
abbrev main_call1_call0_v11 : Ref sig .tc := ⟨.hbm, 46, rfl⟩
abbrev main_call1_v1 : Ref sig .tc := ⟨.hbm, 47, rfl⟩
abbrev main_v15 : Ref sig .tc := ⟨.hbm, 48, rfl⟩
abbrev main_cst_0 : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_v16 : Ref sig .tc := ⟨.hbm, 53, rfl⟩
abbrev main_call3_cst : Ref sig .tc := ⟨.hbm, 54, rfl⟩
abbrev main_call3_v0 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_v20 : Ref sig .tc := ⟨.hbm, 59, rfl⟩
abbrev main_cst_1 : Ref sig .tc := ⟨.hbm, 60, rfl⟩
abbrev main_call4_v0 : Ref sig .tc := ⟨.hbm, 61, rfl⟩
abbrev main_call4_v1 : Ref sig .tc := ⟨.hbm, 62, rfl⟩
abbrev main_call4_v2 : Ref sig .tc := ⟨.hbm, 63, rfl⟩
abbrev main_v21 : Ref sig .tc := ⟨.hbm, 64, rfl⟩
abbrev main_v22 : Ref sig .tc := ⟨.hbm, 65, rfl⟩
abbrev main_v23 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_v28_0 : Ref sig .tc := ⟨.hbm, 71, rfl⟩
abbrev main_v28_1 : Ref sig .tc := ⟨.hbm, 72, rfl⟩
abbrev main_v28_2 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 4, 8], ![false, false, false]⟩

def k0_cond2 (i : grid0.Coords) : BitVec 1 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let c1_i32_37 : BitVec 32 := 1#32
  let v109 : BitVec 1 := Scalar.cmpi .eq v108 c1_i32_37
  let v110 : BitVec 32 := Scalar.extui v109
  let c0_i32_38 : BitVec 32 := 0#32
  let v111 : BitVec 1 := Scalar.cmpi .ne v110 c0_i32_38
  v111

def k0_mult1 (i : grid0.Coords) : BitVec 32 :=
  let arg2 : BitVec 32 := BitVec.ofNat 32 (i 2).val
  let c256_i32 : BitVec 32 := 256#32
  let v148 : BitVec 32 := Scalar.muli arg2 c256_i32
  v148
def k0_off1 (i : grid0.Coords) : Fin 3 → Nat :=
  let c0_56 : Index := 0#32
  let arg2 : BitVec 32 := BitVec.ofNat 32 (i 2).val
  let c256_i32 : BitVec 32 := 256#32
  let v148 : BitVec 32 := Scalar.muli arg2 c256_i32
  let v149 : BitVec 32 := v148
  let v150 : Index := Scalar.indexCast v149
  let c0_57 : Index := 0#32
  ![0, v150.toNat, 0]
def k0_off2 (i : grid0.Coords) : Fin 7 → Nat :=
  let c0_64 : Index := 0#32
  let c0_65 : Index := 0#32
  let c0_66 : Index := 0#32
  let c0_67 : Index := 0#32
  let arg2 : BitVec 32 := BitVec.ofNat 32 (i 2).val
  let v160 : Index := Scalar.indexCast arg2
  let c0_68 : Index := 0#32
  let c0_69 : Index := 0#32
  ![0, 0, 0, 0, v160.toNat, 0, 0]
def k0_off3 (i : grid0.Coords) : Fin 7 → Nat :=
  let c0_70 : Index := 0#32
  let c0_71 : Index := 0#32
  let c0_72 : Index := 0#32
  let c1 : Index := 1#32
  let arg2 : BitVec 32 := BitVec.ofNat 32 (i 2).val
  let v163 : Index := Scalar.indexCast arg2
  let c0_73 : Index := 0#32
  let c0_74 : Index := 0#32
  ![0, 0, 0, 1, v163.toNat, 0, 0]
def k0_off4 (i : grid0.Coords) : Fin 2 → Nat :=
  let arg2 : BitVec 32 := BitVec.ofNat 32 (i 2).val
  let c256_i32 : BitVec 32 := 256#32
  let v148 : BitVec 32 := Scalar.muli arg2 c256_i32
  let v149 : BitVec 32 := v148
  let v246 : Index := Scalar.indexCast v149
  let c0_93 : Index := 0#32
  ![v246.toNat, 0]
def k0_cond3 (i : grid0.Coords) : BitVec 1 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let c2_i32 : BitVec 32 := 2#32
  let v148 : BitVec 1 := Scalar.cmpi .eq v108 c2_i32
  let v149 : BitVec 32 := Scalar.extui v148
  let c0_i32_56 : BitVec 32 := 0#32
  let v150 : BitVec 1 := Scalar.cmpi .ne v149 c0_i32_56
  v150

def k0_mult2 (i : grid0.Coords) : BitVec 32 :=
  let arg2 : BitVec 32 := BitVec.ofNat 32 (i 2).val
  let c256_i32 : BitVec 32 := 256#32
  let v153 : BitVec 32 := Scalar.muli arg2 c256_i32
  v153
def k0_mult3 (i : grid0.Coords) : BitVec 32 :=
  let arg2 : BitVec 32 := BitVec.ofNat 32 (i 2).val
  let c1_i32_57 : BitVec 32 := 1#32
  let v152 : BitVec 32 := Scalar.subi arg2 c1_i32_57
  let c256_i32_58 : BitVec 32 := 256#32
  let v155 : BitVec 32 := Scalar.muli v152 c256_i32_58
  v155
def k0_off5 (i : grid0.Coords) : Fin 3 → Nat :=
  let c0_59 : Index := 0#32
  let arg2 : BitVec 32 := BitVec.ofNat 32 (i 2).val
  let c256_i32 : BitVec 32 := 256#32
  let v153 : BitVec 32 := Scalar.muli arg2 c256_i32
  let v154 : BitVec 32 := v153
  let v157 : Index := Scalar.indexCast v154
  let c0_60 : Index := 0#32
  ![0, v157.toNat, 0]
def k0_off6 (i : grid0.Coords) : Fin 3 → Nat :=
  let c0_61 : Index := 0#32
  let arg2 : BitVec 32 := BitVec.ofNat 32 (i 2).val
  let c1_i32_57 : BitVec 32 := 1#32
  let v152 : BitVec 32 := Scalar.subi arg2 c1_i32_57
  let c256_i32_58 : BitVec 32 := 256#32
  let v155 : BitVec 32 := Scalar.muli v152 c256_i32_58
  let v156 : BitVec 32 := v155
  let v160 : Index := Scalar.indexCast v156
  let c0_62 : Index := 0#32
  ![0, v160.toNat, 0]
def k0_off7 (i : grid0.Coords) : Fin 7 → Nat :=
  let c0_75 : Index := 0#32
  let c0_76 : Index := 0#32
  let c0_77 : Index := 0#32
  let c0_78 : Index := 0#32
  let arg2 : BitVec 32 := BitVec.ofNat 32 (i 2).val
  let v177 : Index := Scalar.indexCast arg2
  let c0_79 : Index := 0#32
  let c0_80 : Index := 0#32
  ![0, 0, 0, 0, v177.toNat, 0, 0]
def k0_off8 (i : grid0.Coords) : Fin 7 → Nat :=
  let c0_81 : Index := 0#32
  let c0_82 : Index := 0#32
  let c0_83 : Index := 0#32
  let c1 : Index := 1#32
  let arg2 : BitVec 32 := BitVec.ofNat 32 (i 2).val
  let v180 : Index := Scalar.indexCast arg2
  let c0_84 : Index := 0#32
  let c0_85 : Index := 0#32
  ![0, 0, 0, 1, v180.toNat, 0, 0]
def k0_off9 (i : grid0.Coords) : Fin 7 → Nat :=
  let c0_86 : Index := 0#32
  let c0_87 : Index := 0#32
  let c0_88 : Index := 0#32
  let c0_89 : Index := 0#32
  let arg2 : BitVec 32 := BitVec.ofNat 32 (i 2).val
  let c1_i32_57 : BitVec 32 := 1#32
  let v152 : BitVec 32 := Scalar.subi arg2 c1_i32_57
  let v183 : Index := Scalar.indexCast v152
  let c0_90 : Index := 0#32
  let c0_91 : Index := 0#32
  ![0, 0, 0, 0, v183.toNat, 0, 0]
def k0_off10 (i : grid0.Coords) : Fin 7 → Nat :=
  let c0_92 : Index := 0#32
  let c0_93 : Index := 0#32
  let c0_94 : Index := 0#32
  let c1_95 : Index := 1#32
  let arg2 : BitVec 32 := BitVec.ofNat 32 (i 2).val
  let c1_i32_57 : BitVec 32 := 1#32
  let v152 : BitVec 32 := Scalar.subi arg2 c1_i32_57
  let v186 : Index := Scalar.indexCast v152
  let c0_96 : Index := 0#32
  let c0_97 : Index := 0#32
  ![0, 0, 0, 1, v186.toNat, 0, 0]
def k0_off11 (i : grid0.Coords) : Fin 2 → Nat :=
  let arg2 : BitVec 32 := BitVec.ofNat 32 (i 2).val
  let c256_i32 : BitVec 32 := 256#32
  let v153 : BitVec 32 := Scalar.muli arg2 c256_i32
  let v154 : BitVec 32 := v153
  let v345 : Index := Scalar.indexCast v154
  let c0_132 : Index := 0#32
  ![v345.toNat, 0]
def k0_off12 (i : grid0.Coords) : Fin 2 → Nat :=
  let arg2 : BitVec 32 := BitVec.ofNat 32 (i 2).val
  let c1_i32_57 : BitVec 32 := 1#32
  let v152 : BitVec 32 := Scalar.subi arg2 c1_i32_57
  let c256_i32_58 : BitVec 32 := 256#32
  let v155 : BitVec 32 := Scalar.muli v152 c256_i32_58
  let v156 : BitVec 32 := v155
  let v365 : Index := Scalar.indexCast v156
  let c0_140 : Index := 0#32
  ![v365.toNat, 0]
def k0_mult4 (i : grid0.Coords) : BitVec 32 :=
  let arg2 : BitVec 32 := BitVec.ofNat 32 (i 2).val
  let c256_i32 : BitVec 32 := 256#32
  let v154 : BitVec 32 := Scalar.muli arg2 c256_i32
  v154
def k0_mult5 (i : grid0.Coords) : BitVec 32 :=
  let arg2 : BitVec 32 := BitVec.ofNat 32 (i 2).val
  let c1_i32_57 : BitVec 32 := 1#32
  let v152 : BitVec 32 := Scalar.subi arg2 c1_i32_57
  let c256_i32_59 : BitVec 32 := 256#32
  let v156 : BitVec 32 := Scalar.muli v152 c256_i32_59
  v156
def k0_mult6 (i : grid0.Coords) : BitVec 32 :=
  let arg2 : BitVec 32 := BitVec.ofNat 32 (i 2).val
  let c2_i32_58 : BitVec 32 := 2#32
  let v153 : BitVec 32 := Scalar.subi arg2 c2_i32_58
  let c256_i32_60 : BitVec 32 := 256#32
  let v158 : BitVec 32 := Scalar.muli v153 c256_i32_60
  v158
def k0_off13 (i : grid0.Coords) : Fin 3 → Nat :=
  let c0_61 : Index := 0#32
  let arg2 : BitVec 32 := BitVec.ofNat 32 (i 2).val
  let c256_i32 : BitVec 32 := 256#32
  let v154 : BitVec 32 := Scalar.muli arg2 c256_i32
  let v155 : BitVec 32 := v154
  let v160 : Index := Scalar.indexCast v155
  let c0_62 : Index := 0#32
  ![0, v160.toNat, 0]
def k0_off14 (i : grid0.Coords) (c1_i32_57 : BitVec 32) : Fin 3 → Nat :=
  let c0_63 : Index := 0#32
  let arg2 : BitVec 32 := BitVec.ofNat 32 (i 2).val
  let v152 : BitVec 32 := Scalar.subi arg2 c1_i32_57
  let c256_i32_59 : BitVec 32 := 256#32
  let v156 : BitVec 32 := Scalar.muli v152 c256_i32_59
  let v157 : BitVec 32 := v156
  let v163 : Index := Scalar.indexCast v157
  let c0_64 : Index := 0#32
  ![0, v163.toNat, 0]
def k0_off15 (i : grid0.Coords) : Fin 7 → Nat :=
  let c0_85 : Index := 0#32
  let c0_86 : Index := 0#32
  let c0_87 : Index := 0#32
  let c0_88 : Index := 0#32
  let arg2 : BitVec 32 := BitVec.ofNat 32 (i 2).val
  let v190 : Index := Scalar.indexCast arg2
  let c0_89 : Index := 0#32
  let c0_90 : Index := 0#32
  ![0, 0, 0, 0, v190.toNat, 0, 0]
def k0_off16 (i : grid0.Coords) : Fin 7 → Nat :=
  let c0_91 : Index := 0#32
  let c0_92 : Index := 0#32
  let c0_93 : Index := 0#32
  let c1 : Index := 1#32
  let arg2 : BitVec 32 := BitVec.ofNat 32 (i 2).val
  let v193 : Index := Scalar.indexCast arg2
  let c0_94 : Index := 0#32
  let c0_95 : Index := 0#32
  ![0, 0, 0, 1, v193.toNat, 0, 0]
def k0_off17 (i : grid0.Coords) (c1_i32_57 : BitVec 32) : Fin 7 → Nat :=
  let c0_96 : Index := 0#32
  let c0_97 : Index := 0#32
  let c0_98 : Index := 0#32
  let c0_99 : Index := 0#32
  let arg2 : BitVec 32 := BitVec.ofNat 32 (i 2).val
  let v152 : BitVec 32 := Scalar.subi arg2 c1_i32_57
  let v196 : Index := Scalar.indexCast v152
  let c0_100 : Index := 0#32
  let c0_101 : Index := 0#32
  ![0, 0, 0, 0, v196.toNat, 0, 0]
def k0_off18 (i : grid0.Coords) (c1_i32_57 : BitVec 32) : Fin 7 → Nat :=
  let c0_102 : Index := 0#32
  let c0_103 : Index := 0#32
  let c0_104 : Index := 0#32
  let c1_105 : Index := 1#32
  let arg2 : BitVec 32 := BitVec.ofNat 32 (i 2).val
  let v152 : BitVec 32 := Scalar.subi arg2 c1_i32_57
  let v199 : Index := Scalar.indexCast v152
  let c0_106 : Index := 0#32
  let c0_107 : Index := 0#32
  ![0, 0, 0, 1, v199.toNat, 0, 0]
def k0_off19 (i : grid0.Coords) : Fin 2 → Nat :=
  let arg2 : BitVec 32 := BitVec.ofNat 32 (i 2).val
  let c256_i32 : BitVec 32 := 256#32
  let v154 : BitVec 32 := Scalar.muli arg2 c256_i32
  let v155 : BitVec 32 := v154
  let v440 : Index := Scalar.indexCast v155
  let c0_170 : Index := 0#32
  ![v440.toNat, 0]
def k0_off20 (i : grid0.Coords) (c1_i32_57 : BitVec 32) : Fin 2 → Nat :=
  let arg2 : BitVec 32 := BitVec.ofNat 32 (i 2).val
  let v152 : BitVec 32 := Scalar.subi arg2 c1_i32_57
  let c256_i32_59 : BitVec 32 := 256#32
  let v156 : BitVec 32 := Scalar.muli v152 c256_i32_59
  let v157 : BitVec 32 := v156
  let v460 : Index := Scalar.indexCast v157
  let c0_178 : Index := 0#32
  ![v460.toNat, 0]
@[reducible] def k0_t1_loop (i : grid0.Coords) : Scf.Loop 32 :=
  let c0_i32_47 : BitVec 32 := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_49 : BitVec 32 := 1#32
  ⟨c0_i32_47, v136, c1_i32_49⟩
def k0_mult7 (i : grid0.Coords) (k0_t1 : Fin (k0_t1_loop i).trips) : BitVec 32 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_49 : BitVec 32 := 1#32
  let arg14 : BitVec 32 := Scf.iv c0_i32_47 c1_i32_49 k0_t1
  let v148 : BitVec 32 := Scalar.muli c3_i32_56 arg14
  let v149 : BitVec 32 := Scalar.subi v113 v148
  let c256_i32 : BitVec 32 := 256#32
  let v156 : BitVec 32 := Scalar.muli v149 c256_i32
  v156
def k0_mult8 (i : grid0.Coords) (k0_t1 : Fin (k0_t1_loop i).trips) : BitVec 32 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c1_i32_57 : BitVec 32 := 1#32
  let v150 : BitVec 32 := Scalar.subi v113 c1_i32_57
  let c3_i32_58 : BitVec 32 := 3#32
  let c0_i32_47 : BitVec 32 := 0#32
  let c1_i32_49 : BitVec 32 := 1#32
  let arg14 : BitVec 32 := Scf.iv c0_i32_47 c1_i32_49 k0_t1
  let v151 : BitVec 32 := Scalar.muli c3_i32_58 arg14
  let v152 : BitVec 32 := Scalar.subi v150 v151
  let c256_i32_60 : BitVec 32 := 256#32
  let v158 : BitVec 32 := Scalar.muli v152 c256_i32_60
  v158
def k0_mult9 (i : grid0.Coords) (k0_t1 : Fin (k0_t1_loop i).trips) : BitVec 32 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c2_i32 : BitVec 32 := 2#32
  let v153 : BitVec 32 := Scalar.subi v113 c2_i32
  let c3_i32_59 : BitVec 32 := 3#32
  let c0_i32_47 : BitVec 32 := 0#32
  let c1_i32_49 : BitVec 32 := 1#32
  let arg14 : BitVec 32 := Scf.iv c0_i32_47 c1_i32_49 k0_t1
  let v154 : BitVec 32 := Scalar.muli c3_i32_59 arg14
  let v155 : BitVec 32 := Scalar.subi v153 v154
  let c256_i32_61 : BitVec 32 := 256#32
  let v160 : BitVec 32 := Scalar.muli v155 c256_i32_61
  v160
def k0_off21 (i : grid0.Coords) (k0_t1 : Fin (k0_t1_loop i).trips) : Fin 3 → Nat :=
  let c0_62 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_49 : BitVec 32 := 1#32
  let arg14 : BitVec 32 := Scf.iv c0_i32_47 c1_i32_49 k0_t1
  let v148 : BitVec 32 := Scalar.muli c3_i32_56 arg14
  let v149 : BitVec 32 := Scalar.subi v113 v148
  let c256_i32 : BitVec 32 := 256#32
  let v156 : BitVec 32 := Scalar.muli v149 c256_i32
  let v157 : BitVec 32 := v156
  let v162 : Index := Scalar.indexCast v157
  let c0_63 : Index := 0#32
  ![0, v162.toNat, 0]
def k0_off22 (i : grid0.Coords) (k0_t1 : Fin (k0_t1_loop i).trips) (c1_i32_57 : BitVec 32) : Fin 3 → Nat :=
  let c0_64 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_49 : BitVec 32 := 1#32
  let arg14 : BitVec 32 := Scf.iv c0_i32_47 c1_i32_49 k0_t1
  let v151 : BitVec 32 := Scalar.muli c3_i32_58 arg14
  let v152 : BitVec 32 := Scalar.subi v150 v151
  let c256_i32_60 : BitVec 32 := 256#32
  let v158 : BitVec 32 := Scalar.muli v152 c256_i32_60
  let v159 : BitVec 32 := v158
  let v165 : Index := Scalar.indexCast v159
  let c0_65 : Index := 0#32
  ![0, v165.toNat, 0]
def k0_off23 (i : grid0.Coords) (k0_t1 : Fin (k0_t1_loop i).trips) : Fin 7 → Nat :=
  let c0_86 : Index := 0#32
  let c0_87 : Index := 0#32
  let c0_88 : Index := 0#32
  let c0_89 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_49 : BitVec 32 := 1#32
  let arg14 : BitVec 32 := Scf.iv c0_i32_47 c1_i32_49 k0_t1
  let v148 : BitVec 32 := Scalar.muli c3_i32_56 arg14
  let v149 : BitVec 32 := Scalar.subi v113 v148
  let v192 : Index := Scalar.indexCast v149
  let c0_90 : Index := 0#32
  let c0_91 : Index := 0#32
  ![0, 0, 0, 0, v192.toNat, 0, 0]
def k0_off24 (i : grid0.Coords) (k0_t1 : Fin (k0_t1_loop i).trips) : Fin 7 → Nat :=
  let c0_92 : Index := 0#32
  let c0_93 : Index := 0#32
  let c0_94 : Index := 0#32
  let c1 : Index := 1#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_49 : BitVec 32 := 1#32
  let arg14 : BitVec 32 := Scf.iv c0_i32_47 c1_i32_49 k0_t1
  let v148 : BitVec 32 := Scalar.muli c3_i32_56 arg14
  let v149 : BitVec 32 := Scalar.subi v113 v148
  let v195 : Index := Scalar.indexCast v149
  let c0_95 : Index := 0#32
  let c0_96 : Index := 0#32
  ![0, 0, 0, 1, v195.toNat, 0, 0]
def k0_off25 (i : grid0.Coords) (k0_t1 : Fin (k0_t1_loop i).trips) (c1_i32_57 : BitVec 32) : Fin 7 → Nat :=
  let c0_97 : Index := 0#32
  let c0_98 : Index := 0#32
  let c0_99 : Index := 0#32
  let c0_100 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_49 : BitVec 32 := 1#32
  let arg14 : BitVec 32 := Scf.iv c0_i32_47 c1_i32_49 k0_t1
  let v151 : BitVec 32 := Scalar.muli c3_i32_58 arg14
  let v152 : BitVec 32 := Scalar.subi v150 v151
  let v198 : Index := Scalar.indexCast v152
  let c0_101 : Index := 0#32
  let c0_102 : Index := 0#32
  ![0, 0, 0, 0, v198.toNat, 0, 0]
def k0_off26 (i : grid0.Coords) (k0_t1 : Fin (k0_t1_loop i).trips) (c1_i32_57 : BitVec 32) : Fin 7 → Nat :=
  let c0_103 : Index := 0#32
  let c0_104 : Index := 0#32
  let c0_105 : Index := 0#32
  let c1_106 : Index := 1#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_49 : BitVec 32 := 1#32
  let arg14 : BitVec 32 := Scf.iv c0_i32_47 c1_i32_49 k0_t1
  let v151 : BitVec 32 := Scalar.muli c3_i32_58 arg14
  let v152 : BitVec 32 := Scalar.subi v150 v151
  let v201 : Index := Scalar.indexCast v152
  let c0_107 : Index := 0#32
  let c0_108 : Index := 0#32
  ![0, 0, 0, 1, v201.toNat, 0, 0]
def k0_off27 (i : grid0.Coords) (k0_t1 : Fin (k0_t1_loop i).trips) : Fin 2 → Nat :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_49 : BitVec 32 := 1#32
  let arg14 : BitVec 32 := Scf.iv c0_i32_47 c1_i32_49 k0_t1
  let v148 : BitVec 32 := Scalar.muli c3_i32_56 arg14
  let v149 : BitVec 32 := Scalar.subi v113 v148
  let c256_i32 : BitVec 32 := 256#32
  let v156 : BitVec 32 := Scalar.muli v149 c256_i32
  let v157 : BitVec 32 := v156
  let v438 : Index := Scalar.indexCast v157
  let c0_169 : Index := 0#32
  ![v438.toNat, 0]
def k0_off28 (i : grid0.Coords) (k0_t1 : Fin (k0_t1_loop i).trips) (c1_i32_57 : BitVec 32) : Fin 2 → Nat :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_49 : BitVec 32 := 1#32
  let arg14 : BitVec 32 := Scf.iv c0_i32_47 c1_i32_49 k0_t1
  let v151 : BitVec 32 := Scalar.muli c3_i32_58 arg14
  let v152 : BitVec 32 := Scalar.subi v150 v151
  let c256_i32_60 : BitVec 32 := 256#32
  let v158 : BitVec 32 := Scalar.muli v152 c256_i32_60
  let v159 : BitVec 32 := v158
  let v458 : Index := Scalar.indexCast v159
  let c0_177 : Index := 0#32
  ![v458.toNat, 0]
@[reducible] def k0_t2_loop (i : grid0.Coords) : Scf.Loop 32 :=
  let c0_i32_47 : BitVec 32 := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let v133 : BitVec 32 := Scalar.addi c0_i32_47 v132
  let c1_i32_50 : BitVec 32 := 1#32
  ⟨v136, v133, c1_i32_50⟩
def k0_mult10 (i : grid0.Coords) (k0_t2 : Fin (k0_t2_loop i).trips) : BitVec 32 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v148 : BitVec 32 := Scalar.muli c3_i32_56 arg14
  let v149 : BitVec 32 := Scalar.subi v113 v148
  let c256_i32 : BitVec 32 := 256#32
  let v156 : BitVec 32 := Scalar.muli v149 c256_i32
  v156
def k0_mult11 (i : grid0.Coords) (k0_t2 : Fin (k0_t2_loop i).trips) : BitVec 32 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c1_i32_57 : BitVec 32 := 1#32
  let v150 : BitVec 32 := Scalar.subi v113 c1_i32_57
  let c3_i32_58 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v151 : BitVec 32 := Scalar.muli c3_i32_58 arg14
  let v152 : BitVec 32 := Scalar.subi v150 v151
  let c256_i32_60 : BitVec 32 := 256#32
  let v158 : BitVec 32 := Scalar.muli v152 c256_i32_60
  v158
def k0_mult12 (i : grid0.Coords) (k0_t2 : Fin (k0_t2_loop i).trips) : BitVec 32 :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c2_i32 : BitVec 32 := 2#32
  let v153 : BitVec 32 := Scalar.subi v113 c2_i32
  let c3_i32_59 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v154 : BitVec 32 := Scalar.muli c3_i32_59 arg14
  let v155 : BitVec 32 := Scalar.subi v153 v154
  let c256_i32_61 : BitVec 32 := 256#32
  let v160 : BitVec 32 := Scalar.muli v155 c256_i32_61
  v160
def k0_off29 (i : grid0.Coords) (k0_t2 : Fin (k0_t2_loop i).trips) : Fin 3 → Nat :=
  let c0_62 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v148 : BitVec 32 := Scalar.muli c3_i32_56 arg14
  let v149 : BitVec 32 := Scalar.subi v113 v148
  let c256_i32 : BitVec 32 := 256#32
  let v156 : BitVec 32 := Scalar.muli v149 c256_i32
  let v157 : BitVec 32 := v156
  let v162 : Index := Scalar.indexCast v157
  let c0_63 : Index := 0#32
  ![0, v162.toNat, 0]
def k0_off30 (i : grid0.Coords) (k0_t2 : Fin (k0_t2_loop i).trips) (c1_i32_57 : BitVec 32) : Fin 3 → Nat :=
  let c0_64 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v151 : BitVec 32 := Scalar.muli c3_i32_58 arg14
  let v152 : BitVec 32 := Scalar.subi v150 v151
  let c256_i32_60 : BitVec 32 := 256#32
  let v158 : BitVec 32 := Scalar.muli v152 c256_i32_60
  let v159 : BitVec 32 := v158
  let v165 : Index := Scalar.indexCast v159
  let c0_65 : Index := 0#32
  ![0, v165.toNat, 0]
def k0_off31 (i : grid0.Coords) (k0_t2 : Fin (k0_t2_loop i).trips) : Fin 7 → Nat :=
  let c0_86 : Index := 0#32
  let c0_87 : Index := 0#32
  let c0_88 : Index := 0#32
  let c0_89 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v148 : BitVec 32 := Scalar.muli c3_i32_56 arg14
  let v149 : BitVec 32 := Scalar.subi v113 v148
  let v192 : Index := Scalar.indexCast v149
  let c0_90 : Index := 0#32
  let c0_91 : Index := 0#32
  ![0, 0, 0, 0, v192.toNat, 0, 0]
def k0_off32 (i : grid0.Coords) (k0_t2 : Fin (k0_t2_loop i).trips) : Fin 7 → Nat :=
  let c0_92 : Index := 0#32
  let c0_93 : Index := 0#32
  let c0_94 : Index := 0#32
  let c1 : Index := 1#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v148 : BitVec 32 := Scalar.muli c3_i32_56 arg14
  let v149 : BitVec 32 := Scalar.subi v113 v148
  let v195 : Index := Scalar.indexCast v149
  let c0_95 : Index := 0#32
  let c0_96 : Index := 0#32
  ![0, 0, 0, 1, v195.toNat, 0, 0]
def k0_off33 (i : grid0.Coords) (k0_t2 : Fin (k0_t2_loop i).trips) (c1_i32_57 : BitVec 32) : Fin 7 → Nat :=
  let c0_97 : Index := 0#32
  let c0_98 : Index := 0#32
  let c0_99 : Index := 0#32
  let c0_100 : Index := 0#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v151 : BitVec 32 := Scalar.muli c3_i32_58 arg14
  let v152 : BitVec 32 := Scalar.subi v150 v151
  let v198 : Index := Scalar.indexCast v152
  let c0_101 : Index := 0#32
  let c0_102 : Index := 0#32
  ![0, 0, 0, 0, v198.toNat, 0, 0]
def k0_off34 (i : grid0.Coords) (k0_t2 : Fin (k0_t2_loop i).trips) (c1_i32_57 : BitVec 32) : Fin 7 → Nat :=
  let c0_103 : Index := 0#32
  let c0_104 : Index := 0#32
  let c0_105 : Index := 0#32
  let c1_106 : Index := 1#32
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v151 : BitVec 32 := Scalar.muli c3_i32_58 arg14
  let v152 : BitVec 32 := Scalar.subi v150 v151
  let v201 : Index := Scalar.indexCast v152
  let c0_107 : Index := 0#32
  let c0_108 : Index := 0#32
  ![0, 0, 0, 1, v201.toNat, 0, 0]
def k0_off35 (i : grid0.Coords) (k0_t2 : Fin (k0_t2_loop i).trips) : Fin 2 → Nat :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let c3_i32_56 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v148 : BitVec 32 := Scalar.muli c3_i32_56 arg14
  let v149 : BitVec 32 := Scalar.subi v113 v148
  let c256_i32 : BitVec 32 := 256#32
  let v156 : BitVec 32 := Scalar.muli v149 c256_i32
  let v157 : BitVec 32 := v156
  let v438 : Index := Scalar.indexCast v157
  let c0_169 : Index := 0#32
  ![v438.toNat, 0]
def k0_off36 (i : grid0.Coords) (k0_t2 : Fin (k0_t2_loop i).trips) (c1_i32_57 : BitVec 32) : Fin 2 → Nat :=
  let arg2 : BitVec 32 := BitVec.ofNat 32 (i 2).val
  let c1_i32_34 : BitVec 32 := 1#32
  let v105 : BitVec 32 := Scalar.addi arg2 c1_i32_34
  let c3_i32 : BitVec 32 := 3#32
  let v106 : BitVec 32 := Scalar.remsi v105 c3_i32
  let c0_i32_35 : BitVec 32 := 0#32
  let v107 : BitVec 1 := Scalar.cmpi .eq v106 c0_i32_35
  let c3_i32_36 : BitVec 32 := 3#32
  let v108 : BitVec 32 := Scalar.select v107 c3_i32_36 v106
  let v113 : BitVec 32 := Scalar.subi arg2 v108
  let v150 : BitVec 32 := Scalar.subi v113 c1_i32_57
  let c3_i32_58 : BitVec 32 := 3#32
  let c0_i32_47 : BitVec 32 := 0#32
  let c1_i32_39 : BitVec 32 := 1#32
  let v114 : BitVec 32 := Scalar.addi v113 c1_i32_39
  let c0_i32_41 : BitVec 32 := 0#32
  let v116 : BitVec 1 := Scalar.cmpi .sgt v114 c0_i32_41
  let v117 : BitVec 32 := Scalar.extui v116
  let c0_i32_42 : BitVec 32 := 0#32
  let v118 : BitVec 1 := Scalar.cmpi .slt v114 c0_i32_42
  let v119 : BitVec 32 := Scalar.extui v118
  let v120 : BitVec 32 := Scalar.subi v117 v119
  let c3_i32_40 : BitVec 32 := 3#32
  let c0_i32_43 : BitVec 32 := 0#32
  let v121 : BitVec 1 := Scalar.cmpi .sgt c3_i32_40 c0_i32_43
  let v122 : BitVec 32 := Scalar.extui v121
  let c0_i32_44 : BitVec 32 := 0#32
  let v123 : BitVec 1 := Scalar.cmpi .slt c3_i32_40 c0_i32_44
  let v124 : BitVec 32 := Scalar.extui v123
  let v125 : BitVec 32 := Scalar.subi v122 v124
  let v126 : BitVec 1 := Scalar.cmpi .ne v120 v125
  let v127 : BitVec 32 := Scalar.remsi v114 c3_i32_40
  let c0_i32_45 : BitVec 32 := 0#32
  let v128 : BitVec 1 := Scalar.cmpi .ne v127 c0_i32_45
  let v129 : BitVec 1 := Scalar.andi v126 v128
  let v115 : BitVec 32 := Scalar.divsi v114 c3_i32_40
  let c1_i32_46 : BitVec 32 := 1#32
  let v130 : BitVec 32 := Scalar.subi v115 c1_i32_46
  let v131 : BitVec 32 := Scalar.select v129 v130 v115
  let v132 : BitVec 32 := Scalar.subi v131 c0_i32_47
  let c1_i32_48 : BitVec 32 := 1#32
  let v134 : BitVec 32 := Scalar.divsi v132 c1_i32_48
  let v135 : BitVec 32 := Scalar.muli v134 c1_i32_48
  let v136 : BitVec 32 := Scalar.addi c0_i32_47 v135
  let c1_i32_50 : BitVec 32 := 1#32
  let arg14 : BitVec 32 := Scf.iv v136 c1_i32_50 k0_t2
  let v151 : BitVec 32 := Scalar.muli c3_i32_58 arg14
  let v152 : BitVec 32 := Scalar.subi v150 v151
  let c256_i32_60 : BitVec 32 := 256#32
  let v158 : BitVec 32 := Scalar.muli v152 c256_i32_60
  let v159 : BitVec 32 := v158
  let v458 : Index := Scalar.indexCast v159
  let c0_177 : Index := 0#32
  ![v458.toNat, 0]
def k0_cond4 (i : grid0.Coords) : BitVec 1 :=
  let arg2 : BitVec 32 := BitVec.ofNat 32 (i 2).val
  let c7_i32 : BitVec 32 := 7#32
  let v145 : BitVec 1 := Scalar.cmpi .eq arg2 c7_i32
  let v146 : BitVec 32 := Scalar.extui v145
  let c0_i32_55 : BitVec 32 := 0#32
  let v147 : BitVec 1 := Scalar.cmpi .ne v146 c0_i32_55
  v147

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, arg2.toNat, v0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 7 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, arg1.toNat, arg2.toNat, c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x1x2x8x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2048x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S4x2048x4352 : Shape := ⟨3, ![4, 2048, 4352]⟩
abbrev S4x2048x512 : Shape := ⟨3, ![4, 2048, 512]⟩
abbrev S4x2048x8x64 : Shape := ⟨4, ![4, 2048, 8, 64]⟩
abbrev S4x8x2048x2048 : Shape := ⟨4, ![4, 8, 2048, 2048]⟩
abbrev S_ : Shape := ⟨0, ![]⟩
abbrev S2048x2048 : Shape := ⟨2, ![2048, 2048]⟩
abbrev S4x8x64x2048 : Shape := ⟨4, ![4, 8, 64, 2048]⟩
abbrev S4x8x2048x64 : Shape := ⟨4, ![4, 8, 2048, 64]⟩

abbrev nBuf : Space → Nat
  | .hbm => 174
  | .vmem => 0
  | .smem => 0
  | _ => 0

abbrev hbmTy0_0 (i : Nat) : BufTy := match i % 128 with
  | 0 => ⟨S4x2048x4352, .bf16⟩
  | 1 => ⟨S4x2048x512, .bf16⟩
  | 2 => ⟨S4x2048x512, .f32⟩
  | 3 => ⟨S4x2048x8x64, .f32⟩
  | 4 => ⟨S4x2048x4352, .f32⟩
  | 5 => ⟨S4x2048x512, .f32⟩
  | 6 => ⟨S4x2048x8x64, .f32⟩
  | 7 => ⟨S4x2048x512, .f32⟩
  | 8 => ⟨S4x2048x8x64, .f32⟩
  | 9 => ⟨S4x2048x512, .f32⟩
  | 10 => ⟨S4x2048x8x64, .f32⟩
  | 11 => ⟨S4x8x2048x2048, .f32⟩
  | 12 => ⟨S_, .f32⟩
  | 13 => ⟨S4x8x2048x2048, .f32⟩
  | 14 => ⟨S4x8x2048x2048, .f32⟩
  | 15 => ⟨S2048x2048, .i32⟩
  | 16 => ⟨S2048x2048, .i32⟩
  | 17 => ⟨S2048x2048, .i1⟩
  | 18 => ⟨S4x8x2048x2048, .f32⟩
  | 19 => ⟨S_, .f32⟩
  | 20 => ⟨S4x8x2048x2048, .f32⟩
  | 21 => ⟨S4x8x2048x2048, .f32⟩
  | 22 => ⟨S4x8x2048x2048, .f32⟩
  | 23 => ⟨S4x8x2048x2048, .f32⟩
  | 24 => ⟨S4x8x2048x2048, .i1⟩
  | 25 => ⟨S4x8x2048x2048, .f32⟩
  | 26 => ⟨S4x8x2048x2048, .f32⟩
  | 27 => ⟨S4x8x2048x2048, .f32⟩
  | 28 => ⟨S4x8x2048x2048, .f32⟩
  | 29 => ⟨S4x8x2048x2048, .f32⟩
  | 30 => ⟨S4x8x2048x2048, .f32⟩
  | 31 => ⟨S4x8x2048x2048, .f32⟩
  | 32 => ⟨S4x8x2048x2048, .f32⟩
  | 33 => ⟨S_, .f32⟩
  | 34 => ⟨S4x8x2048x2048, .f32⟩
  | 35 => ⟨S4x8x2048x2048, .i1⟩
  | 36 => ⟨S_, .f32⟩
  | 37 => ⟨S4x8x2048x2048, .f32⟩
  | 38 => ⟨S4x8x2048x2048, .f32⟩
  | 39 => ⟨S_, .f32⟩
  | 40 => ⟨S4x8x2048x2048, .f32⟩
  | 41 => ⟨S4x8x2048x2048, .i1⟩
  | 42 => ⟨S_, .f32⟩
  | 43 => ⟨S4x8x2048x2048, .f32⟩
  | 44 => ⟨S4x8x2048x2048, .f32⟩
  | 45 => ⟨S4x8x2048x2048, .f32⟩
  | 46 => ⟨S4x8x2048x2048, .f32⟩
  | 47 => ⟨S_, .f32⟩
  | 48 => ⟨S_, .f32⟩
  | 49 => ⟨S_, .i1⟩
  | 50 => ⟨S_, .f32⟩
  | 51 => ⟨S_, .f32⟩
  | 52 => ⟨S_, .f32⟩
  | 53 => ⟨S_, .f32⟩
  | 54 => ⟨S4x8x2048x2048, .f32⟩
  | 55 => ⟨S4x8x2048x2048, .i1⟩
  | 56 => ⟨S_, .f32⟩
  | 57 => ⟨S4x8x2048x2048, .f32⟩
  | 58 => ⟨S4x8x2048x2048, .f32⟩
  | 59 => ⟨S4x8x2048x2048, .f32⟩
  | 60 => ⟨S4x8x2048x2048, .f32⟩
  | 61 => ⟨S4x8x2048x2048, .f32⟩
  | 62 => ⟨S_, .f32⟩
  | 63 => ⟨S4x8x2048x2048, .f32⟩
  | 64 => ⟨S4x8x2048x2048, .f32⟩
  | 65 => ⟨S4x8x2048x2048, .f32⟩
  | 66 => ⟨S4x8x2048x2048, .f32⟩
  | 67 => ⟨S4x8x2048x2048, .f32⟩
  | 68 => ⟨S_, .f32⟩
  | 69 => ⟨S4x8x2048x2048, .f32⟩
  | 70 => ⟨S4x8x2048x2048, .f32⟩
  | 71 => ⟨S4x8x2048x2048, .f32⟩
  | 72 => ⟨S4x8x2048x2048, .f32⟩
  | 73 => ⟨S4x8x2048x2048, .i1⟩
  | 74 => ⟨S4x8x2048x2048, .f32⟩
  | 75 => ⟨S4x8x2048x2048, .f32⟩
  | 76 => ⟨S4x8x2048x2048, .f32⟩
  | 77 => ⟨S4x8x2048x2048, .f32⟩
  | 78 => ⟨S4x8x2048x2048, .f32⟩
  | 79 => ⟨S4x8x2048x2048, .f32⟩
  | 80 => ⟨S4x8x2048x2048, .f32⟩
  | 81 => ⟨S4x8x2048x2048, .f32⟩
  | 82 => ⟨S_, .f32⟩
  | 83 => ⟨S4x8x2048x2048, .f32⟩
  | 84 => ⟨S4x8x2048x2048, .i1⟩
  | 85 => ⟨S_, .f32⟩
  | 86 => ⟨S4x8x2048x2048, .f32⟩
  | 87 => ⟨S4x8x2048x2048, .f32⟩
  | 88 => ⟨S_, .f32⟩
  | 89 => ⟨S4x8x2048x2048, .f32⟩
  | 90 => ⟨S4x8x2048x2048, .i1⟩
  | 91 => ⟨S_, .f32⟩
  | 92 => ⟨S4x8x2048x2048, .f32⟩
  | 93 => ⟨S4x8x2048x2048, .f32⟩
  | 94 => ⟨S4x8x2048x2048, .f32⟩
  | 95 => ⟨S4x8x2048x2048, .f32⟩
  | 96 => ⟨S_, .f32⟩
  | 97 => ⟨S_, .f32⟩
  | 98 => ⟨S_, .i1⟩
  | 99 => ⟨S_, .f32⟩
  | 100 => ⟨S_, .f32⟩
  | 101 => ⟨S_, .f32⟩
  | 102 => ⟨S_, .f32⟩
  | 103 => ⟨S4x8x2048x2048, .f32⟩
  | 104 => ⟨S4x8x2048x2048, .i1⟩
  | 105 => ⟨S_, .f32⟩
  | 106 => ⟨S4x8x2048x2048, .f32⟩
  | 107 => ⟨S4x8x2048x2048, .f32⟩
  | 108 => ⟨S4x8x2048x2048, .f32⟩
  | 109 => ⟨S4x8x2048x2048, .f32⟩
  | 110 => ⟨S4x8x2048x2048, .f32⟩
  | 111 => ⟨S_, .f32⟩
  | 112 => ⟨S4x8x2048x2048, .f32⟩
  | 113 => ⟨S4x8x2048x2048, .f32⟩
  | 114 => ⟨S4x8x2048x2048, .f32⟩
  | 115 => ⟨S_, .f32⟩
  | 116 => ⟨S_, .f32⟩
  | 117 => ⟨S4x8x2048x2048, .i1⟩
  | 118 => ⟨S4x8x2048x2048, .f32⟩
  | 119 => ⟨S4x8x2048x2048, .f32⟩
  | 120 => ⟨S_, .f32⟩
  | 121 => ⟨S4x8x2048x2048, .f32⟩
  | 122 => ⟨S_, .f32⟩
  | 123 => ⟨S_, .f32⟩
  | 124 => ⟨S4x8x2048x2048, .f32⟩
  | 125 => ⟨S4x8x2048x2048, .f32⟩
  | 126 => ⟨S4x8x2048x2048, .f32⟩
  | 127 => ⟨S4x8x2048x2048, .f32⟩
  | _ => ⟨S4x2048x4352, .bf16⟩

abbrev hbmTy0_1 (i : Nat) : BufTy := match i % 128 with
  | 0 => ⟨S_, .f32⟩
  | 1 => ⟨S_, .f32⟩
  | 2 => ⟨S4x8x2048x2048, .i1⟩
  | 3 => ⟨S4x8x2048x2048, .f32⟩
  | 4 => ⟨S4x8x2048x2048, .f32⟩
  | 5 => ⟨S_, .f32⟩
  | 6 => ⟨S4x8x2048x2048, .f32⟩
  | 7 => ⟨S4x8x64x2048, .f32⟩
  | 8 => ⟨S4x2048x8x64, .f32⟩
  | 9 => ⟨S4x8x64x2048, .f32⟩
  | 10 => ⟨S4x8x2048x2048, .f32⟩
  | 11 => ⟨S4x8x64x2048, .f32⟩
  | 12 => ⟨S4x2048x8x64, .f32⟩
  | 13 => ⟨S_, .f32⟩
  | 14 => ⟨S4x8x2048x2048, .f32⟩
  | 15 => ⟨S4x8x2048x2048, .f32⟩
  | 16 => ⟨S4x8x2048x2048, .f32⟩
  | 17 => ⟨S4x8x2048x2048, .f32⟩
  | 18 => ⟨S_, .f32⟩
  | 19 => ⟨S_, .f32⟩
  | 20 => ⟨S4x8x2048x2048, .f32⟩
  | 21 => ⟨S4x8x2048x2048, .f32⟩
  | 22 => ⟨S_, .f32⟩
  | 23 => ⟨S4x8x2048x2048, .f32⟩
  | 24 => ⟨S4x8x2048x2048, .f32⟩
  | 25 => ⟨S4x8x2048x2048, .f32⟩
  | 26 => ⟨S4x8x2048x2048, .f32⟩
  | 27 => ⟨S4x8x2048x2048, .f32⟩
  | 28 => ⟨S4x8x2048x2048, .f32⟩
  | 29 => ⟨S4x8x2048x2048, .f32⟩
  | 30 => ⟨S4x8x2048x2048, .f32⟩
  | 31 => ⟨S4x8x2048x2048, .f32⟩
  | 32 => ⟨S4x8x2048x2048, .f32⟩
  | 33 => ⟨S_, .f32⟩
  | 34 => ⟨S4x8x2048x2048, .f32⟩
  | 35 => ⟨S4x8x2048x2048, .f32⟩
  | 36 => ⟨S4x8x2048x64, .f32⟩
  | 37 => ⟨S4x2048x8x64, .f32⟩
  | 38 => ⟨S4x8x2048x64, .f32⟩
  | 39 => ⟨S4x2048x8x64, .f32⟩
  | 40 => ⟨S4x2048x8x64, .bf16⟩
  | 41 => ⟨S4x2048x512, .bf16⟩
  | 42 => ⟨S4x2048x8x64, .bf16⟩
  | 43 => ⟨S4x2048x512, .bf16⟩
  | 44 => ⟨S4x2048x8x64, .bf16⟩
  | 45 => ⟨S4x2048x512, .bf16⟩
  | _ => ⟨S4x2048x4352, .bf16⟩

abbrev hbmTy (i : Nat) : BufTy := match i / 128 with
  | 0 => hbmTy0_0 i
  | 1 => hbmTy0_1 i
  | _ => ⟨S4x2048x4352, .bf16⟩

abbrev bufTy : (tb : Table) → Fin (tcTables nBuf tb) → BufTy
  | .hbm, ⟨i, _⟩ => hbmTy i
  | _, _ => ⟨S4x2048x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1_0 : Ref sig .tc := ⟨.hbm, 32, rfl⟩
abbrev main_call0_call0_cst_0 : Ref sig .tc := ⟨.hbm, 33, rfl⟩
abbrev main_call0_call0_v13 : Ref sig .tc := ⟨.hbm, 34, rfl⟩
abbrev main_call0_call0_v14 : Ref sig .tc := ⟨.hbm, 35, rfl⟩
abbrev main_call0_call0_cst_1 : Ref sig .tc := ⟨.hbm, 36, rfl⟩
abbrev main_call0_call0_v15 : Ref sig .tc := ⟨.hbm, 37, rfl⟩
abbrev main_call0_call0_v16 : Ref sig .tc := ⟨.hbm, 38, rfl⟩
abbrev main_call0_call0_cst_2 : Ref sig .tc := ⟨.hbm, 39, rfl⟩
abbrev main_call0_call0_v17 : Ref sig .tc := ⟨.hbm, 40, rfl⟩
abbrev main_call0_call0_v18 : Ref sig .tc := ⟨.hbm, 41, rfl⟩
abbrev main_call0_call0_cst_3 : Ref sig .tc := ⟨.hbm, 42, rfl⟩
abbrev main_call0_call0_v19 : Ref sig .tc := ⟨.hbm, 43, rfl⟩
abbrev main_call0_call0_v20 : Ref sig .tc := ⟨.hbm, 44, rfl⟩
abbrev main_call0_call0_v21 : Ref sig .tc := ⟨.hbm, 45, rfl⟩
abbrev main_v15_1 : Ref sig .tc := ⟨.hbm, 46, rfl⟩
abbrev main_call0_call0_cst_4 : Ref sig .tc := ⟨.hbm, 47, rfl⟩
abbrev main_call0_call0_cst_5 : Ref sig .tc := ⟨.hbm, 48, rfl⟩
abbrev main_call0_call0_v23 : Ref sig .tc := ⟨.hbm, 49, rfl⟩
abbrev main_call0_call0_cst_6 : Ref sig .tc := ⟨.hbm, 50, rfl⟩
abbrev main_call0_call0_cst_7 : Ref sig .tc := ⟨.hbm, 51, rfl⟩
abbrev main_call0_call0_v24 : Ref sig .tc := ⟨.hbm, 52, rfl⟩
abbrev main_call0_call0_cst_8 : Ref sig .tc := ⟨.hbm, 53, rfl⟩
abbrev main_call0_call0_v25 : Ref sig .tc := ⟨.hbm, 54, rfl⟩
abbrev main_call0_call0_v26 : Ref sig .tc := ⟨.hbm, 55, rfl⟩
abbrev main_call0_call0_cst_9 : Ref sig .tc := ⟨.hbm, 56, rfl⟩
abbrev main_call0_call0_v27 : Ref sig .tc := ⟨.hbm, 57, rfl⟩
abbrev main_call0_call0_v28 : Ref sig .tc := ⟨.hbm, 58, rfl⟩
abbrev main_call0_call0_v29 : Ref sig .tc := ⟨.hbm, 59, rfl⟩
abbrev main_call0_call0_v30 : Ref sig .tc := ⟨.hbm, 60, rfl⟩
abbrev main_call0_call0_v31 : Ref sig .tc := ⟨.hbm, 61, rfl⟩
abbrev main_call0_call0_cst_10 : Ref sig .tc := ⟨.hbm, 62, rfl⟩
abbrev main_call0_call0_v32 : Ref sig .tc := ⟨.hbm, 63, rfl⟩
abbrev main_v15_2 : Ref sig .tc := ⟨.hbm, 64, rfl⟩
abbrev main_v15_0 : Ref sig .tc := ⟨.hbm, 65, rfl⟩
abbrev main_v16 : Ref sig .tc := ⟨.hbm, 66, rfl⟩
abbrev main_call1_v0 : Ref sig .tc := ⟨.hbm, 67, rfl⟩
abbrev main_call1_call0_cst : Ref sig .tc := ⟨.hbm, 68, rfl⟩
abbrev main_call1_call0_v0 : Ref sig .tc := ⟨.hbm, 69, rfl⟩
abbrev main_call1_call0_v1 : Ref sig .tc := ⟨.hbm, 70, rfl⟩
abbrev main_call1_call0_v2 : Ref sig .tc := ⟨.hbm, 71, rfl⟩
abbrev main_call1_call0_v3 : Ref sig .tc := ⟨.hbm, 72, rfl⟩
abbrev main_call1_call0_v4 : Ref sig .tc := ⟨.hbm, 73, rfl⟩
abbrev main_call1_call0_v5 : Ref sig .tc := ⟨.hbm, 74, rfl⟩
abbrev main_call1_call0_v6 : Ref sig .tc := ⟨.hbm, 75, rfl⟩
abbrev main_call1_call0_v7 : Ref sig .tc := ⟨.hbm, 76, rfl⟩
abbrev main_call1_call0_v8 : Ref sig .tc := ⟨.hbm, 77, rfl⟩
abbrev main_call1_call0_v9 : Ref sig .tc := ⟨.hbm, 78, rfl⟩
abbrev main_call1_call0_v10 : Ref sig .tc := ⟨.hbm, 79, rfl⟩
abbrev main_call1_call0_v11 : Ref sig .tc := ⟨.hbm, 80, rfl⟩
abbrev main_call1_v1_0 : Ref sig .tc := ⟨.hbm, 81, rfl⟩
abbrev main_call1_call0_cst_0 : Ref sig .tc := ⟨.hbm, 82, rfl⟩
abbrev main_call1_call0_v13 : Ref sig .tc := ⟨.hbm, 83, rfl⟩
abbrev main_call1_call0_v14 : Ref sig .tc := ⟨.hbm, 84, rfl⟩
abbrev main_call1_call0_cst_1 : Ref sig .tc := ⟨.hbm, 85, rfl⟩
abbrev main_call1_call0_v15 : Ref sig .tc := ⟨.hbm, 86, rfl⟩
abbrev main_call1_call0_v16 : Ref sig .tc := ⟨.hbm, 87, rfl⟩
abbrev main_call1_call0_cst_2 : Ref sig .tc := ⟨.hbm, 88, rfl⟩
abbrev main_call1_call0_v17 : Ref sig .tc := ⟨.hbm, 89, rfl⟩
abbrev main_call1_call0_v18 : Ref sig .tc := ⟨.hbm, 90, rfl⟩
abbrev main_call1_call0_cst_3 : Ref sig .tc := ⟨.hbm, 91, rfl⟩
abbrev main_call1_call0_v19 : Ref sig .tc := ⟨.hbm, 92, rfl⟩
abbrev main_call1_call0_v20 : Ref sig .tc := ⟨.hbm, 93, rfl⟩
abbrev main_call1_call0_v21 : Ref sig .tc := ⟨.hbm, 94, rfl⟩
abbrev main_v17_1 : Ref sig .tc := ⟨.hbm, 95, rfl⟩
abbrev main_call1_call0_cst_4 : Ref sig .tc := ⟨.hbm, 96, rfl⟩
abbrev main_call1_call0_cst_5 : Ref sig .tc := ⟨.hbm, 97, rfl⟩
abbrev main_call1_call0_v23 : Ref sig .tc := ⟨.hbm, 98, rfl⟩
abbrev main_call1_call0_cst_6 : Ref sig .tc := ⟨.hbm, 99, rfl⟩
abbrev main_call1_call0_cst_7 : Ref sig .tc := ⟨.hbm, 100, rfl⟩
abbrev main_call1_call0_v24 : Ref sig .tc := ⟨.hbm, 101, rfl⟩
abbrev main_call1_call0_cst_8 : Ref sig .tc := ⟨.hbm, 102, rfl⟩
abbrev main_call1_call0_v25 : Ref sig .tc := ⟨.hbm, 103, rfl⟩
abbrev main_call1_call0_v26 : Ref sig .tc := ⟨.hbm, 104, rfl⟩
abbrev main_call1_call0_cst_9 : Ref sig .tc := ⟨.hbm, 105, rfl⟩
abbrev main_call1_call0_v27 : Ref sig .tc := ⟨.hbm, 106, rfl⟩
abbrev main_call1_call0_v28 : Ref sig .tc := ⟨.hbm, 107, rfl⟩
abbrev main_call1_call0_v29 : Ref sig .tc := ⟨.hbm, 108, rfl⟩
abbrev main_call1_call0_v30 : Ref sig .tc := ⟨.hbm, 109, rfl⟩
abbrev main_call1_call0_v31 : Ref sig .tc := ⟨.hbm, 110, rfl⟩
abbrev main_call1_call0_cst_10 : Ref sig .tc := ⟨.hbm, 111, rfl⟩
abbrev main_call1_call0_v32 : Ref sig .tc := ⟨.hbm, 112, rfl⟩
abbrev main_v17_2 : Ref sig .tc := ⟨.hbm, 113, rfl⟩
abbrev main_v17_0 : Ref sig .tc := ⟨.hbm, 114, rfl⟩
abbrev main_cst_0 : Ref sig .tc := ⟨.hbm, 115, rfl⟩
abbrev main_call2_v0 : Ref sig .tc := ⟨.hbm, 116, rfl⟩
abbrev main_v18_1 : Ref sig .tc := ⟨.hbm, 117, rfl⟩
abbrev main_call2_v2 : Ref sig .tc := ⟨.hbm, 118, rfl⟩
abbrev main_v18_0 : Ref sig .tc := ⟨.hbm, 119, rfl⟩
abbrev main_call2_cst : Ref sig .tc := ⟨.hbm, 120, rfl⟩
abbrev main_v18_2 : Ref sig .tc := ⟨.hbm, 121, rfl⟩
abbrev main_call3_cst : Ref sig .tc := ⟨.hbm, 122, rfl⟩
abbrev main_call3_v0 : Ref sig .tc := ⟨.hbm, 123, rfl⟩
abbrev main_v19 : Ref sig .tc := ⟨.hbm, 124, rfl⟩
abbrev main_v20 : Ref sig .tc := ⟨.hbm, 125, rfl⟩
abbrev main_v21 : Ref sig .tc := ⟨.hbm, 126, rfl⟩
abbrev main_v22 : Ref sig .tc := ⟨.hbm, 127, rfl⟩
abbrev main_cst_1 : Ref sig .tc := ⟨.hbm, 128, rfl⟩
abbrev main_call4_v0 : Ref sig .tc := ⟨.hbm, 129, rfl⟩
abbrev main_v23_1 : Ref sig .tc := ⟨.hbm, 130, rfl⟩
abbrev main_call4_v2 : Ref sig .tc := ⟨.hbm, 131, rfl⟩
abbrev main_v23_0 : Ref sig .tc := ⟨.hbm, 132, rfl⟩
abbrev main_call4_cst : Ref sig .tc := ⟨.hbm, 133, rfl⟩
abbrev main_v23_2 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_v28 : Ref sig .tc := ⟨.hbm, 139, rfl⟩
abbrev main_v29 : Ref sig .tc := ⟨.hbm, 140, rfl⟩
abbrev main_call5_cst : Ref sig .tc := ⟨.hbm, 141, rfl⟩
abbrev main_call5_v0 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call6_cst : Ref sig .tc := ⟨.hbm, 146, rfl⟩
abbrev main_call6_v0 : Ref sig .tc := ⟨.hbm, 147, rfl⟩
abbrev main_v33 : Ref sig .tc := ⟨.hbm, 148, rfl⟩
abbrev main_v34 : Ref sig .tc := ⟨.hbm, 149, rfl⟩
abbrev main_call7_cst : Ref sig .tc := ⟨.hbm, 150, rfl⟩
abbrev main_call7_v0 : Ref sig .tc := ⟨.hbm, 151, rfl⟩
abbrev main_v35 : Ref sig .tc := ⟨.hbm, 152, rfl⟩
abbrev main_call8_v0 : Ref sig .tc := ⟨.hbm, 153, rfl⟩
abbrev main_call8_v1 : Ref sig .tc := ⟨.hbm, 154, rfl⟩
abbrev main_v36 : Ref sig .tc := ⟨.hbm, 155, rfl⟩
abbrev main_v37 : Ref sig .tc := ⟨.hbm, 156, rfl⟩
abbrev main_call9_v0 : Ref sig .tc := ⟨.hbm, 157, rfl⟩
abbrev main_call9_v1 : Ref sig .tc := ⟨.hbm, 158, rfl⟩
abbrev main_v38 : Ref sig .tc := ⟨.hbm, 159, rfl⟩
abbrev main_v39 : Ref sig .tc := ⟨.hbm, 160, rfl⟩
abbrev main_cst_2 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩

abbrev nD : Nat := 1
abbrev τ : Topo := Topo.v7x

variable {F : FTy → Type} [FloatOps F]
-- ==== Kernel2.lean ====
abbrev S4x2048x4352 : Shape := ⟨3, ![4, 2048, 4352]⟩
abbrev S4x256x1024 : Shape := ⟨3, ![4, 256, 1024]⟩
abbrev S4x2048x512 : Shape := ⟨3, ![4, 2048, 512]⟩
abbrev S1x512x128 : Shape := ⟨3, ![1, 512, 128]⟩
abbrev S1x256x1024 : Shape := ⟨3, ![1, 256, 1024]⟩
abbrev S1x512x512 : Shape := ⟨3, ![1, 512, 512]⟩
abbrev S256x1024 : Shape := ⟨2, ![256, 1024]⟩
abbrev S512x128 : Shape := ⟨2, ![512, 128]⟩
abbrev S1x256x128 : Shape := ⟨3, ![1, 256, 128]⟩
abbrev S256x128 : Shape := ⟨2, ![256, 128]⟩
abbrev S512x256 : Shape := ⟨2, ![512, 256]⟩
abbrev S512 : Shape := ⟨1, ![512]⟩
abbrev S512x1 : Shape := ⟨2, ![512, 1]⟩

abbrev nBuf : Space → Nat
  | .hbm => 5
  | .vmem => 16
  | .smem => 0
  | _ => 0

abbrev bufTy : (tb : Table) → Fin (tcTables nBuf tb) → BufTy
  | .hbm, ⟨0, _⟩ => ⟨S4x2048x4352, .bf16⟩
  | .hbm, ⟨1, _⟩ => ⟨S4x256x1024, .bf16⟩
  | .hbm, ⟨2, _⟩ => ⟨S4x2048x512, .bf16⟩
  | .hbm, ⟨3, _⟩ => ⟨S4x2048x512, .bf16⟩
  | .hbm, ⟨4, _⟩ => ⟨S4x256x1024, .f32⟩
  | .local _ .vmem, ⟨0, _⟩ => ⟨S1x512x128, .bf16⟩
  | .local _ .vmem, ⟨1, _⟩ => ⟨S1x512x128, .bf16⟩
  | .local _ .vmem, ⟨2, _⟩ => ⟨S1x512x128, .bf16⟩
  | .local _ .vmem, ⟨3, _⟩ => ⟨S1x512x128, .bf16⟩
  | .local _ .vmem, ⟨4, _⟩ => ⟨S1x512x128, .bf16⟩
  | .local _ .vmem, ⟨5, _⟩ => ⟨S1x512x128, .bf16⟩
  | .local _ .vmem, ⟨6, _⟩ => ⟨S1x512x128, .bf16⟩
  | .local _ .vmem, ⟨7, _⟩ => ⟨S1x512x128, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x512x512, .bf16⟩
  | .local _ .vmem, ⟨11, _⟩ => ⟨S1x512x512, .bf16⟩
  | .local _ .vmem, ⟨12, _⟩ => ⟨S1x512x512, .bf16⟩
  | .local _ .vmem, ⟨13, _⟩ => ⟨S1x512x512, .bf16⟩
  | .local _ .vmem, ⟨14, _⟩ => ⟨S1x256x1024, .f32⟩
  | .local _ .vmem, ⟨15, _⟩ => ⟨S1x256x1024, .f32⟩
  | _, _ => ⟨S4x2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c30_i32 : BitVec 32 := 30#32
  let c0_i32 : BitVec 32 := 0#32
  ![arg0.toNat, arg1.toNat, c30_i32.toNat]

def cc0_transform_1 (i : grid0.Coords) : Fin 3 → Nat :=
  let arg0 : BitVec 32 := BitVec.ofNat 32 (i 0).val
  let arg1 : BitVec 32 := BitVec.ofNat 32 (i 1).val
  let c31_i32 : BitVec 32 := 31#32
  let c0_i32 : BitVec 32 := 0#32
  ![arg0.toNat, arg1.toNat, c31_i32.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let c0_i32 : BitVec 32 := 0#32
  ![arg0.toNat, arg1.toNat, c32_i32.toNat]

def cc0_transform_3 (i : grid0.Coords) : Fin 3 → Nat :=
  let arg0 : BitVec 32 := BitVec.ofNat 32 (i 0).val
  let arg1 : BitVec 32 := BitVec.ofNat 32 (i 1).val
  let c33_i32 : BitVec 32 := 33#32
  let c0_i32 : BitVec 32 := 0#32
  ![arg0.toNat, arg1.toNat, c33_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S4x2048x4352 : Shape := ⟨3, ![4, 2048, 4352]⟩
abbrev S4x256x1024 : Shape := ⟨3, ![4, 256, 1024]⟩
abbrev S4x2048x512 : Shape := ⟨3, ![4, 2048, 512]⟩
abbrev S4x2048x4x128 : Shape := ⟨4, ![4, 2048, 4, 128]⟩
abbrev S4x256x512 : Shape := ⟨3, ![4, 256, 512]⟩
abbrev S4x256x4x128 : Shape := ⟨4, ![4, 256, 4, 128]⟩
abbrev S4x4x2048x256 : Shape := ⟨4, ![4, 4, 2048, 256]⟩
abbrev S_ : Shape := ⟨0, ![]⟩
abbrev S4x4x2048 : Shape := ⟨3, ![4, 4, 2048]⟩
abbrev S4x4x2048x1 : Shape := ⟨4, ![4, 4, 2048, 1]⟩
abbrev S4x4x128x2048 : Shape := ⟨4, ![4, 4, 128, 2048]⟩
abbrev S4x4x128x256 : Shape := ⟨4, ![4, 4, 128, 256]⟩
abbrev S4x4x256x128 : Shape := ⟨4, ![4, 4, 256, 128]⟩
abbrev S4x4x2048x128 : Shape := ⟨4, ![4, 4, 2048, 128]⟩

abbrev nBuf : Space → Nat
  | .hbm => 87
  | .vmem => 0
  | .smem => 0
  | _ => 0

abbrev bufTy : (tb : Table) → Fin (tcTables nBuf tb) → BufTy
  | .hbm, ⟨0, _⟩ => ⟨S4x2048x4352, .bf16⟩
  | .hbm, ⟨1, _⟩ => ⟨S4x256x1024, .bf16⟩
  | .hbm, ⟨2, _⟩ => ⟨S4x2048x512, .bf16⟩
  | .hbm, ⟨3, _⟩ => ⟨S4x2048x512, .bf16⟩
  | .hbm, ⟨4, _⟩ => ⟨S4x2048x512, .f32⟩
  | .hbm, ⟨5, _⟩ => ⟨S4x2048x4x128, .f32⟩
  | .hbm, ⟨6, _⟩ => ⟨S4x256x1024, .f32⟩
  | .hbm, ⟨7, _⟩ => ⟨S4x256x512, .f32⟩
  | .hbm, ⟨8, _⟩ => ⟨S4x256x4x128, .f32⟩
  | .hbm, ⟨9, _⟩ => ⟨S4x256x512, .f32⟩
  | .hbm, ⟨10, _⟩ => ⟨S4x256x4x128, .f32⟩
  | .hbm, ⟨11, _⟩ => ⟨S4x2048x512, .f32⟩
  | .hbm, ⟨12, _⟩ => ⟨S4x2048x4x128, .f32⟩
  | .hbm, ⟨13, _⟩ => ⟨S4x4x2048x256, .f32⟩
  | .hbm, ⟨14, _⟩ => ⟨S_, .f32⟩
  | .hbm, ⟨15, _⟩ => ⟨S4x4x2048x256, .f32⟩
  | .hbm, ⟨16, _⟩ => ⟨S4x4x2048x256, .f32⟩
  | .hbm, ⟨17, _⟩ => ⟨S_, .f32⟩
  | .hbm, ⟨18, _⟩ => ⟨S4x4x2048, .f32⟩
  | .hbm, ⟨19, _⟩ => ⟨S4x4x2048x1, .f32⟩
  | .hbm, ⟨20, _⟩ => ⟨S4x4x2048x256, .f32⟩
  | .hbm, ⟨21, _⟩ => ⟨S4x4x2048x256, .i1⟩
  | .hbm, ⟨22, _⟩ => ⟨S4x4x2048x256, .f32⟩
  | .hbm, ⟨23, _⟩ => ⟨S_, .f32⟩
  | .hbm, ⟨24, _⟩ => ⟨S4x4x2048, .f32⟩
  | .hbm, ⟨25, _⟩ => ⟨S_, .f32⟩
  | .hbm, ⟨26, _⟩ => ⟨S4x4x2048, .f32⟩
  | .hbm, ⟨27, _⟩ => ⟨S4x4x2048, .f32⟩
  | .hbm, ⟨28, _⟩ => ⟨S_, .f32⟩
  | .hbm, ⟨29, _⟩ => ⟨S4x4x2048, .f32⟩
  | .hbm, ⟨30, _⟩ => ⟨S4x4x2048, .i1⟩
  | .hbm, ⟨31, _⟩ => ⟨S_, .f32⟩
  | .hbm, ⟨32, _⟩ => ⟨S4x4x2048, .f32⟩
  | .hbm, ⟨33, _⟩ => ⟨S4x4x2048, .i1⟩
  | .hbm, ⟨34, _⟩ => ⟨S_, .f32⟩
  | .hbm, ⟨35, _⟩ => ⟨S4x4x2048, .f32⟩
  | .hbm, ⟨36, _⟩ => ⟨S_, .f32⟩
  | .hbm, ⟨37, _⟩ => ⟨S4x4x2048, .f32⟩
  | .hbm, ⟨38, _⟩ => ⟨S_, .f32⟩
  | .hbm, ⟨39, _⟩ => ⟨S4x4x2048, .f32⟩
  | .hbm, ⟨40, _⟩ => ⟨S4x4x2048, .f32⟩
  | .hbm, ⟨41, _⟩ => ⟨S4x4x2048, .f32⟩
  | .hbm, ⟨42, _⟩ => ⟨S4x4x2048x1, .f32⟩
  | .hbm, ⟨43, _⟩ => ⟨S4x4x2048x256, .f32⟩
  | .hbm, ⟨44, _⟩ => ⟨S4x4x2048x256, .f32⟩
  | .hbm, ⟨45, _⟩ => ⟨S4x4x2048x256, .f32⟩
  | .hbm, ⟨46, _⟩ => ⟨S_, .f32⟩
  | .hbm, ⟨47, _⟩ => ⟨S4x4x2048, .f32⟩
  | .hbm, ⟨48, _⟩ => ⟨S4x4x2048x1, .f32⟩
  | .hbm, ⟨49, _⟩ => ⟨S4x4x2048x256, .f32⟩
  | .hbm, ⟨50, _⟩ => ⟨S4x4x2048x256, .f32⟩
  | .hbm, ⟨51, _⟩ => ⟨S4x4x2048x1, .f32⟩
  | .hbm, ⟨52, _⟩ => ⟨S_, .f32⟩
  | .hbm, ⟨53, _⟩ => ⟨S4x4x2048x1, .f32⟩
  | .hbm, ⟨54, _⟩ => ⟨S4x4x2048x1, .f32⟩
  | .hbm, ⟨55, _⟩ => ⟨S4x4x128x2048, .f32⟩
  | .hbm, ⟨56, _⟩ => ⟨S4x2048x4x128, .f32⟩
  | .hbm, ⟨57, _⟩ => ⟨S4x4x128x2048, .f32⟩
  | .hbm, ⟨58, _⟩ => ⟨S4x4x2048x256, .f32⟩
  | .hbm, ⟨59, _⟩ => ⟨S4x4x128x256, .f32⟩
  | .hbm, ⟨60, _⟩ => ⟨S4x256x4x128, .f32⟩
  | .hbm, ⟨61, _⟩ => ⟨S4x4x2048x256, .f32⟩
  | .hbm, ⟨62, _⟩ => ⟨S4x4x2048x256, .f32⟩
  | .hbm, ⟨63, _⟩ => ⟨S4x4x2048x256, .f32⟩
  | .hbm, ⟨64, _⟩ => ⟨S_, .f32⟩
  | .hbm, ⟨65, _⟩ => ⟨S4x4x2048, .f32⟩
  | .hbm, ⟨66, _⟩ => ⟨S4x4x2048x1, .f32⟩
  | .hbm, ⟨67, _⟩ => ⟨S4x4x2048x1, .f32⟩
  | .hbm, ⟨68, _⟩ => ⟨S4x4x2048x256, .f32⟩
  | .hbm, ⟨69, _⟩ => ⟨S4x4x2048x256, .f32⟩
  | .hbm, ⟨70, _⟩ => ⟨S_, .f32⟩
  | .hbm, ⟨71, _⟩ => ⟨S4x4x2048, .f32⟩
  | .hbm, ⟨72, _⟩ => ⟨S4x4x2048x256, .f32⟩
  | .hbm, ⟨73, _⟩ => ⟨S4x4x2048x256, .f32⟩
  | .hbm, ⟨74, _⟩ => ⟨S4x4x2048x256, .f32⟩
  | .hbm, ⟨75, _⟩ => ⟨S_, .f32⟩
  | .hbm, ⟨76, _⟩ => ⟨S4x4x2048x256, .f32⟩
  | .hbm, ⟨77, _⟩ => ⟨S4x4x2048x256, .f32⟩
  | .hbm, ⟨78, _⟩ => ⟨S4x4x256x128, .f32⟩
  | .hbm, ⟨79, _⟩ => ⟨S4x256x4x128, .f32⟩
  | .hbm, ⟨80, _⟩ => ⟨S4x4x2048x128, .f32⟩
  | .hbm, ⟨81, _⟩ => ⟨S4x2048x4x128, .f32⟩
  | .hbm, ⟨82, _⟩ => ⟨S4x256x512, .f32⟩
  | .hbm, ⟨83, _⟩ => ⟨S4x256x512, .f32⟩
  | .hbm, ⟨84, _⟩ => ⟨S4x256x1024, .f32⟩
  | .hbm, ⟨85, _⟩ => ⟨S4x2048x512, .f32⟩
  | .hbm, ⟨86, _⟩ => ⟨S4x2048x512, .bf16⟩
  | _, _ => ⟨S4x2048x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_cst_2 : Ref sig .tc := ⟨.hbm, 25, rfl⟩
abbrev main_v19 : Ref sig .tc := ⟨.hbm, 26, rfl⟩
abbrev main_v20 : Ref sig .tc := ⟨.hbm, 27, rfl⟩
abbrev main_cst_3 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_cst_6 : Ref sig .tc := ⟨.hbm, 36, rfl⟩
abbrev main_v26 : Ref sig .tc := ⟨.hbm, 37, rfl⟩
abbrev main_cst_7 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_8 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_cst_9 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_cst_10 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_cst_11 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_cst_12 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩

abbrev nD : Nat := 1
abbrev τ : Topo := Topo.v7x

variable {F : FTy → Type} [FloatOps F]
-- ==== Kernel3.lean ====
abbrev S8192x2816 : Shape := ⟨2, ![8192, 2816]⟩
abbrev S4x1024x1408 : Shape := ⟨3, ![4, 1024, 1408]⟩
abbrev S8192x1024 : Shape := ⟨2, ![8192, 1024]⟩
abbrev S512x1408 : Shape := ⟨2, ![512, 1408]⟩
abbrev S1x1024x1408 : Shape := ⟨3, ![1, 1024, 1408]⟩
abbrev S512x1024 : Shape := ⟨2, ![512, 1024]⟩
abbrev S1024x1408 : Shape := ⟨2, ![1024, 1408]⟩

abbrev nBuf : Space → Nat
  | .hbm => 4
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .bf16⟩
  | .hbm, ⟨3, _⟩ => ⟨S8192x1024, .bf16⟩
  | .local _ .vmem, ⟨0, _⟩ => ⟨S512x1408, .bf16⟩
  | .local _ .vmem, ⟨1, _⟩ => ⟨S512x1408, .bf16⟩
  | .local _ .vmem, ⟨2, _⟩ => ⟨S1x1024x1408, .bf16⟩
  | .local _ .vmem, ⟨3, _⟩ => ⟨S512x1408, .bf16⟩
  | .local _ .vmem, ⟨4, _⟩ => ⟨S512x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S1x1024x1408, .bf16⟩
  | .local _ .vmem, ⟨9, _⟩ => ⟨S512x1408, .bf16⟩
  | .local _ .vmem, ⟨10, _⟩ => ⟨S512x1408, .bf16⟩
  | .local _ .vmem, ⟨11, _⟩ => ⟨S1x1024x1408, .bf16⟩
  | .local _ .vmem, ⟨12, _⟩ => ⟨S512x1024, .bf16⟩
  | .local _ .vmem, ⟨13, _⟩ => ⟨S512x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x1408 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024x1408 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024x1408 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S8192x2816 : Shape := ⟨2, ![8192, 2816]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩
abbrev S_ : Shape := ⟨0, ![]⟩
abbrev S8192x1024 : Shape := ⟨2, ![8192, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S4x1024x1408, .bf16⟩
  | .hbm, ⟨3, _⟩ => ⟨S1x1024x1408, .bf16⟩
  | .hbm, ⟨4, _⟩ => ⟨S1024x1408, .bf16⟩
  | .hbm, ⟨5, _⟩ => ⟨S1x1024x1408, .bf16⟩
  | .hbm, ⟨6, _⟩ => ⟨S1024x1408, .bf16⟩
  | .hbm, ⟨7, _⟩ => ⟨S1x1024x1408, .bf16⟩
  | .hbm, ⟨8, _⟩ => ⟨S1024x1408, .bf16⟩
  | .hbm, ⟨9, _⟩ => ⟨S1x1024x1408, .bf16⟩
  | .hbm, ⟨10, _⟩ => ⟨S1024x1408, .bf16⟩
  | .hbm, ⟨11, _⟩ => ⟨S1024x5632, .bf16⟩
  | .hbm, ⟨12, _⟩ => ⟨S1024x5632, .f32⟩
  | .hbm, ⟨13, _⟩ => ⟨S8192x5632, .bf16⟩
  | .hbm, ⟨14, _⟩ => ⟨S8192x5632, .f32⟩
  | .hbm, ⟨15, _⟩ => ⟨S_, .f32⟩
  | .hbm, ⟨16, _⟩ => ⟨S8192x1024, .f32⟩
  | .hbm, ⟨17, _⟩ => ⟨S8192x5632, .f32⟩
  | .hbm, ⟨18, _⟩ => ⟨S8192x1024, .f32⟩
  | .hbm, ⟨19, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩

abbrev nD : Nat := 1
abbrev τ : Topo := Topo.v7x

variable {F : FTy → Type} [FloatOps F]
-- ==== Kernel4.lean ====
abbrev S4x8192x1088 : Shape := ⟨3, ![4, 8192, 1088]⟩
abbrev S8192x3072 : Shape := ⟨2, ![8192, 3072]⟩
abbrev S4x1024x1088 : Shape := ⟨3, ![4, 1024, 1088]⟩
abbrev S4x1024x768 : Shape := ⟨3, ![4, 1024, 768]⟩
abbrev S8192x1024 : Shape := ⟨2, ![8192, 1024]⟩
abbrev S1x512x1088 : Shape := ⟨3, ![1, 512, 1088]⟩
abbrev S1x1024x1088 : Shape := ⟨3, ![1, 1024, 1088]⟩
abbrev S512x768 : Shape := ⟨2, ![512, 768]⟩
abbrev S1x1024x768 : Shape := ⟨3, ![1, 1024, 768]⟩
abbrev S512x1024 : Shape := ⟨2, ![512, 1024]⟩
abbrev S512x1088 : Shape := ⟨2, ![512, 1088]⟩
abbrev S1024x1088 : Shape := ⟨2, ![1024, 1088]⟩
abbrev S1024x768 : Shape := ⟨2, ![1024, 768]⟩

abbrev nBuf : Space → Nat
  | .hbm => 5
  | .vmem => 26
  | .smem => 0
  | _ => 0

abbrev bufTy : (tb : Table) → Fin (tcTables nBuf tb) → BufTy
  | .hbm, ⟨0, _⟩ => ⟨S4x8192x1088, .bf16⟩
  | .hbm, ⟨1, _⟩ => ⟨S8192x3072, .bf16⟩
  | .hbm, ⟨2, _⟩ => ⟨S4x1024x1088, .bf16⟩
  | .hbm, ⟨3, _⟩ => ⟨S4x1024x768, .bf16⟩
  | .hbm, ⟨4, _⟩ => ⟨S8192x1024, .bf16⟩
  | .local _ .vmem, ⟨0, _⟩ => ⟨S1x512x1088, .bf16⟩
  | .local _ .vmem, ⟨1, _⟩ => ⟨S1x512x1088, .bf16⟩
  | .local _ .vmem, ⟨2, _⟩ => ⟨S1x1024x1088, .bf16⟩
  | .local _ .vmem, ⟨3, _⟩ => ⟨S1x512x1088, .bf16⟩
  | .local _ .vmem, ⟨4, _⟩ => ⟨S1x512x1088, .bf16⟩
  | .local _ .vmem, ⟨5, _⟩ => ⟨S1x1024x1088, .bf16⟩
  | .local _ .vmem, ⟨6, _⟩ => ⟨S1x512x1088, .bf16⟩
  | .local _ .vmem, ⟨7, _⟩ => ⟨S1x512x1088, .bf16⟩
  | .local _ .vmem, ⟨8, _⟩ => ⟨S1x1024x1088, .bf16⟩
  | .local _ .vmem, ⟨9, _⟩ => ⟨S1x512x1088, .bf16⟩
  | .local _ .vmem, ⟨10, _⟩ => ⟨S1x512x1088, .bf16⟩
  | .local _ .vmem, ⟨11, _⟩ => ⟨S1x1024x1088, .bf16⟩
  | .local _ .vmem, ⟨12, _⟩ => ⟨S512x768, .bf16⟩
  | .local _ .vmem, ⟨13, _⟩ => ⟨S512x768, .bf16⟩
  | .local _ .vmem, ⟨14, _⟩ => ⟨S1x1024x768, .bf16⟩
  | .local _ .vmem, ⟨15, _⟩ => ⟨S512x768, .bf16⟩
  | .local _ .vmem, ⟨16, _⟩ => ⟨S512x768, .bf16⟩
  | .local _ .vmem, ⟨17, _⟩ => ⟨S1x1024x768, .bf16⟩
  | .local _ .vmem, ⟨18, _⟩ => ⟨S512x768, .bf16⟩
  | .local _ .vmem, ⟨19, _⟩ => ⟨S512x768, .bf16⟩
  | .local _ .vmem, ⟨20, _⟩ => ⟨S1x1024x768, .bf16⟩
  | .local _ .vmem, ⟨21, _⟩ => ⟨S512x768, .bf16⟩
  | .local _ .vmem, ⟨22, _⟩ => ⟨S512x768, .bf16⟩
  | .local _ .vmem, ⟨23, _⟩ => ⟨S1x1024x768, .bf16⟩
  | .local _ .vmem, ⟨24, _⟩ => ⟨S512x1024, .bf16⟩
  | .local _ .vmem, ⟨25, _⟩ => ⟨S512x1024, .bf16⟩
  | _, _ => ⟨S4x8192x1088, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem12_1 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨2, ![1, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_12 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_13 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_14 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_15 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x512x1088 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1088 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1x512x1088 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1024x1088 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1x512x1088 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x1024x1088 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x512x1088 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024x1088 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S512x768 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 1 → Memref sig .tc .vmem S1x1024x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S512x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 1 → Memref sig .tc .vmem S1x1024x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]

abbrev stage0_12 : Fin 2 → Memref sig .tc .vmem S512x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .vmem S1x1024x768 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true, false]

abbrev stage0_14 : Fin 2 → Memref sig .tc .vmem S512x768 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 1 → Memref sig .tc .vmem S1x1024x768 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![true, false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference4Ideal.lean ====
abbrev S4x8192x1088 : Shape := ⟨3, ![4, 8192, 1088]⟩
abbrev S8192x3072 : Shape := ⟨2, ![8192, 3072]⟩
abbrev S4x1024x1088 : Shape := ⟨3, ![4, 1024, 1088]⟩
abbrev S4x1024x768 : Shape := ⟨3, ![4, 1024, 768]⟩
abbrev S1x1024x1088 : Shape := ⟨3, ![1, 1024, 1088]⟩
abbrev S1024x1088 : Shape := ⟨2, ![1024, 1088]⟩
abbrev S1024x4352 : Shape := ⟨2, ![1024, 4352]⟩
abbrev S1x1024x768 : Shape := ⟨3, ![1, 1024, 768]⟩
abbrev S1024x768 : Shape := ⟨2, ![1024, 768]⟩
abbrev S1024x3072 : Shape := ⟨2, ![1024, 3072]⟩
abbrev S1x8192x1088 : Shape := ⟨3, ![1, 8192, 1088]⟩
abbrev S8192x1088 : Shape := ⟨2, ![8192, 1088]⟩
abbrev S8192x4352 : Shape := ⟨2, ![8192, 4352]⟩
abbrev S_ : Shape := ⟨0, ![]⟩
abbrev S8192x1024 : Shape := ⟨2, ![8192, 1024]⟩

abbrev nBuf : Space → Nat
  | .hbm => 43
  | .vmem => 0
  | .smem => 0
  | _ => 0

abbrev bufTy : (tb : Table) → Fin (tcTables nBuf tb) → BufTy
  | .hbm, ⟨0, _⟩ => ⟨S4x8192x1088, .bf16⟩
  | .hbm, ⟨1, _⟩ => ⟨S8192x3072, .bf16⟩
  | .hbm, ⟨2, _⟩ => ⟨S4x1024x1088, .bf16⟩
  | .hbm, ⟨3, _⟩ => ⟨S4x1024x768, .bf16⟩
  | .hbm, ⟨4, _⟩ => ⟨S1x1024x1088, .bf16⟩
  | .hbm, ⟨5, _⟩ => ⟨S1024x1088, .bf16⟩
  | .hbm, ⟨6, _⟩ => ⟨S1x1024x1088, .bf16⟩
  | .hbm, ⟨7, _⟩ => ⟨S1024x1088, .bf16⟩
  | .hbm, ⟨8, _⟩ => ⟨S1x1024x1088, .bf16⟩
  | .hbm, ⟨9, _⟩ => ⟨S1024x1088, .bf16⟩
  | .hbm, ⟨10, _⟩ => ⟨S1x1024x1088, .bf16⟩
  | .hbm, ⟨11, _⟩ => ⟨S1024x1088, .bf16⟩
  | .hbm, ⟨12, _⟩ => ⟨S1024x4352, .bf16⟩
  | .hbm, ⟨13, _⟩ => ⟨S1024x4352, .f32⟩
  | .hbm, ⟨14, _⟩ => ⟨S1x1024x768, .bf16⟩
  | .hbm, ⟨15, _⟩ => ⟨S1024x768, .bf16⟩
  | .hbm, ⟨16, _⟩ => ⟨S1x1024x768, .bf16⟩
  | .hbm, ⟨17, _⟩ => ⟨S1024x768, .bf16⟩
  | .hbm, ⟨18, _⟩ => ⟨S1x1024x768, .bf16⟩
  | .hbm, ⟨19, _⟩ => ⟨S1024x768, .bf16⟩
  | .hbm, ⟨20, _⟩ => ⟨S1x1024x768, .bf16⟩
  | .hbm, ⟨21, _⟩ => ⟨S1024x768, .bf16⟩
  | .hbm, ⟨22, _⟩ => ⟨S1024x3072, .bf16⟩
  | .hbm, ⟨23, _⟩ => ⟨S1024x3072, .f32⟩
  | .hbm, ⟨24, _⟩ => ⟨S1x8192x1088, .bf16⟩
  | .hbm, ⟨25, _⟩ => ⟨S8192x1088, .bf16⟩
  | .hbm, ⟨26, _⟩ => ⟨S1x8192x1088, .bf16⟩
  | .hbm, ⟨27, _⟩ => ⟨S8192x1088, .bf16⟩
  | .hbm, ⟨28, _⟩ => ⟨S1x8192x1088, .bf16⟩
  | .hbm, ⟨29, _⟩ => ⟨S8192x1088, .bf16⟩
  | .hbm, ⟨30, _⟩ => ⟨S1x8192x1088, .bf16⟩
  | .hbm, ⟨31, _⟩ => ⟨S8192x1088, .bf16⟩
  | .hbm, ⟨32, _⟩ => ⟨S8192x4352, .bf16⟩
  | .hbm, ⟨33, _⟩ => ⟨S8192x4352, .f32⟩
  | .hbm, ⟨34, _⟩ => ⟨S8192x3072, .f32⟩
  | .hbm, ⟨35, _⟩ => ⟨S_, .f32⟩
  | .hbm, ⟨36, _⟩ => ⟨S8192x1024, .f32⟩
  | .hbm, ⟨37, _⟩ => ⟨S8192x4352, .f32⟩
  | .hbm, ⟨38, _⟩ => ⟨S8192x3072, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .bf16⟩
  | _, _ => ⟨S4x8192x1088, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_cst : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩

abbrev nD : Nat := 1
abbrev τ : Topo := Topo.v7x

variable {F : FTy → Type} [FloatOps F]
-- ==== Kernel5.lean ====
abbrev S8192x1024 : Shape := ⟨2, ![8192, 1024]⟩
abbrev S4x8192x1088 : Shape := ⟨3, ![4, 8192, 1088]⟩
abbrev S4x1024x1088 : Shape := ⟨3, ![4, 1024, 1088]⟩
abbrev S1024x1024 : Shape := ⟨2, ![1024, 1024]⟩
abbrev S2x1024x1088 : Shape := ⟨3, ![2, 1024, 1088]⟩
abbrev S1x1024x1088 : Shape := ⟨3, ![1, 1024, 1088]⟩
abbrev S1024x1088 : Shape := ⟨2, ![1024, 1088]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x8192x1088, .bf16⟩
  | .hbm, ⟨2, _⟩ => ⟨S4x1024x1088, .f32⟩
  | .local _ .vmem, ⟨0, _⟩ => ⟨S1024x1024, .bf16⟩
  | .local _ .vmem, ⟨1, _⟩ => ⟨S1024x1024, .bf16⟩
  | .local _ .vmem, ⟨2, _⟩ => ⟨S2x1024x1088, .bf16⟩
  | .local _ .vmem, ⟨3, _⟩ => ⟨S2x1024x1088, .bf16⟩
  | .local _ .vmem, ⟨4, _⟩ => ⟨S2x1024x1088, .f32⟩
  | .local _ .vmem, ⟨5, _⟩ => ⟨S2x1024x1088, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2x1024x1088 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x1088 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x1024 : Shape := ⟨2, ![8192, 1024]⟩
abbrev S4x8192x1088 : Shape := ⟨3, ![4, 8192, 1088]⟩
abbrev S_ : Shape := ⟨0, ![]⟩
abbrev S1024x4352 : Shape := ⟨2, ![1024, 4352]⟩
abbrev S8192x4352 : Shape := ⟨2, ![8192, 4352]⟩
abbrev S1x8192x1088 : Shape := ⟨3, ![1, 8192, 1088]⟩
abbrev S8192x1088 : Shape := ⟨2, ![8192, 1088]⟩
abbrev S4352x1024 : Shape := ⟨2, ![4352, 1024]⟩
abbrev S1024x1088 : Shape := ⟨2, ![1024, 1088]⟩
abbrev S1x1024x1088 : Shape := ⟨3, ![1, 1024, 1088]⟩
abbrev S4x1024x1088 : Shape := ⟨3, ![4, 1024, 1088]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x8192x1088, .bf16⟩
  | .hbm, ⟨2, _⟩ => ⟨S8192x1024, .f32⟩
  | .hbm, ⟨3, _⟩ => ⟨S_, .f32⟩
  | .hbm, ⟨4, _⟩ => ⟨S1024x4352, .f32⟩
  | .hbm, ⟨5, _⟩ => ⟨S8192x4352, .f32⟩
  | .hbm, ⟨6, _⟩ => ⟨S1x8192x1088, .bf16⟩
  | .hbm, ⟨7, _⟩ => ⟨S8192x1088, .bf16⟩
  | .hbm, ⟨8, _⟩ => ⟨S1x8192x1088, .bf16⟩
  | .hbm, ⟨9, _⟩ => ⟨S8192x1088, .bf16⟩
  | .hbm, ⟨10, _⟩ => ⟨S1x8192x1088, .bf16⟩
  | .hbm, ⟨11, _⟩ => ⟨S8192x1088, .bf16⟩
  | .hbm, ⟨12, _⟩ => ⟨S1x8192x1088, .bf16⟩
  | .hbm, ⟨13, _⟩ => ⟨S8192x1088, .bf16⟩
  | .hbm, ⟨14, _⟩ => ⟨S8192x4352, .bf16⟩
  | .hbm, ⟨15, _⟩ => ⟨S8192x4352, .f32⟩
  | .hbm, ⟨16, _⟩ => ⟨S4352x1024, .f32⟩
  | .hbm, ⟨17, _⟩ => ⟨S1024x4352, .f32⟩
  | .hbm, ⟨18, _⟩ => ⟨S1024x1088, .f32⟩
  | .hbm, ⟨19, _⟩ => ⟨S1024x1088, .f32⟩
  | .hbm, ⟨20, _⟩ => ⟨S1024x1088, .f32⟩
  | .hbm, ⟨21, _⟩ => ⟨S1024x1088, .f32⟩
  | .hbm, ⟨22, _⟩ => ⟨S1x1024x1088, .f32⟩
  | .hbm, ⟨23, _⟩ => ⟨S1x1024x1088, .f32⟩
  | .hbm, ⟨24, _⟩ => ⟨S1x1024x1088, .f32⟩
  | .hbm, ⟨25, _⟩ => ⟨S1x1024x1088, .f32⟩
  | .hbm, ⟨26, _⟩ => ⟨S4x1024x1088, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩

abbrev nD : Nat := 1
abbrev τ : Topo := Topo.v7x

variable {F : FTy → Type} [FloatOps F]
-- ==== Kernel6.lean ====
abbrev S8192x2816 : Shape := ⟨2, ![8192, 2816]⟩
abbrev S8192x1024 : Shape := ⟨2, ![8192, 1024]⟩
abbrev S2816x1024 : Shape := ⟨2, ![2816, 1024]⟩
abbrev S1024x1408 : Shape := ⟨2, ![1024, 1408]⟩
abbrev S1024x1024 : Shape := ⟨2, ![1024, 1024]⟩
abbrev S1408x1024 : Shape := ⟨2, ![1408, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel7.lean ====
abbrev S8192x1024 : Shape := ⟨2, ![8192, 1024]⟩
abbrev S2816x1024 : Shape := ⟨2, ![2816, 1024]⟩
abbrev S8192x2816 : Shape := ⟨2, ![8192, 2816]⟩
abbrev S1024x1024 : Shape := ⟨2, ![1024, 1024]⟩
abbrev S1408x1024 : Shape := ⟨2, ![1408, 1024]⟩
abbrev S1024x1408 : Shape := ⟨2, ![1024, 1408]⟩

abbrev nBuf : Space → Nat
  | .hbm => 6
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1408x1024, .bf16⟩
  | .local _ .vmem, ⟨3, _⟩ => ⟨S1408x1024, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1408, .bf16⟩
  | .local _ .vmem, ⟨7, _⟩ => ⟨S1024x1408, .bf16⟩
  | .local _ .vmem, ⟨8, _⟩ => ⟨S1024x1408, .bf16⟩
  | .local _ .vmem, ⟨9, _⟩ => ⟨S1024x1408, .bf16⟩
  | .local _ .vmem, ⟨10, _⟩ => ⟨S1024x1408, .bf16⟩
  | .local _ .vmem, ⟨11, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference7Ideal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x1024, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .bf16⟩
  | .hbm, ⟨31, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel8.lean ====
abbrev S8192x1024 : Shape := ⟨2, ![8192, 1024]⟩
abbrev S8192x3072 : Shape := ⟨2, ![8192, 3072]⟩
abbrev S4x1024x768 : Shape := ⟨3, ![4, 1024, 768]⟩
abbrev S1024x1024 : Shape := ⟨2, ![1024, 1024]⟩
abbrev S1024x1536 : Shape := ⟨2, ![1024, 1536]⟩
abbrev S2x1024x768 : Shape := ⟨3, ![2, 1024, 768]⟩
abbrev S1x1024x768 : Shape := ⟨3, ![1, 1024, 768]⟩
abbrev S1024x768 : Shape := ⟨2, ![1024, 768]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S4x1024x768, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S2x1024x768, .f32⟩
  | .local _ .vmem, ⟨5, _⟩ => ⟨S2x1024x768, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩
abbrev S1024x768 : Shape := ⟨2, ![1024, 768]⟩
abbrev S1x1024x768 : Shape := ⟨3, ![1, 1024, 768]⟩
abbrev S4x1024x768 : Shape := ⟨3, ![4, 1024, 768]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S1024x768, .f32⟩
  | .hbm, ⟨10, _⟩ => ⟨S1024x768, .f32⟩
  | .hbm, ⟨11, _⟩ => ⟨S1024x768, .f32⟩
  | .hbm, ⟨12, _⟩ => ⟨S1024x768, .f32⟩
  | .hbm, ⟨13, _⟩ => ⟨S1x1024x768, .f32⟩
  | .hbm, ⟨14, _⟩ => ⟨S1x1024x768, .f32⟩
  | .hbm, ⟨15, _⟩ => ⟨S1x1024x768, .f32⟩
  | .hbm, ⟨16, _⟩ => ⟨S1x1024x768, .f32⟩
  | .hbm, ⟨17, _⟩ => ⟨S4x1024x768, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel9.lean ====
abbrev S8192x1024 : Shape := ⟨2, ![8192, 1024]⟩
abbrev S8192x2816 : Shape := ⟨2, ![8192, 2816]⟩
abbrev S4x1024x1408 : Shape := ⟨3, ![4, 1024, 1408]⟩
abbrev S512x1024 : Shape := ⟨2, ![512, 1024]⟩
abbrev S512x2816 : Shape := ⟨2, ![512, 2816]⟩
abbrev S2x1024x1408 : Shape := ⟨3, ![2, 1024, 1408]⟩
abbrev S1024x2816 : Shape := ⟨2, ![1024, 2816]⟩
abbrev S1x1024x1408 : Shape := ⟨3, ![1, 1024, 1408]⟩
abbrev S1024x1408 : Shape := ⟨2, ![1024, 1408]⟩

abbrev nBuf : Space → Nat
  | .hbm => 4
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S4x1024x1408, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S2x1024x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg1 c1_i32
  let c0_i32 : BitVec 32 := 0#32
  let c0_i32_0 : BitVec 32 := 0#32
  ![v0.toNat, arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S2x1024x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S8192x2816 : Shape := ⟨2, ![8192, 2816]⟩
abbrev S4x1024x1408 : Shape := ⟨3, ![4, 1024, 1408]⟩
abbrev S_ : Shape := ⟨0, ![]⟩
abbrev S1024x2816 : Shape := ⟨2, ![1024, 2816]⟩
abbrev S2816x1024 : Shape := ⟨2, ![2816, 1024]⟩
abbrev S2x1024x1408 : Shape := ⟨3, ![2, 1024, 1408]⟩
abbrev S1024x1408 : Shape := ⟨2, ![1024, 1408]⟩
abbrev S1x1024x1408 : Shape := ⟨3, ![1, 1024, 1408]⟩

abbrev nBuf : Space → Nat
  | .hbm => 17
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S4x1024x1408, .f32⟩
  | .hbm, ⟨3, _⟩ => ⟨S_, .f32⟩
  | .hbm, ⟨4, _⟩ => ⟨S1024x2816, .f32⟩
  | .hbm, ⟨5, _⟩ => ⟨S8192x1024, .f32⟩
  | .hbm, ⟨6, _⟩ => ⟨S8192x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2x1024x1408, .f32⟩
  | .hbm, ⟨11, _⟩ => ⟨S1024x1408, .f32⟩
  | .hbm, ⟨12, _⟩ => ⟨S1024x1408, .f32⟩
  | .hbm, ⟨13, _⟩ => ⟨S1x1024x1408, .f32⟩
  | .hbm, ⟨14, _⟩ => ⟨S1x1024x1408, .f32⟩
  | .hbm, ⟨15, _⟩ => ⟨S2x1024x1408, .f32⟩
  | .hbm, ⟨16, _⟩ => ⟨S4x1024x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]
-- ==== Kernel10.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference10Ideal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel11.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel12.lean ====
abbrev S8192x1024 : Shape := ⟨2, ![8192, 1024]⟩
abbrev S4x1024x1408 : Shape := ⟨3, ![4, 1024, 1408]⟩
abbrev S8192x2816 : Shape := ⟨2, ![8192, 2816]⟩
abbrev S512x1024 : Shape := ⟨2, ![512, 1024]⟩
abbrev S1x1024x1408 : Shape := ⟨3, ![1, 1024, 1408]⟩
abbrev S512x1408 : Shape := ⟨2, ![512, 1408]⟩
abbrev S1024x1408 : Shape := ⟨2, ![1024, 1408]⟩

abbrev nBuf : Space → Nat
  | .hbm => 5
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1x1024x1408, .bf16⟩
  | .local _ .vmem, ⟨5, _⟩ => ⟨S1x1024x1408, .bf16⟩
  | .local _ .vmem, ⟨6, _⟩ => ⟨S512x1408, .bf16⟩
  | .local _ .vmem, ⟨7, _⟩ => ⟨S512x1408, .bf16⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.addi arg0 c2_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference12Ideal.lean ====
abbrev S8192x1024 : Shape := ⟨2, ![8192, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩
abbrev S8192x2816 : Shape := ⟨2, ![8192, 2816]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S1x1024x1408, .bf16⟩
  | .hbm, ⟨4, _⟩ => ⟨S1024x1408, .bf16⟩
  | .hbm, ⟨5, _⟩ => ⟨S1x1024x1408, .bf16⟩
  | .hbm, ⟨6, _⟩ => ⟨S1024x1408, .bf16⟩
  | .hbm, ⟨7, _⟩ => ⟨S1x1024x1408, .bf16⟩
  | .hbm, ⟨8, _⟩ => ⟨S1024x1408, .bf16⟩
  | .hbm, ⟨9, _⟩ => ⟨S1x1024x1408, .bf16⟩
  | .hbm, ⟨10, _⟩ => ⟨S1024x1408, .bf16⟩
  | .hbm, ⟨11, _⟩ => ⟨S1024x5632, .bf16⟩
  | .hbm, ⟨12, _⟩ => ⟨S1024x5632, .f32⟩
  | .hbm, ⟨13, _⟩ => ⟨S8192x5632, .f32⟩
  | .hbm, ⟨14, _⟩ => ⟨S8192x2816, .f32⟩
  | .hbm, ⟨15, _⟩ => ⟨S8192x2816, .f32⟩
  | .hbm, ⟨16, _⟩ => ⟨S8192x2816, .bf16⟩
  | .hbm, ⟨17, _⟩ => ⟨S8192x2816, .bf16⟩
  | .hbm, ⟨18, _⟩ => ⟨S8192x2816, .f32⟩
  | .hbm, ⟨19, _⟩ => ⟨S8192x2816, .f32⟩
  | .hbm, ⟨20, _⟩ => ⟨S_, .f32⟩
  | .hbm, ⟨21, _⟩ => ⟨S8192x2816, .f32⟩
  | .hbm, ⟨22, _⟩ => ⟨S8192x2816, .f32⟩
  | .hbm, ⟨23, _⟩ => ⟨S_, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩

abbrev nD : Nat := 1
abbrev τ : Topo := Topo.v7x

variable {F : FTy → Type} [FloatOps F]
-- ==== Kernel13.lean ====
abbrev S8192x1024 : Shape := ⟨2, ![8192, 1024]⟩
abbrev S1024x4352 : Shape := ⟨2, ![1024, 4352]⟩
abbrev S8192x4352 : Shape := ⟨2, ![8192, 4352]⟩
abbrev S1024x1024 : Shape := ⟨2, ![1024, 1024]⟩
abbrev S1024x2176 : Shape := ⟨2, ![1024, 2176]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x4352, .bf16⟩
  | .hbm, ⟨2, _⟩ => ⟨S8192x4352, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2176, .bf16⟩
  | .local _ .vmem, ⟨3, _⟩ => ⟨S1024x2176, .bf16⟩
  | .local _ .vmem, ⟨4, _⟩ => ⟨S1024x2176, .bf16⟩
  | .local _ .vmem, ⟨5, _⟩ => ⟨S1024x2176, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x1024 : Shape := ⟨2, ![8192, 1024]⟩
abbrev S1024x4352 : Shape := ⟨2, ![1024, 4352]⟩
abbrev S8192x4352 : Shape := ⟨2, ![8192, 4352]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x4352, .bf16⟩
  | .hbm, ⟨2, _⟩ => ⟨S8192x1024, .f32⟩
  | .hbm, ⟨3, _⟩ => ⟨S1024x4352, .f32⟩
  | .hbm, ⟨4, _⟩ => ⟨S8192x4352, .f32⟩
  | .hbm, ⟨5, _⟩ => ⟨S8192x4352, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel14.lean ====
abbrev S8192x1024 : Shape := ⟨2, ![8192, 1024]⟩
abbrev S4x1024x768 : Shape := ⟨3, ![4, 1024, 768]⟩
abbrev S1x3072 : Shape := ⟨2, ![1, 3072]⟩
abbrev S8192x3072 : Shape := ⟨2, ![8192, 3072]⟩
abbrev S1024x1024 : Shape := ⟨2, ![1024, 1024]⟩
abbrev S1x1024x768 : Shape := ⟨3, ![1, 1024, 768]⟩
abbrev S1x768 : Shape := ⟨2, ![1, 768]⟩
abbrev S1024x768 : Shape := ⟨2, ![1024, 768]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S4x1024x768, .bf16⟩
  | .hbm, ⟨2, _⟩ => ⟨S1x3072, .f32⟩
  | .hbm, ⟨3, _⟩ => ⟨S8192x3072, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x768, .bf16⟩
  | .local _ .vmem, ⟨3, _⟩ => ⟨S1x1024x768, .bf16⟩
  | .local _ .vmem, ⟨4, _⟩ => ⟨S1x768, .f32⟩
  | .local _ .vmem, ⟨5, _⟩ => ⟨S1x768, .f32⟩
  | .local _ .vmem, ⟨6, _⟩ => ⟨S1024x768, .bf16⟩
  | .local _ .vmem, ⟨7, _⟩ => ⟨S1024x768, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x768 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference14Ideal.lean ====
abbrev S8192x1024 : Shape := ⟨2, ![8192, 1024]⟩
abbrev S4x1024x768 : Shape := ⟨3, ![4, 1024, 768]⟩
abbrev S1x3072 : Shape := ⟨2, ![1, 3072]⟩
abbrev S1x1024x768 : Shape := ⟨3, ![1, 1024, 768]⟩
abbrev S1024x768 : Shape := ⟨2, ![1024, 768]⟩
abbrev S1024x3072 : Shape := ⟨2, ![1024, 3072]⟩
abbrev S8192x3072 : Shape := ⟨2, ![8192, 3072]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x768, .bf16⟩
  | .hbm, ⟨2, _⟩ => ⟨S1x3072, .f32⟩
  | .hbm, ⟨3, _⟩ => ⟨S1x1024x768, .bf16⟩
  | .hbm, ⟨4, _⟩ => ⟨S1024x768, .bf16⟩
  | .hbm, ⟨5, _⟩ => ⟨S1x1024x768, .bf16⟩
  | .hbm, ⟨6, _⟩ => ⟨S1024x768, .bf16⟩
  | .hbm, ⟨7, _⟩ => ⟨S1x1024x768, .bf16⟩
  | .hbm, ⟨8, _⟩ => ⟨S1024x768, .bf16⟩
  | .hbm, ⟨9, _⟩ => ⟨S1x1024x768, .bf16⟩
  | .hbm, ⟨10, _⟩ => ⟨S1024x768, .bf16⟩
  | .hbm, ⟨11, _⟩ => ⟨S1024x3072, .bf16⟩
  | .hbm, ⟨12, _⟩ => ⟨S1024x3072, .f32⟩
  | .hbm, ⟨13, _⟩ => ⟨S8192x1024, .f32⟩
  | .hbm, ⟨14, _⟩ => ⟨S8192x3072, .f32⟩
  | .hbm, ⟨15, _⟩ => ⟨S8192x3072, .f32⟩
  | .hbm, ⟨16, _⟩ => ⟨S8192x3072, .f32⟩
  | .hbm, ⟨17, _⟩ => ⟨S8192x3072, .f32⟩
  | .hbm, ⟨18, _⟩ => ⟨S8192x3072, .f32⟩
  | .hbm, ⟨19, _⟩ => ⟨S_, .f32⟩
  | .hbm, ⟨20, _⟩ => ⟨S8192x3072, .f32⟩
  | .hbm, ⟨21, _⟩ => ⟨S8192x3072, .f32⟩
  | .hbm, ⟨22, _⟩ => ⟨S_, .f32⟩
  | .hbm, ⟨23, _⟩ => ⟨S8192x3072, .f32⟩
  | .hbm, ⟨24, _⟩ => ⟨S8192x3072, .f32⟩
  | .hbm, ⟨25, _⟩ => ⟨S8192x3072, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst : Ref sig .tc := ⟨.hbm, 19, rfl⟩
abbrev main_v16 : Ref sig .tc := ⟨.hbm, 20, rfl⟩
abbrev main_v17 : Ref sig .tc := ⟨.hbm, 21, rfl⟩
abbrev main_cst_0 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩

abbrev nD : Nat := 1
abbrev τ : Topo := Topo.v7x

variable {F : FTy → Type} [FloatOps F]
-- ==== Kernel15.lean ====
abbrev S8192x2816 : Shape := ⟨2, ![8192, 2816]⟩
abbrev S2816x1024 : Shape := ⟨2, ![2816, 1024]⟩
abbrev S8192x1024 : Shape := ⟨2, ![8192, 1024]⟩
abbrev S1024x2816 : Shape := ⟨2, ![1024, 2816]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference15Ideal.lean ====
abbrev S8192x2816 : Shape := ⟨2, ![8192, 2816]⟩
abbrev S2816x1024 : Shape := ⟨2, ![2816, 1024]⟩
abbrev S8192x1024 : Shape := ⟨2, ![8192, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .f32⟩
  | .hbm, ⟨3, _⟩ => ⟨S2816x1024, .f32⟩
  | .hbm, ⟨4, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S8192x1024 : Shape := ⟨2, ![8192, 1024]⟩
abbrev S1024x1024 : Shape := ⟨2, ![1024, 1024]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel17.lean ====
abbrev S8192x512 : Shape := ⟨2, ![8192, 512]⟩
abbrev S8192x256 : Shape := ⟨2, ![8192, 256]⟩
abbrev S4x512x256 : Shape := ⟨3, ![4, 512, 256]⟩
abbrev S4x256x256 : Shape := ⟨3, ![4, 256, 256]⟩
abbrev S8192x3072 : Shape := ⟨2, ![8192, 3072]⟩
abbrev S8192x1024 : Shape := ⟨2, ![8192, 1024]⟩
abbrev S512x512 : Shape := ⟨2, ![512, 512]⟩
abbrev S512x256 : Shape := ⟨2, ![512, 256]⟩
abbrev S512x3072 : Shape := ⟨2, ![512, 3072]⟩
abbrev S512x1024 : Shape := ⟨2, ![512, 1024]⟩
abbrev S1x512x256 : Shape := ⟨3, ![1, 512, 256]⟩
abbrev S1x256x256 : Shape := ⟨3, ![1, 256, 256]⟩
abbrev S256x256 : Shape := ⟨2, ![256, 256]⟩

abbrev nBuf : Space → Nat
  | .hbm => 11
  | .vmem => 19
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x512, .bf16⟩
  | .hbm, ⟨3, _⟩ => ⟨S4x512x256, .bf16⟩
  | .hbm, ⟨4, _⟩ => ⟨S4x256x256, .bf16⟩
  | .hbm, ⟨5, _⟩ => ⟨S4x512x256, .bf16⟩
  | .hbm, ⟨6, _⟩ => ⟨S8192x3072, .bf16⟩
  | .hbm, ⟨7, _⟩ => ⟨S8192x1024, .bf16⟩
  | .hbm, ⟨8, _⟩ => ⟨S8192x1024, .bf16⟩
  | .hbm, ⟨9, _⟩ => ⟨S8192x1024, .bf16⟩
  | .hbm, ⟨10, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x256, .bf16⟩
  | .local _ .vmem, ⟨3, _⟩ => ⟨S512x256, .bf16⟩
  | .local _ .vmem, ⟨4, _⟩ => ⟨S512x512, .bf16⟩
  | .local _ .vmem, ⟨5, _⟩ => ⟨S512x512, .bf16⟩
  | .local _ .vmem, ⟨6, _⟩ => ⟨S4x512x256, .bf16⟩
  | .local _ .vmem, ⟨7, _⟩ => ⟨S4x256x256, .bf16⟩
  | .local _ .vmem, ⟨8, _⟩ => ⟨S4x512x256, .bf16⟩
  | .local _ .vmem, ⟨9, _⟩ => ⟨S512x3072, .bf16⟩
  | .local _ .vmem, ⟨10, _⟩ => ⟨S512x3072, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference17Ideal.lean ====
abbrev S8192x512 : Shape := ⟨2, ![8192, 512]⟩
abbrev S8192x256 : Shape := ⟨2, ![8192, 256]⟩
abbrev S4x512x256 : Shape := ⟨3, ![4, 512, 256]⟩
abbrev S4x256x256 : Shape := ⟨3, ![4, 256, 256]⟩
abbrev S8192x3072 : Shape := ⟨2, ![8192, 3072]⟩
abbrev S8192x3x1024 : Shape := ⟨3, ![8192, 3, 1024]⟩
abbrev S1x512x256 : Shape := ⟨3, ![1, 512, 256]⟩
abbrev S512x256 : Shape := ⟨2, ![512, 256]⟩
abbrev S512x1024 : Shape := ⟨2, ![512, 1024]⟩
abbrev S8192x1024 : Shape := ⟨2, ![8192, 1024]⟩
abbrev S1x256x256 : Shape := ⟨3, ![1, 256, 256]⟩
abbrev S256x256 : Shape := ⟨2, ![256, 256]⟩
abbrev S256x1024 : Shape := ⟨2, ![256, 1024]⟩
abbrev S8192x1x1024 : Shape := ⟨3, ![8192, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x256, .bf16⟩
  | .hbm, ⟨2, _⟩ => ⟨S8192x512, .bf16⟩
  | .hbm, ⟨3, _⟩ => ⟨S4x512x256, .bf16⟩
  | .hbm, ⟨4, _⟩ => ⟨S4x256x256, .bf16⟩
  | .hbm, ⟨5, _⟩ => ⟨S4x512x256, .bf16⟩
  | .hbm, ⟨6, _⟩ => ⟨S8192x3072, .bf16⟩
  | .hbm, ⟨7, _⟩ => ⟨S8192x3072, .f32⟩
  | .hbm, ⟨8, _⟩ => ⟨S8192x3x1024, .f32⟩
  | .hbm, ⟨9, _⟩ => ⟨S1x512x256, .bf16⟩
  | .hbm, ⟨10, _⟩ => ⟨S512x256, .bf16⟩
  | .hbm, ⟨11, _⟩ => ⟨S1x512x256, .bf16⟩
  | .hbm, ⟨12, _⟩ => ⟨S512x256, .bf16⟩
  | .hbm, ⟨13, _⟩ => ⟨S1x512x256, .bf16⟩
  | .hbm, ⟨14, _⟩ => ⟨S512x256, .bf16⟩
  | .hbm, ⟨15, _⟩ => ⟨S1x512x256, .bf16⟩
  | .hbm, ⟨16, _⟩ => ⟨S512x256, .bf16⟩
  | .hbm, ⟨17, _⟩ => ⟨S512x1024, .bf16⟩
  | .hbm, ⟨18, _⟩ => ⟨S512x1024, .f32⟩
  | .hbm, ⟨19, _⟩ => ⟨S8192x512, .f32⟩
  | .hbm, ⟨20, _⟩ => ⟨S8192x1024, .f32⟩
  | .hbm, ⟨21, _⟩ => ⟨S1x256x256, .bf16⟩
  | .hbm, ⟨22, _⟩ => ⟨S256x256, .bf16⟩
  | .hbm, ⟨23, _⟩ => ⟨S1x256x256, .bf16⟩
  | .hbm, ⟨24, _⟩ => ⟨S256x256, .bf16⟩
  | .hbm, ⟨25, _⟩ => ⟨S1x256x256, .bf16⟩
  | .hbm, ⟨26, _⟩ => ⟨S256x256, .bf16⟩
  | .hbm, ⟨27, _⟩ => ⟨S1x256x256, .bf16⟩
  | .hbm, ⟨28, _⟩ => ⟨S256x256, .bf16⟩
  | .hbm, ⟨29, _⟩ => ⟨S256x1024, .bf16⟩
  | .hbm, ⟨30, _⟩ => ⟨S256x1024, .f32⟩
  | .hbm, ⟨31, _⟩ => ⟨S8192x256, .f32⟩
  | .hbm, ⟨32, _⟩ => ⟨S8192x1024, .f32⟩
  | .hbm, ⟨33, _⟩ => ⟨S1x512x256, .bf16⟩
  | .hbm, ⟨34, _⟩ => ⟨S512x256, .bf16⟩
  | .hbm, ⟨35, _⟩ => ⟨S1x512x256, .bf16⟩
  | .hbm, ⟨36, _⟩ => ⟨S512x256, .bf16⟩
  | .hbm, ⟨37, _⟩ => ⟨S1x512x256, .bf16⟩
  | .hbm, ⟨38, _⟩ => ⟨S512x256, .bf16⟩
  | .hbm, ⟨39, _⟩ => ⟨S1x512x256, .bf16⟩
  | .hbm, ⟨40, _⟩ => ⟨S512x256, .bf16⟩
  | .hbm, ⟨41, _⟩ => ⟨S512x1024, .bf16⟩
  | .hbm, ⟨42, _⟩ => ⟨S512x1024, .f32⟩
  | .hbm, ⟨43, _⟩ => ⟨S8192x512, .f32⟩
  | .hbm, ⟨44, _⟩ => ⟨S8192x1024, .f32⟩
  | .hbm, ⟨45, _⟩ => ⟨S8192x1x1024, .f32⟩
  | .hbm, ⟨46, _⟩ => ⟨S8192x1024, .f32⟩
  | .hbm, ⟨47, _⟩ => ⟨S8192x1024, .f32⟩
  | .hbm, ⟨48, _⟩ => ⟨S8192x1x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S8192x1024, .bf16⟩
  | .hbm, ⟨57, _⟩ => ⟨S8192x1024, .bf16⟩
  | .hbm, ⟨58, _⟩ => ⟨S8192x1024, .bf16⟩
  | .hbm, ⟨59, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩

abbrev nD : Nat := 1
abbrev τ : Topo := Topo.v7x

variable {F : FTy → Type} [FloatOps F]
-- ==== Kernel18.lean ====
abbrev S8192x512 : Shape := ⟨2, ![8192, 512]⟩
abbrev S8192x1024 : Shape := ⟨2, ![8192, 1024]⟩
abbrev S4x512x256 : Shape := ⟨3, ![4, 512, 256]⟩
abbrev S1024x512 : Shape := ⟨2, ![1024, 512]⟩
abbrev S1024x1024 : Shape := ⟨2, ![1024, 1024]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x256, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference18Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S1x512x256, .f32⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S4x512x256, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel19.lean ====
abbrev S8192x1024 : Shape := ⟨2, ![8192, 1024]⟩
abbrev S4x512x256 : Shape := ⟨3, ![4, 512, 256]⟩
abbrev S8192x512 : Shape := ⟨2, ![8192, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 3
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S4x512x256, .bf16⟩
  | .hbm, ⟨2, _⟩ => ⟨S8192x512, .bf16⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1024x256, .bf16⟩
  | .local _ .vmem, ⟨4, _⟩ => ⟨S1024x256, .bf16⟩
  | .local _ .vmem, ⟨5, _⟩ => ⟨S1x512x256, .bf16⟩
  | .local _ .vmem, ⟨6, _⟩ => ⟨S1024x256, .bf16⟩
  | .local _ .vmem, ⟨7, _⟩ => ⟨S1024x256, .bf16⟩
  | .local _ .vmem, ⟨8, _⟩ => ⟨S1x512x256, .bf16⟩
  | .local _ .vmem, ⟨9, _⟩ => ⟨S1024x256, .bf16⟩
  | .local _ .vmem, ⟨10, _⟩ => ⟨S1024x256, .bf16⟩
  | .local _ .vmem, ⟨11, _⟩ => ⟨S1x512x256, .bf16⟩
  | .local _ .vmem, ⟨12, _⟩ => ⟨S1024x512, .bf16⟩
  | .local _ .vmem, ⟨13, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference19Ideal.lean ====
abbrev S8192x1024 : Shape := ⟨2, ![8192, 1024]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S_ : Shape := ⟨0, ![]⟩
abbrev S8192x512 : Shape := ⟨2, ![8192, 512]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x512x256, .bf16⟩
  | .hbm, ⟨2, _⟩ => ⟨S1x512x256, .bf16⟩
  | .hbm, ⟨3, _⟩ => ⟨S512x256, .bf16⟩
  | .hbm, ⟨4, _⟩ => ⟨S1x512x256, .bf16⟩
  | .hbm, ⟨5, _⟩ => ⟨S512x256, .bf16⟩
  | .hbm, ⟨6, _⟩ => ⟨S1x512x256, .bf16⟩
  | .hbm, ⟨7, _⟩ => ⟨S512x256, .bf16⟩
  | .hbm, ⟨8, _⟩ => ⟨S1x512x256, .bf16⟩
  | .hbm, ⟨9, _⟩ => ⟨S512x256, .bf16⟩
  | .hbm, ⟨10, _⟩ => ⟨S512x1024, .bf16⟩
  | .hbm, ⟨11, _⟩ => ⟨S512x1024, .f32⟩
  | .hbm, ⟨12, _⟩ => ⟨S_, .f32⟩
  | .hbm, ⟨13, _⟩ => ⟨S8192x512, .f32⟩
  | .hbm, ⟨14, _⟩ => ⟨S8192x1024, .f32⟩
  | .hbm, ⟨15, _⟩ => ⟨S8192x1024, .f32⟩
  | .hbm, ⟨16, _⟩ => ⟨S8192x512, .f32⟩
  | .hbm, ⟨17, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel20.lean ====
abbrev S8192x512 : Shape := ⟨2, ![8192, 512]⟩
abbrev S8192x1024 : Shape := ⟨2, ![8192, 1024]⟩
abbrev S4x512x256 : Shape := ⟨3, ![4, 512, 256]⟩
abbrev S1024x512 : Shape := ⟨2, ![1024, 512]⟩
abbrev S1024x1024 : Shape := ⟨2, ![1024, 1024]⟩
abbrev S512x1024 : Shape := ⟨2, ![512, 1024]⟩
abbrev S1x512x256 : Shape := ⟨3, ![1, 512, 256]⟩
abbrev S512x256 : Shape := ⟨2, ![512, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S4x512x256, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x256, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference20Ideal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩
abbrev S512x256 : Shape := ⟨2, ![512, 256]⟩
abbrev S1x512x256 : Shape := ⟨3, ![1, 512, 256]⟩
abbrev S4x512x256 : Shape := ⟨3, ![4, 512, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S512x256, .f32⟩
  | .hbm, ⟨10, _⟩ => ⟨S512x256, .f32⟩
  | .hbm, ⟨11, _⟩ => ⟨S512x256, .f32⟩
  | .hbm, ⟨12, _⟩ => ⟨S512x256, .f32⟩
  | .hbm, ⟨13, _⟩ => ⟨S1x512x256, .f32⟩
  | .hbm, ⟨14, _⟩ => ⟨S1x512x256, .f32⟩
  | .hbm, ⟨15, _⟩ => ⟨S1x512x256, .f32⟩
  | .hbm, ⟨16, _⟩ => ⟨S1x512x256, .f32⟩
  | .hbm, ⟨17, _⟩ => ⟨S4x512x256, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel21.lean ====
abbrev S8192x1024 : Shape := ⟨2, ![8192, 1024]⟩
abbrev S4x512x256 : Shape := ⟨3, ![4, 512, 256]⟩
abbrev S8192x512 : Shape := ⟨2, ![8192, 512]⟩
abbrev S1024x256 : Shape := ⟨2, ![1024, 256]⟩
abbrev S1x512x256 : Shape := ⟨3, ![1, 512, 256]⟩
abbrev S1024x512 : Shape := ⟨2, ![1024, 512]⟩
abbrev S512x256 : Shape := ⟨2, ![512, 256]⟩

abbrev nBuf : Space → Nat
  | .hbm => 3
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S4x512x256, .bf16⟩
  | .hbm, ⟨2, _⟩ => ⟨S8192x512, .bf16⟩
  | .local _ .vmem, ⟨0, _⟩ => ⟨S1024x256, .bf16⟩
  | .local _ .vmem, ⟨1, _⟩ => ⟨S1024x256, .bf16⟩
  | .local _ .vmem, ⟨2, _⟩ => ⟨S1x512x256, .bf16⟩
  | .local _ .vmem, ⟨3, _⟩ => ⟨S1024x256, .bf16⟩
  | .local _ .vmem, ⟨4, _⟩ => ⟨S1024x256, .bf16⟩
  | .local _ .vmem, ⟨5, _⟩ => ⟨S1x512x256, .bf16⟩
  | .local _ .vmem, ⟨6, _⟩ => ⟨S1024x256, .bf16⟩
  | .local _ .vmem, ⟨7, _⟩ => ⟨S1024x256, .bf16⟩
  | .local _ .vmem, ⟨8, _⟩ => ⟨S1x512x256, .bf16⟩
  | .local _ .vmem, ⟨9, _⟩ => ⟨S1024x256, .bf16⟩
  | .local _ .vmem, ⟨10, _⟩ => ⟨S1024x256, .bf16⟩
  | .local _ .vmem, ⟨11, _⟩ => ⟨S1x512x256, .bf16⟩
  | .local _ .vmem, ⟨12, _⟩ => ⟨S1024x512, .bf16⟩
  | .local _ .vmem, ⟨13, _⟩ => ⟨S1024x512, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference21Ideal.lean ====
abbrev S8192x1024 : Shape := ⟨2, ![8192, 1024]⟩
abbrev S4x512x256 : Shape := ⟨3, ![4, 512, 256]⟩
abbrev S1x512x256 : Shape := ⟨3, ![1, 512, 256]⟩
abbrev S512x256 : Shape := ⟨2, ![512, 256]⟩
abbrev S512x1024 : Shape := ⟨2, ![512, 1024]⟩
abbrev S_ : Shape := ⟨0, ![]⟩
abbrev S8192x512 : Shape := ⟨2, ![8192, 512]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x512x256, .bf16⟩
  | .hbm, ⟨2, _⟩ => ⟨S1x512x256, .bf16⟩
  | .hbm, ⟨3, _⟩ => ⟨S512x256, .bf16⟩
  | .hbm, ⟨4, _⟩ => ⟨S1x512x256, .bf16⟩
  | .hbm, ⟨5, _⟩ => ⟨S512x256, .bf16⟩
  | .hbm, ⟨6, _⟩ => ⟨S1x512x256, .bf16⟩
  | .hbm, ⟨7, _⟩ => ⟨S512x256, .bf16⟩
  | .hbm, ⟨8, _⟩ => ⟨S1x512x256, .bf16⟩
  | .hbm, ⟨9, _⟩ => ⟨S512x256, .bf16⟩
  | .hbm, ⟨10, _⟩ => ⟨S512x1024, .bf16⟩
  | .hbm, ⟨11, _⟩ => ⟨S512x1024, .f32⟩
  | .hbm, ⟨12, _⟩ => ⟨S_, .f32⟩
  | .hbm, ⟨13, _⟩ => ⟨S8192x512, .f32⟩
  | .hbm, ⟨14, _⟩ => ⟨S8192x1024, .f32⟩
  | .hbm, ⟨15, _⟩ => ⟨S8192x1024, .f32⟩
  | .hbm, ⟨16, _⟩ => ⟨S8192x512, .f32⟩
  | .hbm, ⟨17, _⟩ => ⟨S8192x512, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel22.lean ====
abbrev S8192x256 : Shape := ⟨2, ![8192, 256]⟩
abbrev S8192x1024 : Shape := ⟨2, ![8192, 1024]⟩
abbrev S4x256x256 : Shape := ⟨3, ![4, 256, 256]⟩
abbrev S1024x256 : Shape := ⟨2, ![1024, 256]⟩
abbrev S1024x1024 : Shape := ⟨2, ![1024, 1024]⟩
abbrev S256x1024 : Shape := ⟨2, ![256, 1024]⟩
abbrev S1x256x256 : Shape := ⟨3, ![1, 256, 256]⟩
abbrev S256x256 : Shape := ⟨2, ![256, 256]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S4x256x256, .f32⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S4x256x256, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi arg1 c0_i32
  let c0_i32_0 : BitVec 32 := 0#32
  let c0_i32_1 : BitVec 32 := 0#32
  ![v0.toNat, arg0.toNat, c0_i32_0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference22Ideal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩
abbrev S256x256 : Shape := ⟨2, ![256, 256]⟩
abbrev S1x256x256 : Shape := ⟨3, ![1, 256, 256]⟩
abbrev S4x256x256 : Shape := ⟨3, ![4, 256, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S256x256, .f32⟩
  | .hbm, ⟨10, _⟩ => ⟨S256x256, .f32⟩
  | .hbm, ⟨11, _⟩ => ⟨S256x256, .f32⟩
  | .hbm, ⟨12, _⟩ => ⟨S256x256, .f32⟩
  | .hbm, ⟨13, _⟩ => ⟨S1x256x256, .f32⟩
  | .hbm, ⟨14, _⟩ => ⟨S1x256x256, .f32⟩
  | .hbm, ⟨15, _⟩ => ⟨S1x256x256, .f32⟩
  | .hbm, ⟨16, _⟩ => ⟨S1x256x256, .f32⟩
  | .hbm, ⟨17, _⟩ => ⟨S4x256x256, .f32⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel23.lean ====
abbrev S8192x1024 : Shape := ⟨2, ![8192, 1024]⟩
abbrev S4x256x256 : Shape := ⟨3, ![4, 256, 256]⟩
abbrev S8192x256 : Shape := ⟨2, ![8192, 256]⟩
abbrev S1024x256 : Shape := ⟨2, ![1024, 256]⟩
abbrev S1x256x256 : Shape := ⟨3, ![1, 256, 256]⟩
abbrev S256x256 : Shape := ⟨2, ![256, 256]⟩

abbrev nBuf : Space → Nat
  | .hbm => 3
  | .vmem => 14
  | .smem => 0
  | _ => 0

abbrev bufTy : (tb : Table) → Fin (tcTables nBuf tb) → BufTy
  | .hbm, ⟨0, _⟩ => ⟨S8192x1024, .bf16⟩
  | .hbm, ⟨1, _⟩ => ⟨S4x256x256, .bf16⟩
  | .hbm, ⟨2, _⟩ => ⟨S8192x256, .bf16⟩
  | .local _ .vmem, ⟨0, _⟩ => ⟨S1024x256, .bf16⟩
  | .local _ .vmem, ⟨1, _⟩ => ⟨S1024x256, .bf16⟩
  | .local _ .vmem, ⟨2, _⟩ => ⟨S1x256x256, .bf16⟩
  | .local _ .vmem, ⟨3, _⟩ => ⟨S1024x256, .bf16⟩
  | .local _ .vmem, ⟨4, _⟩ => ⟨S1024x256, .bf16⟩
  | .local _ .vmem, ⟨5, _⟩ => ⟨S1x256x256, .bf16⟩
  | .local _ .vmem, ⟨6, _⟩ => ⟨S1024x256, .bf16⟩
  | .local _ .vmem, ⟨7, _⟩ => ⟨S1024x256, .bf16⟩
  | .local _ .vmem, ⟨8, _⟩ => ⟨S1x256x256, .bf16⟩
  | .local _ .vmem, ⟨9, _⟩ => ⟨S1024x256, .bf16⟩
  | .local _ .vmem, ⟨10, _⟩ => ⟨S1024x256, .bf16⟩
  | .local _ .vmem, ⟨11, _⟩ => ⟨S1x256x256, .bf16⟩
  | .local _ .vmem, ⟨12, _⟩ => ⟨S1024x256, .bf16⟩
  | .local _ .vmem, ⟨13, _⟩ => ⟨S1024x256, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_5 (i : grid0.Coords) : Fin 3 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_7 (i : grid0.Coords) : Fin 3 → Nat :=
  let arg0 : BitVec 32 := BitVec.ofNat 32 (i 0).val
  let arg1 : BitVec 32 := BitVec.ofNat 32 (i 1).val
  let c3_i32 : BitVec 32 := 3#32
  let c0_i32 : BitVec 32 := 0#32
  let c0_i32_0 : BitVec 32 := 0#32
  ![c3_i32.toNat, arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference23Ideal.lean ====
abbrev S8192x1024 : Shape := ⟨2, ![8192, 1024]⟩
abbrev S4x256x256 : Shape := ⟨3, ![4, 256, 256]⟩
abbrev S1x256x256 : Shape := ⟨3, ![1, 256, 256]⟩
abbrev S256x256 : Shape := ⟨2, ![256, 256]⟩
abbrev S256x1024 : Shape := ⟨2, ![256, 1024]⟩
abbrev S_ : Shape := ⟨0, ![]⟩
abbrev S8192x256 : Shape := ⟨2, ![8192, 256]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x256x256, .bf16⟩
  | .hbm, ⟨2, _⟩ => ⟨S1x256x256, .bf16⟩
  | .hbm, ⟨3, _⟩ => ⟨S256x256, .bf16⟩
  | .hbm, ⟨4, _⟩ => ⟨S1x256x256, .bf16⟩
  | .hbm, ⟨5, _⟩ => ⟨S256x256, .bf16⟩
  | .hbm, ⟨6, _⟩ => ⟨S1x256x256, .bf16⟩
  | .hbm, ⟨7, _⟩ => ⟨S256x256, .bf16⟩
  | .hbm, ⟨8, _⟩ => ⟨S1x256x256, .bf16⟩
  | .hbm, ⟨9, _⟩ => ⟨S256x256, .bf16⟩
  | .hbm, ⟨10, _⟩ => ⟨S256x1024, .bf16⟩
  | .hbm, ⟨11, _⟩ => ⟨S256x1024, .f32⟩
  | .hbm, ⟨12, _⟩ => ⟨S_, .f32⟩
  | .hbm, ⟨13, _⟩ => ⟨S8192x256, .f32⟩
  | .hbm, ⟨14, _⟩ => ⟨S8192x1024, .f32⟩
  | .hbm, ⟨15, _⟩ => ⟨S8192x1024, .f32⟩
  | .hbm, ⟨16, _⟩ => ⟨S8192x256, .f32⟩
  | .hbm, ⟨17, _⟩ => ⟨S8192x256, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_cst : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Proof.SbOffsets.lean ====
/-
  The offsets the gradient of the stick-breaking attention addresses its blocks by, in closed form, and the number
  of trips of its two loops. With `a` the row block of the point, the body visits the column blocks `a, a - 1, …, 0`:
  the first `a % 3 + 1` of them before the loop, three more in each of the `a / 3` trips.
-/
module

public import proofs.«01_k».proof.Proof.Gen.KernelIdeal
public import Idealize.ShloMosaic.Lib.Exec
public import Idealize.ShloMosaic.Lib.Tactic

@[expose] public section

namespace Cert.KernelIdeal.Sb

open Cert.KernelIdeal Cert.KernelIdeal.Gen Idealize.ShloMosaic Idealize.ShloMosaic.Tactic

/-- The row block of a grid point. -/
abbrev rowBlk (i : grid0.Coords) : ℕ := (i 2).val

/-- The first group is one block exactly at the row blocks that are multiples of three. -/
theorem cond2_iff : ∀ i : grid0.Coords, k0_cond2 i = 1#1 ↔ rowBlk i % 3 = 0 := by decide +kernel
/-- The first group is two blocks exactly at the row blocks one past a multiple of three. -/
theorem cond3_iff : ∀ i : grid0.Coords, k0_cond3 i = 1#1 ↔ rowBlk i % 3 = 1 := by decide +kernel
/-- The accumulated gradients are written out at the last row block. -/
theorem cond4_iff : ∀ i : grid0.Coords, k0_cond4 i = 1#1 ↔ rowBlk i = 7 := by decide +kernel

/-- The main loop makes `a / 3` trips. -/
theorem trips1 : ∀ i : grid0.Coords, (k0_t1_loop i).trips = rowBlk i / 3 := by decide +kernel
/-- The remainder loop makes none. -/
theorem trips2 : ∀ i : grid0.Coords, (k0_t2_loop i).trips = 0 := by decide +kernel

/-! ### The second block of a first group of two, the second and third of a first group of three -/

theorem off6_eq : ∀ i : grid0.Coords, rowBlk i % 3 = 1 → k0_off6 i = ![0, 256 * (rowBlk i - 1), 0] := by decide +kernel
theorem off9_eq : ∀ i : grid0.Coords, rowBlk i % 3 = 1 → k0_off9 i = ![0, 0, 0, 0, rowBlk i - 1, 0, 0] := by decide +kernel
theorem off10_eq : ∀ i : grid0.Coords, rowBlk i % 3 = 1 → k0_off10 i = ![0, 0, 0, 1, rowBlk i - 1, 0, 0] := by decide +kernel
theorem off12_eq : ∀ i : grid0.Coords, rowBlk i % 3 = 1 → k0_off12 i = ![256 * (rowBlk i - 1), 0] := by decide +kernel
theorem off14a_eq : ∀ i : grid0.Coords, rowBlk i % 3 = 2 → k0_off14 i 1#32 = ![0, 256 * (rowBlk i - 1), 0] := by decide +kernel
theorem off14b_eq : ∀ i : grid0.Coords, rowBlk i % 3 = 2 → k0_off14 i 2#32 = ![0, 256 * (rowBlk i - 2), 0] := by decide +kernel
theorem off17a_eq : ∀ i : grid0.Coords, rowBlk i % 3 = 2 → k0_off17 i 1#32 = ![0, 0, 0, 0, rowBlk i - 1, 0, 0] := by decide +kernel
theorem off17b_eq : ∀ i : grid0.Coords, rowBlk i % 3 = 2 → k0_off17 i 2#32 = ![0, 0, 0, 0, rowBlk i - 2, 0, 0] := by decide +kernel
theorem off18a_eq : ∀ i : grid0.Coords, rowBlk i % 3 = 2 → k0_off18 i 1#32 = ![0, 0, 0, 1, rowBlk i - 1, 0, 0] := by decide +kernel
theorem off18b_eq : ∀ i : grid0.Coords, rowBlk i % 3 = 2 → k0_off18 i 2#32 = ![0, 0, 0, 1, rowBlk i - 2, 0, 0] := by decide +kernel
theorem off20a_eq : ∀ i : grid0.Coords, rowBlk i % 3 = 2 → k0_off20 i 1#32 = ![256 * (rowBlk i - 1), 0] := by decide +kernel
theorem off20b_eq : ∀ i : grid0.Coords, rowBlk i % 3 = 2 → k0_off20 i 2#32 = ![256 * (rowBlk i - 2), 0] := by decide +kernel

/-! ### The three blocks of a trip -/

/-- The lowest block of trip `k`: three for each trip still to come. -/
abbrev low (i : grid0.Coords) (k : ℕ) : ℕ := 3 * (rowBlk i / 3 - 1 - k)

theorem off21_eq : ∀ (i : grid0.Coords) (k : Fin (k0_t1_loop i).trips), k0_off21 i k = ![0, 256 * (low i k + 2), 0] := by decide +kernel
theorem off22a_eq : ∀ (i : grid0.Coords) (k : Fin (k0_t1_loop i).trips), k0_off22 i k 1#32 = ![0, 256 * (low i k + 1), 0] := by decide +kernel
theorem off22b_eq : ∀ (i : grid0.Coords) (k : Fin (k0_t1_loop i).trips), k0_off22 i k 2#32 = ![0, 256 * (low i k), 0] := by decide +kernel
theorem off23_eq : ∀ (i : grid0.Coords) (k : Fin (k0_t1_loop i).trips), k0_off23 i k = ![0, 0, 0, 0, low i k + 2, 0, 0] := by decide +kernel
theorem off24_eq : ∀ (i : grid0.Coords) (k : Fin (k0_t1_loop i).trips), k0_off24 i k = ![0, 0, 0, 1, low i k + 2, 0, 0] := by decide +kernel
theorem off25a_eq : ∀ (i : grid0.Coords) (k : Fin (k0_t1_loop i).trips), k0_off25 i k 1#32 = ![0, 0, 0, 0, low i k + 1, 0, 0] := by decide +kernel
theorem off25b_eq : ∀ (i : grid0.Coords) (k : Fin (k0_t1_loop i).trips), k0_off25 i k 2#32 = ![0, 0, 0, 0, low i k, 0, 0] := by decide +kernel
theorem off26a_eq : ∀ (i : grid0.Coords) (k : Fin (k0_t1_loop i).trips), k0_off26 i k 1#32 = ![0, 0, 0, 1, low i k + 1, 0, 0] := by decide +kernel
theorem off26b_eq : ∀ (i : grid0.Coords) (k : Fin (k0_t1_loop i).trips), k0_off26 i k 2#32 = ![0, 0, 0, 1, low i k, 0, 0] := by decide +kernel
theorem off27_eq : ∀ (i : grid0.Coords) (k : Fin (k0_t1_loop i).trips), k0_off27 i k = ![256 * (low i k + 2), 0] := by decide +kernel
theorem off28a_eq : ∀ (i : grid0.Coords) (k : Fin (k0_t1_loop i).trips), k0_off28 i k 1#32 = ![256 * (low i k + 1), 0] := by decide +kernel
theorem off28b_eq : ∀ (i : grid0.Coords) (k : Fin (k0_t1_loop i).trips), k0_off28 i k 2#32 = ![256 * (low i k), 0] := by decide +kernel

/-! ### The same as the forms the run of the body reads -/

section Instances

variable (i : grid0.Coords)

instance closed6 [h : Fact (rowBlk i % 3 = 1)] : ClosedOff (k0_off6 i) := ⟨_, off6_eq i h.out⟩
instance closed9 [h : Fact (rowBlk i % 3 = 1)] : ClosedOff (k0_off9 i) := ⟨_, off9_eq i h.out⟩
instance closed10 [h : Fact (rowBlk i % 3 = 1)] : ClosedOff (k0_off10 i) := ⟨_, off10_eq i h.out⟩
instance closed12 [h : Fact (rowBlk i % 3 = 1)] : ClosedOff (k0_off12 i) := ⟨_, off12_eq i h.out⟩
instance closed14a [h : Fact (rowBlk i % 3 = 2)] : ClosedOff (k0_off14 i 1#32) := ⟨_, off14a_eq i h.out⟩
instance closed14b [h : Fact (rowBlk i % 3 = 2)] : ClosedOff (k0_off14 i 2#32) := ⟨_, off14b_eq i h.out⟩
instance closed17a [h : Fact (rowBlk i % 3 = 2)] : ClosedOff (k0_off17 i 1#32) := ⟨_, off17a_eq i h.out⟩
instance closed17b [h : Fact (rowBlk i % 3 = 2)] : ClosedOff (k0_off17 i 2#32) := ⟨_, off17b_eq i h.out⟩
instance closed18a [h : Fact (rowBlk i % 3 = 2)] : ClosedOff (k0_off18 i 1#32) := ⟨_, off18a_eq i h.out⟩
instance closed18b [h : Fact (rowBlk i % 3 = 2)] : ClosedOff (k0_off18 i 2#32) := ⟨_, off18b_eq i h.out⟩
instance closed20a [h : Fact (rowBlk i % 3 = 2)] : ClosedOff (k0_off20 i 1#32) := ⟨_, off20a_eq i h.out⟩
instance closed20b [h : Fact (rowBlk i % 3 = 2)] : ClosedOff (k0_off20 i 2#32) := ⟨_, off20b_eq i h.out⟩

variable (k : Fin (k0_t1_loop i).trips)

instance closed21 : ClosedOff (k0_off21 i k) := ⟨_, off21_eq i k⟩
instance closed22a : ClosedOff (k0_off22 i k 1#32) := ⟨_, off22a_eq i k⟩
instance closed22b : ClosedOff (k0_off22 i k 2#32) := ⟨_, off22b_eq i k⟩
instance closed23 : ClosedOff (k0_off23 i k) := ⟨_, off23_eq i k⟩
instance closed24 : ClosedOff (k0_off24 i k) := ⟨_, off24_eq i k⟩
instance closed25a : ClosedOff (k0_off25 i k 1#32) := ⟨_, off25a_eq i k⟩
instance closed25b : ClosedOff (k0_off25 i k 2#32) := ⟨_, off25b_eq i k⟩
instance closed26a : ClosedOff (k0_off26 i k 1#32) := ⟨_, off26a_eq i k⟩
instance closed26b : ClosedOff (k0_off26 i k 2#32) := ⟨_, off26b_eq i k⟩
instance closed27 : ClosedOff (k0_off27 i k) := ⟨_, off27_eq i k⟩
instance closed28a : ClosedOff (k0_off28 i k 1#32) := ⟨_, off28a_eq i k⟩
instance closed28b : ClosedOff (k0_off28 i k 2#32) := ⟨_, off28b_eq i k⟩

end Instances

end Cert.KernelIdeal.Sb

end
-- ==== Proof.SbTrip.lean ====
/-
  One trip of the main loop of the gradient of the stick-breaking attention: three column blocks, from the right to
  the left. A trip takes the running sums of the two heads and of the query's gradient, and the contents of the two
  accumulators of the keys' and values' gradients; it gives all five back.
-/
module

public import proofs.«01_k».proof.Proof.SbOffsets
public import proofs.«01_k».proof.Proof.Gen.KernelIdeal.Loops
public import Idealize.ShloMosaic.Lib.Pipeline.FrameBody

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the loop carries: the running sums of the two heads, and the query's gradient. -/
abbrev Carry (F : FTy → Type) : Type := FVec F S256x1 .f32 × FVec F S256x1 .f32 × FVec F S256x128 .f32

section Trip

variable (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (v10 : FVec F S256x256 .bf16) (v44 : IVec S1x128 1) (v50 : FVec F S256x1 .f32) (v56 : FVec F S256x128 .bf16) (v60 : FVec F S256x128 .bf16)
  (v86 : IVec S1x128 1) (v92 : FVec F S256x1 .f32) (v98 : FVec F S256x128 .bf16) (v102 : FVec F S256x128 .bf16) (v113 : BitVec 32)
  (x4 : Vec F S1x2048x128 .bf16) (x5 : Vec F S1x2048x128 .bf16) (x8 : Vec F S1x1x1x2x8x256x256 .bf16)

/-- What a trip holds: the blocks it reads, and the two accumulators at their contents. -/
def held (f12 : Buf (Elt F) (arg12.view.loc (c : Thread nD τ))) (f13 : Buf (Elt F) (arg13.view.loc (c : Thread nD τ))) : sProp 𝕄 :=
  iprop((arg4.view.loc (c : Thread nD τ) ↦[arg4.view.set]{fullShare} harg4.unread x4)
    ∗ (arg5.view.loc (c : Thread nD τ) ↦[arg5.view.set]{fullShare} harg5.unread x5)
    ∗ (arg8.view.loc (c : Thread nD τ) ↦[arg8.view.set]{fullShare} harg8.unread x8)
    ∗ (arg12.view.loc (c : Thread nD τ) ↦[arg12.view.set]{fullShare} f12)
    ∗ (arg13.view.loc (c : Thread nD τ) ↦[arg13.view.set]{fullShare} f13))

set_option backward.proofsInPublic true in
set_option maxHeartbeats 4000000 in
/-- One trip: what it carries on and the pieces it writes into the two accumulators, with the proof that it runs. -/
def trip (k : Fin (k0_t1_loop i).trips) (a : Carry F) (f12 : Buf (Elt F) (arg12.view.loc (c : Thread nD τ))) (f13 : Buf (Elt F) (arg13.view.loc (c : Thread nD τ))) :
    Σ' (L12 : List (View.Piece (Elt F) S2048x128 .f32)) (L13 : List (View.Piece (Elt F) S2048x128 .f32)), { a' : Carry F //
      held c arg4 harg4 arg5 harg5 arg8 harg8 arg12 arg13 x4 x5 x8 f12 f13
        ⊢ wp frame (wpE (defs₀ (F := F)) Variants.none (c : Thread nD τ) none) Set.univ
            (k0_t1_body (F := F) i arg3 harg3 arg4 harg4 arg5 harg5 arg6 harg6 arg7 harg7 arg8 harg8 arg9 harg9 arg10 harg10 arg11 harg11 arg12 harg12 arg13 harg13 v10 v44 v50 v56 v60 v86 v92 v98 v102 v113 k a)
            (fun r => iprop(⌜r = a'⌝ ∗ held c arg4 harg4 arg5 harg5 arg8 harg8 arg12 arg13 x4 x5 x8 (arg12.view.writes (Elt F) f12 L12) (arg13.view.writes (Elt F) f13 L13))) } := by
  obtain ⟨a0, a1, a2⟩ := a
  refine ⟨?_, ?_, ?_, ?run⟩
  case run =>
    unfold held
    iintro ⟨H4, H5, H8, H12, H13⟩
    sl_unfold [k0_t1_body]
    simp only [k0_part16_eq_skeleton, k0_part17_eq_skeleton, k0_part18_eq_skeleton, k0_part19_eq_skeleton, k0_part20_eq_skeleton, k0_part21_eq_skeleton, k0_part22_eq_skeleton, k0_part23_eq_skeleton]
    sl_exec
    sl_step
    isplitr
    · ipureintro; rfl
    isplitl [H4]; · iexact H4
    isplitl [H5]; · iexact H5
    isplitl [H8]; · iexact H8
    isplitl [H12]; · iexact H12
    iexact H13

end Trip

end Cert.KernelIdeal.Sb

end
end
-- ==== Proof.SbLoops.lean ====
/-
  The two loops of the gradient of the stick-breaking attention as invariants: the first carries what its trips leave,
  from the right to the left; the second makes no trip.
-/
module

public import proofs.«01_k».proof.Proof.SbTrip

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Loops

variable (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (v10 : FVec F S256x256 .bf16) (v44 : IVec S1x128 1) (v50 : FVec F S256x1 .f32) (v56 : FVec F S256x128 .bf16) (v60 : FVec F S256x128 .bf16)
  (v86 : IVec S1x128 1) (v92 : FVec F S256x1 .f32) (v98 : FVec F S256x128 .bf16) (v102 : FVec F S256x128 .bf16) (v113 : BitVec 32)
  (x4 : Vec F S1x2048x128 .bf16) (x5 : Vec F S1x2048x128 .bf16) (x8 : Vec F S1x1x1x2x8x256x256 .bf16)

/-- What the loop has after `k` trips: what it carries and the contents of the two accumulators. -/
def after (a : Carry F) (f12 : Buf (Elt F) (arg12.view.loc (c : Thread nD τ))) (f13 : Buf (Elt F) (arg13.view.loc (c : Thread nD τ))) :
    ℕ → Carry F × Buf (Elt F) (arg12.view.loc (c : Thread nD τ)) × Buf (Elt F) (arg13.view.loc (c : Thread nD τ))
  | 0 => (a, f12, f13)
  | k + 1 =>
    let s := after a f12 f13 k
    if h : k < (k0_t1_loop i).trips then
      let T := trip c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 ⟨k, h⟩ s.1 s.2.1 s.2.2
      (T.2.2.1, arg12.view.writes (Elt F) s.2.1 T.1, arg13.view.writes (Elt F) s.2.2 T.2.1)
    else s

/-- Before the first trip it has what it was given. -/
@[sl_canon] theorem after_zero (a : Carry F) (f12 : Buf (Elt F) (arg12.view.loc (c : Thread nD τ))) (f13 : Buf (Elt F) (arg13.view.loc (c : Thread nD τ))) :
    after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 a f12 f13 0 = (a, f12, f13) := rfl

set_option warn.classDefReducibility false in
/-- The main loop's invariant. -/
@[sl_loop] def mainLoop (init : Carry F) (f12 : Buf (Elt F) (arg12.view.loc (c : Thread nD τ))) (f13 : Buf (Elt F) (arg13.view.loc (c : Thread nD τ))) :
    LoopInvTy_k0_t1 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 v10 v44 v50 v56 v60 v86 v92 v98 v102 v113 init where
  inv k acc := iprop(⌜acc = (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k).1⌝
    ∗ (arg4.view.loc (c : Thread nD τ) ↦[arg4.view.set]{fullShare} harg4.unread x4)
    ∗ (arg5.view.loc (c : Thread nD τ) ↦[arg5.view.set]{fullShare} harg5.unread x5)
    ∗ (arg8.view.loc (c : Thread nD τ) ↦[arg8.view.set]{fullShare} harg8.unread x8)
    ∗ (arg12.view.loc (c : Thread nD τ) ↦[arg12.view.set]{fullShare} (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k).2.1)
    ∗ (arg13.view.loc (c : Thread nD τ) ↦[arg13.view.set]{fullShare} (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k).2.2))
  step k acc := by
    have e : after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 (k.val + 1)
        = ((trip c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 k (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.2).2.2.1,
            arg12.view.writes (Elt F) (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.1 (trip c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 k (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.2).1,
            arg13.view.writes (Elt F) (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.2 (trip c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 k (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.2).2.1) := by
      rw [after]; exact dif_pos k.isLt
    rw [e]
    iintro ⟨%ha, H⟩
    subst ha
    iapply (wp_wand_r Idealize.ShloMosaic.frame (wpE (defs₀ (F := F)) Variants.none (c : Thread nD τ) none) Set.univ)
    isplitl [H]
    · iapply (trip c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 k (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.1 (after c i arg3 harg3 arg4 harg4 arg5 harg5 arg6 harg6 arg7 harg7 arg8 harg8 arg9 harg9 arg10 harg10 arg11 harg11 arg12 harg12 arg13 harg13 v10 v44 v50 v56 v60 v86 v92 v98 v102 v113 x4 x5 x8 init f12 f13 k.val).2.2).2.2.2
      unfold held; iexact H
    · unfold held; iintro %r H; iexact H

set_option warn.classDefReducibility false in
/-- The remainder loop's invariant: there is no trip (`trips2`). -/
@[sl_loop] def restLoop (v136 : BitVec 32) (init : Carry F) :
    LoopInvTy_k0_t2 (F := F) Unit ℕ (UR sig nD τ) ℕ Variants.none c none Set.univ i arg3 harg3 arg4 harg4 arg5 harg5 arg6 harg6 arg7 harg7 arg8 harg8 arg9 harg9 arg10 harg10 arg11 harg11 arg12 harg12 arg13 harg13 v10 v44 v50 v56 v60 v86 v92 v98 v102 v113 v136 init where
  inv _ acc := iprop(⌜acc = init⌝)
  step k _ := (Nat.not_lt_zero _ (Nat.lt_of_lt_of_eq k.isLt (trips2 i))).elim

end Loops

end Cert.KernelIdeal.Sb

end
end
-- ==== Proof.SbRunFirst.lean ====
/-
  The body of the gradient of the stick-breaking attention at the first row block.
-/
module

public import Idealize.ShloMosaic.Lib.VecWindow
public import proofs.«01_k».proof.Proof.SbLoops

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The accumulators are zeroed. -/
abbrev cond1 (i : grid0.Coords) : Prop :=
  Scalar.cmpi .ne (Scalar.extui (Scalar.cmpi .eq (BitVec.ofNat 32 (i 2).val) 0#32)) 0#32 = 1#1

/-- They are zeroed at the first row block. -/
theorem cond1_iff : ∀ i : grid0.Coords, cond1 i ↔ rowBlk i = 0 := by decide +kernel

set_option backward.proofsInPublic true in
set_option maxHeartbeats 4000000 in
/-- The body at the first row block: the accumulators are zeroed, the first group is one block. -/
def runFirst (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (hc1 : cond1 i) (hc2 : k0_cond2 i = 1#1) (hc4 : ¬ k0_cond4 i = 1#1)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) :
    Σ' (d9 : Vec F S1x256x128 .bf16), Σ' (d12 : Vec F S2048x128 .f32), { d13 : Vec F S2048x128 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg12 fullShare d) ∗ (∃ d, owns (c : Thread nD τ) arg13 fullShare d)
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg12 fullShare d12 ∗ owns (c : Thread nD τ) arg13 fullShare d13) -∗ K ⟨⟩))
          ⊢ wp frame (wpE (defs₀ (F := F)) Variants.none c none) Set.univ (cc0_sb_bwd i arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    have hN : rowBlk i < 8 := (i 2).isLt
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d12, %f12, -, H12⟩, ⟨%d13, %f13, -, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8
    simp only [cc0_sb_bwd_eq_skeleton]; unfold cc0_sb_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part32_eq_skeleton, k0_part33_eq_skeleton, k0_part34_eq_skeleton]
    sl_exec (disch := first | sl_exact hc4 | sl_exact hc2 | sl_exact hc1)
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr; swap; · iexact H9
      ipureintro; exact View.read_writes_full _ _ _ _ _
    isplitl [H12]
    · iexists _; isplitr; swap; · iexact H12
      ipureintro; rfl
    iexists _; isplitr; swap; · iexact H13
    ipureintro; rfl

end Cert.KernelIdeal.Sb

end
end
-- ==== Proof.SbRunOne.lean ====
/-
  The body at a later row block that begins with one block.
-/
module

public import Idealize.ShloMosaic.Lib.VecWindow
public import proofs.«01_k».proof.Proof.SbRunFirst

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 4000000 in
/-- The body at a later row block whose first group is one block. -/
def runOne (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (hc1 : ¬ cond1 i) (hc2 : k0_cond2 i = 1#1) (hc4 : ¬ k0_cond4 i = 1#1)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) (x12 : Vec F S2048x128 .f32) (x13 : Vec F S2048x128 .f32) :
    Σ' (d9 : Vec F S1x256x128 .bf16), Σ' (d12 : Vec F S2048x128 .f32), { d13 : Vec F S2048x128 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg12 fullShare x12 ∗ owns (c : Thread nD τ) arg13 fullShare x13
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg12 fullShare d12 ∗ owns (c : Thread nD τ) arg13 fullShare d13) -∗ K ⟨⟩))
          ⊢ wp frame (wpE (defs₀ (F := F)) Variants.none c none) Set.univ (cc0_sb_bwd i arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    have hN : rowBlk i < 8 := (i 2).isLt
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13
    simp only [cc0_sb_bwd_eq_skeleton]; unfold cc0_sb_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part32_eq_skeleton, k0_part33_eq_skeleton, k0_part34_eq_skeleton]
    sl_exec (disch := first | sl_exact hc4 | sl_exact hc2 | sl_exact hc1)
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr; swap; · iexact H9
      ipureintro; exact View.read_writes_full _ _ _ _ _
    isplitl [H12]
    · iexists _; isplitr; swap; · iexact H12
      ipureintro; rfl
    iexists _; isplitr; swap; · iexact H13
    ipureintro; rfl

end Cert.KernelIdeal.Sb

end
end
-- ==== Proof.SbRunTwo.lean ====
/-
  The body at a row block that begins with two blocks, the last among them.
-/
module

public import Idealize.ShloMosaic.Lib.VecWindow
public import proofs.«01_k».proof.Proof.SbRunOne

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 4000000 in
/-- The body at a row block whose first group is two blocks, not the last. -/
def runTwo (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (hc1 : ¬ cond1 i) (hc2 : ¬ k0_cond2 i = 1#1) (hc3 : k0_cond3 i = 1#1) (hc4 : ¬ k0_cond4 i = 1#1)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) (x12 : Vec F S2048x128 .f32) (x13 : Vec F S2048x128 .f32) :
    Σ' (d9 : Vec F S1x256x128 .bf16), Σ' (d12 : Vec F S2048x128 .f32), { d13 : Vec F S2048x128 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg12 fullShare x12 ∗ owns (c : Thread nD τ) arg13 fullShare x13
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg12 fullShare d12 ∗ owns (c : Thread nD τ) arg13 fullShare d13) -∗ K ⟨⟩))
          ⊢ wp frame (wpE (defs₀ (F := F)) Variants.none c none) Set.univ (cc0_sb_bwd i arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    have hN : rowBlk i < 8 := (i 2).isLt
    haveI : Fact (rowBlk i % 3 = 1) := ⟨(cond3_iff i).mp hc3⟩
    have ha := (cond3_iff i).mp hc3
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13
    simp only [cc0_sb_bwd_eq_skeleton]; unfold cc0_sb_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part32_eq_skeleton, k0_part33_eq_skeleton, k0_part34_eq_skeleton]
    sl_exec (disch := first | sl_exact hc4 | sl_exact hc3 | sl_exact hc2 | sl_exact hc1)
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr; swap; · iexact H9
      ipureintro; exact View.read_writes_full _ _ _ _ _
    isplitl [H12]
    · iexists _; isplitr; swap; · iexact H12
      ipureintro; rfl
    iexists _; isplitr; swap; · iexact H13
    ipureintro; rfl

set_option backward.proofsInPublic true in
set_option maxHeartbeats 4000000 in
/-- The body at the last row block: its first group is two blocks, and the accumulators are written out. -/
def runLast (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (hc1 : ¬ cond1 i) (hc2 : ¬ k0_cond2 i = 1#1) (hc3 : k0_cond3 i = 1#1) (hc4 : k0_cond4 i = 1#1)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) (x12 : Vec F S2048x128 .f32) (x13 : Vec F S2048x128 .f32) :
    Σ' (d9 : Vec F S1x256x128 .bf16), Σ' (d10 : Vec F S1x2048x128 .bf16), Σ' (d11 : Vec F S1x2048x128 .bf16), Σ' (d12 : Vec F S2048x128 .f32), { d13 : Vec F S2048x128 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ owns (c : Thread nD τ) arg12 fullShare x12 ∗ owns (c : Thread nD τ) arg13 fullShare x13
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg10 fullShare d10 ∗ owns (c : Thread nD τ) arg11 fullShare d11 ∗ owns (c : Thread nD τ) arg12 fullShare d12 ∗ owns (c : Thread nD τ) arg13 fullShare d13) -∗ K ⟨⟩))
          ⊢ wp frame (wpE (defs₀ (F := F)) Variants.none c none) Set.univ (cc0_sb_bwd i arg3 harg3 arg4 harg4 arg5 harg5 arg6 harg6 arg7 harg7 arg8 harg8 arg9 harg9 arg10 harg10 arg11 harg11 arg12 harg12 arg13 harg13) K } := by
  refine ⟨?_, ?_, ?_, ?_, ?_, fun K => ?run⟩
  case run =>
    have hN : rowBlk i < 8 := (i 2).isLt
    haveI : Fact (rowBlk i % 3 = 1) := ⟨(cond3_iff i).mp hc3⟩
    have ha := (cond3_iff i).mp hc3
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13
    simp only [cc0_sb_bwd_eq_skeleton]; unfold cc0_sb_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part32_eq_skeleton, k0_part33_eq_skeleton, k0_part34_eq_skeleton]
    sl_exec (disch := first | sl_exact hc4 | sl_exact hc3 | sl_exact hc2 | sl_exact hc1)
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr; swap; · iexact H9
      ipureintro; exact View.read_writes_full _ _ _ _ _
    isplitl [H10]
    · iexists _; isplitr; swap; · iexact H10
      ipureintro; exact View.read_writes_full _ _ _ _ _
    isplitl [H11]
    · iexists _; isplitr; swap; · iexact H11
      ipureintro; exact View.read_writes_full _ _ _ _ _
    isplitl [H12]
    · iexists _; isplitr; swap; · iexact H12
      ipureintro; rfl
    iexists _; isplitr; swap; · iexact H13
    ipureintro; rfl

end Cert.KernelIdeal.Sb

end
end
-- ==== Proof.SbRunThree.lean ====
/-
  The body at a row block that begins with three blocks.
-/
module

public import Idealize.ShloMosaic.Lib.VecWindow
public import proofs.«01_k».proof.Proof.SbRunTwo

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option backward.proofsInPublic true in
set_option maxHeartbeats 4000000 in
/-- The body at a row block whose first group is three blocks. -/
def runThree (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (hc1 : ¬ cond1 i) (hc2 : ¬ k0_cond2 i = 1#1) (hc3 : ¬ k0_cond3 i = 1#1) (hc4 : ¬ k0_cond4 i = 1#1)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) (x12 : Vec F S2048x128 .f32) (x13 : Vec F S2048x128 .f32) :
    Σ' (d9 : Vec F S1x256x128 .bf16), Σ' (d12 : Vec F S2048x128 .f32), { d13 : Vec F S2048x128 .f32 //
      ∀ (K : PUnit → sProp 𝕄),
        iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg12 fullShare x12 ∗ owns (c : Thread nD τ) arg13 fullShare x13
            ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare d9 ∗ owns (c : Thread nD τ) arg12 fullShare d12 ∗ owns (c : Thread nD τ) arg13 fullShare d13) -∗ K ⟨⟩))
          ⊢ wp frame (wpE (defs₀ (F := F)) Variants.none c none) Set.univ (cc0_sb_bwd i arg3 harg3 arg4 harg4 arg5 harg5 arg6 harg6 arg7 harg7 arg8 harg8 arg9 harg9 arg10 harg10 arg11 harg11 arg12 harg12 arg13 harg13) K } := by
  refine ⟨?_, ?_, ?_, fun K => ?run⟩
  case run =>
    have hN : rowBlk i < 8 := (i 2).isLt
    have ha : rowBlk i % 3 = 2 := by
      have h2 : ¬ rowBlk i % 3 = 0 := fun h => hc2 ((cond2_iff i).mpr h)
      have h3 : ¬ rowBlk i % 3 = 1 := fun h => hc3 ((cond3_iff i).mpr h)
      omega
    haveI : Fact (rowBlk i % 3 = 2) := ⟨ha⟩
    unfold owns
    iintro ⟨⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f12, %hf12, H12⟩, ⟨%f13, %hf13, H13⟩, Hk⟩
    obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg12.eq_unread hf12; obtain rfl := harg13.eq_unread hf13
    simp only [cc0_sb_bwd_eq_skeleton]; unfold cc0_sb_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part32_eq_skeleton, k0_part33_eq_skeleton, k0_part34_eq_skeleton]
    sl_exec (disch := first | sl_exact hc4 | sl_exact hc3 | sl_exact hc2 | sl_exact hc1)
    sl_step
    iapply Hk
    isplitl [H3]
    · iexists _; isplitr
      · ipureintro; exact harg3.read_unread _
      iexact H3
    isplitl [H4]
    · iexists _; isplitr
      · ipureintro; exact harg4.read_unread _
      iexact H4
    isplitl [H5]
    · iexists _; isplitr
      · ipureintro; exact harg5.read_unread _
      iexact H5
    isplitl [H6]
    · iexists _; isplitr
      · ipureintro; exact harg6.read_unread _
      iexact H6
    isplitl [H7]
    · iexists _; isplitr
      · ipureintro; exact harg7.read_unread _
      iexact H7
    isplitl [H8]
    · iexists _; isplitr
      · ipureintro; exact harg8.read_unread _
      iexact H8
    isplitl [H9]
    · iexists _; isplitr; swap; · iexact H9
      ipureintro; exact View.read_writes_full _ _ _ _ _
    isplitl [H12]
    · iexists _; isplitr; swap; · iexact H12
      ipureintro; rfl
    iexists _; isplitr; swap; · iexact H13
    ipureintro; rfl

end Cert.KernelIdeal.Sb

end
end
-- ==== Proof.SbFrame.lean ====
/-
  The gradient of the stick-breaking attention as a whole: what each point of the grid makes of its blocks and of the
  two accumulators, the launch, and that it leaves its arguments as they were. At any float values.
-/
module

public import Idealize.ShloMosaic.Lib.VecWindow
public import Idealize.ShloMosaic.Lib.Claim
public import proofs.«01_k».proof.Proof.Gen.KernelIdeal.Frame
public import proofs.«01_k».proof.Proof.SbRunThree

@[expose] public section

set_option maxRecDepth 16384

noncomputable section

namespace Cert.KernelIdeal.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.ShloMosaic.Pipeline (Dat Cfg Window BodyObligation cellOf)
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Zeroing the accumulators goes with a first group of one block. -/
theorem cond2_of_cond1 {i : grid0.Coords} (h : cond1 i) : k0_cond2 i = 1#1 :=
  (cond2_iff i).mpr (by rw [(cond1_iff i).mp h])

/-- The first row block is not the last. -/
theorem not_cond4_of_cond1 {i : grid0.Coords} (h : cond1 i) : ¬ k0_cond4 i = 1#1 := fun h4 => by
  have h1 := (cond1_iff i).mp h; have h2 := (cond4_iff i).mp h4; omega

/-- The last row block begins with two blocks, so a row block beginning with one is not the last. -/
theorem not_cond4_of_cond2 {i : grid0.Coords} (h : k0_cond2 i = 1#1) : ¬ k0_cond4 i = 1#1 := fun h4 => by
  have h1 := (cond2_iff i).mp h; have h2 := (cond4_iff i).mp h4; omega

/-- Nor is one that begins with three. -/
theorem not_cond4_of_not_cond3 {i : grid0.Coords} (h : ¬ k0_cond3 i = 1#1) : ¬ k0_cond4 i = 1#1 := fun h4 =>
  h ((cond3_iff i).mpr (by rw [(cond4_iff i).mp h4]))

/-- What the body makes of its blocks and of the accumulators as it finds them: the gradient of q's block; the gradients
    of k and v where it writes them (anything where it does not); the accumulators as it leaves them. -/
def step (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) (x12 : Vec F S2048x128 .f32) (x13 : Vec F S2048x128 .f32) :
    Vec F S1x256x128 .bf16 × Vec F S1x2048x128 .bf16 × Vec F S1x2048x128 .bf16 × Vec F S2048x128 .f32 × Vec F S2048x128 .f32 :=
  if h1 : cond1 i then
    ((runFirst c i arg3 harg3 arg4 harg4 arg5 harg5 arg6 harg6 arg7 harg7 arg8 harg8 arg9 harg9 arg10 harg10 arg11 harg11 arg12 harg12 arg13 harg13 h1 (cond2_of_cond1 h1) (not_cond4_of_cond1 h1) x3 x4 x5 x6 x7 x8).1,
      constant S1x2048x128 .bf16 0x0000#16, constant S1x2048x128 .bf16 0x0000#16,
      (runFirst c i arg3 harg3 arg4 harg4 arg5 harg5 arg6 harg6 arg7 harg7 arg8 harg8 arg9 harg9 arg10 harg10 arg11 harg11 arg12 harg12 arg13 harg13 h1 (cond2_of_cond1 h1) (not_cond4_of_cond1 h1) x3 x4 x5 x6 x7 x8).2.1,
      (runFirst c i arg3 harg3 arg4 harg4 arg5 harg5 arg6 harg6 arg7 harg7 arg8 harg8 arg9 harg9 arg10 harg10 arg11 harg11 arg12 harg12 arg13 harg13 h1 (cond2_of_cond1 h1) (not_cond4_of_cond1 h1) x3 x4 x5 x6 x7 x8).2.2.1)
  else if h2 : k0_cond2 i = 1#1 then
    ((runOne c i arg3 harg3 arg4 harg4 arg5 harg5 arg6 harg6 arg7 harg7 arg8 harg8 arg9 harg9 arg10 harg10 arg11 harg11 arg12 harg12 arg13 harg13 h1 h2 (not_cond4_of_cond2 h2) x3 x4 x5 x6 x7 x8 x12 x13).1,
      constant S1x2048x128 .bf16 0x0000#16, constant S1x2048x128 .bf16 0x0000#16,
      (runOne c i arg3 harg3 arg4 harg4 arg5 harg5 arg6 harg6 arg7 harg7 arg8 harg8 arg9 harg9 arg10 harg10 arg11 harg11 arg12 harg12 arg13 harg13 h1 h2 (not_cond4_of_cond2 h2) x3 x4 x5 x6 x7 x8 x12 x13).2.1,
      (runOne c i arg3 harg3 arg4 harg4 arg5 harg5 arg6 harg6 arg7 harg7 arg8 harg8 arg9 harg9 arg10 harg10 arg11 harg11 arg12 harg12 arg13 harg13 h1 h2 (not_cond4_of_cond2 h2) x3 x4 x5 x6 x7 x8 x12 x13).2.2.1)
  else if h3 : k0_cond3 i = 1#1 then
    if h4 : k0_cond4 i = 1#1 then
      ((runLast c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).1,
        (runLast c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.1,
        (runLast c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.2.1,
        (runLast c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.2.2.1,
        (runLast c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.2.2.2.1)
    else
      ((runTwo c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).1,
        constant S1x2048x128 .bf16 0x0000#16, constant S1x2048x128 .bf16 0x0000#16,
        (runTwo c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.1,
        (runTwo c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.2.1)
  else
    ((runThree c i arg3 harg3 arg4 harg4 arg5 harg5 arg6 harg6 arg7 harg7 arg8 harg8 arg9 harg9 arg10 harg10 arg11 harg11 arg12 harg12 arg13 harg13 h1 h2 h3 (not_cond4_of_not_cond3 h3) x3 x4 x5 x6 x7 x8 x12 x13).1,
      constant S1x2048x128 .bf16 0x0000#16, constant S1x2048x128 .bf16 0x0000#16,
      (runThree c i arg3 harg3 arg4 harg4 arg5 harg5 arg6 harg6 arg7 harg7 arg8 harg8 arg9 harg9 arg10 harg10 arg11 harg11 arg12 harg12 arg13 harg13 h1 h2 h3 (not_cond4_of_not_cond3 h3) x3 x4 x5 x6 x7 x8 x12 x13).2.1,
      (runThree c i arg3 harg3 arg4 harg4 arg5 harg5 arg6 harg6 arg7 harg7 arg8 harg8 arg9 harg9 arg10 harg10 arg11 harg11 arg12 harg12 arg13 harg13 h1 h2 h3 (not_cond4_of_not_cond3 h3) x3 x4 x5 x6 x7 x8 x12 x13).2.2.1)

/-- Where the condition holds, what the other branch would give does not matter. -/
theorem dite_true_eq {α : Type*} {p : Prop} [Decidable p] (h : p) (a : p → α) (b b' : ¬p → α) : dite p a b = dite p a b' := by
  rw [dif_pos h, dif_pos h]

/-- At the first row block the accumulators' contents before it do not matter. -/
theorem step_first (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) (x12 : Vec F S2048x128 .f32) (x13 : Vec F S2048x128 .f32) (y12 : Vec F S2048x128 .f32) (y13 : Vec F S2048x128 .f32) (h1 : cond1 i) :
    step c i arg3 harg3 arg4 harg4 arg5 harg5 arg6 harg6 arg7 harg7 arg8 harg8 arg9 harg9 arg10 harg10 arg11 harg11 arg12 harg12 arg13 harg13 x3 x4 x5 x6 x7 x8 x12 x13 = step c i arg3 harg3 arg4 harg4 arg5 harg5 arg6 harg6 arg7 harg7 arg8 harg8 arg9 harg9 arg10 harg10 arg11 harg11 arg12 harg12 arg13 harg13 x3 x4 x5 x6 x7 x8 y12 y13 := by
  unfold step; exact dite_true_eq h1 _ _ _

set_option maxHeartbeats 4000000 in
/-- The body does what `step` says, in every case. -/
theorem step_ok (c : Dev nD) (i : grid0.Coords)
  (arg3 : Memref sig .tc .vmem S1x256x128 .bf16) (harg3 : arg3.IsWhole)
  (arg4 : Memref sig .tc .vmem S1x2048x128 .bf16) (harg4 : arg4.IsWhole)
  (arg5 : Memref sig .tc .vmem S1x2048x128 .bf16) (harg5 : arg5.IsWhole)
  (arg6 : Memref sig .tc .vmem S1x256x128 .f32) (harg6 : arg6.IsWhole)
  (arg7 : Memref sig .tc .vmem S1x256x128 .bf16) (harg7 : arg7.IsWhole)
  (arg8 : Memref sig .tc .vmem S1x1x1x2x8x256x256 .bf16) (harg8 : arg8.IsWhole)
  (arg9 : Memref sig .tc .vmem S1x256x128 .bf16) (harg9 : arg9.IsWhole)
  (arg10 : Memref sig .tc .vmem S1x2048x128 .bf16) (harg10 : arg10.IsWhole)
  (arg11 : Memref sig .tc .vmem S1x2048x128 .bf16) (harg11 : arg11.IsWhole)
  (arg12 : Memref sig .tc .vmem S2048x128 .f32) (harg12 : arg12.IsWhole)
  (arg13 : Memref sig .tc .vmem S2048x128 .f32) (harg13 : arg13.IsWhole)
  (x3 : Vec F S1x256x128 .bf16) (x4 : Vec F S1x2048x128 .bf16) (x5 : Vec F S1x2048x128 .bf16) (x6 : Vec F S1x256x128 .f32) (x7 : Vec F S1x256x128 .bf16) (x8 : Vec F S1x1x1x2x8x256x256 .bf16) (x10 : Vec F S1x2048x128 .bf16) (x11 : Vec F S1x2048x128 .bf16) (x12 : Vec F S2048x128 .f32) (x13 : Vec F S2048x128 .f32) (K : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d) ∗ owns (c : Thread nD τ) arg10 fullShare x10 ∗ owns (c : Thread nD τ) arg11 fullShare x11 ∗ owns (c : Thread nD τ) arg12 fullShare x12 ∗ owns (c : Thread nD τ) arg13 fullShare x13
        ∗ (iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare (step c i arg3 harg3 arg4 harg4 arg5 harg5 arg6 harg6 arg7 harg7 arg8 harg8 arg9 harg9 arg10 harg10 arg11 harg11 arg12 harg12 arg13 harg13 x3 x4 x5 x6 x7 x8 x12 x13).1 ∗ owns (c : Thread nD τ) arg10 fullShare (if k0_cond4 i = 1#1 then (step c i arg3 harg3 arg4 harg4 arg5 harg5 arg6 harg6 arg7 harg7 arg8 harg8 arg9 harg9 arg10 harg10 arg11 harg11 arg12 harg12 arg13 harg13 x3 x4 x5 x6 x7 x8 x12 x13).2.1 else x10) ∗ owns (c : Thread nD τ) arg11 fullShare (if k0_cond4 i = 1#1 then (step c i arg3 harg3 arg4 harg4 arg5 harg5 arg6 harg6 arg7 harg7 arg8 harg8 arg9 harg9 arg10 harg10 arg11 harg11 arg12 harg12 arg13 harg13 x3 x4 x5 x6 x7 x8 x12 x13).2.2.1 else x11) ∗ owns (c : Thread nD τ) arg12 fullShare (step c i arg3 harg3 arg4 harg4 arg5 harg5 arg6 harg6 arg7 harg7 arg8 harg8 arg9 harg9 arg10 harg10 arg11 harg11 arg12 harg12 arg13 harg13 x3 x4 x5 x6 x7 x8 x12 x13).2.2.2.1 ∗ owns (c : Thread nD τ) arg13 fullShare (step c i arg3 harg3 arg4 harg4 arg5 harg5 arg6 harg6 arg7 harg7 arg8 harg8 arg9 harg9 arg10 harg10 arg11 harg11 arg12 harg12 arg13 harg13 x3 x4 x5 x6 x7 x8 x12 x13).2.2.2.2) -∗ K ⟨⟩))
      ⊢ wp frame (wpE (defs₀ (F := F)) Variants.none c none) Set.univ (cc0_sb_bwd i arg3 harg3 arg4 harg4 arg5 harg5 arg6 harg6 arg7 harg7 arg8 harg8 arg9 harg9 arg10 harg10 arg11 harg11 arg12 harg12 arg13 harg13) K := by
  by_cases h1 : cond1 i
  · unfold step; rw [dif_pos h1, if_neg (not_cond4_of_cond1 h1), if_neg (not_cond4_of_cond1 h1)]; dsimp only
    iintro ⟨H3, H4, H5, H6, H7, H8, H9, H10, H11, H12, H13, Hk⟩
    iapply ((runFirst c i arg3 harg3 arg4 harg4 arg5 harg5 arg6 harg6 arg7 harg7 arg8 harg8 arg9 harg9 arg10 harg10 arg11 harg11 arg12 harg12 arg13 harg13 h1 (cond2_of_cond1 h1) (not_cond4_of_cond1 h1) x3 x4 x5 x6 x7 x8).2.2.2 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexists _; iexact H12
    isplitl [H13]; · iexists _; iexact H13
    iintro ⟨H3, H4, H5, H6, H7, H8, H9, H12, H13⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  by_cases h2 : k0_cond2 i = 1#1
  · unfold step; rw [dif_neg h1, dif_pos h2, if_neg (not_cond4_of_cond2 h2), if_neg (not_cond4_of_cond2 h2)]; dsimp only
    iintro ⟨H3, H4, H5, H6, H7, H8, H9, H10, H11, H12, H13, Hk⟩
    iapply ((runOne c i arg3 harg3 arg4 harg4 arg5 harg5 arg6 harg6 arg7 harg7 arg8 harg8 arg9 harg9 arg10 harg10 arg11 harg11 arg12 harg12 arg13 harg13 h1 h2 (not_cond4_of_cond2 h2) x3 x4 x5 x6 x7 x8 x12 x13).2.2.2 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H13]; · iexact H13
    iintro ⟨H3, H4, H5, H6, H7, H8, H9, H12, H13⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13
  by_cases h3 : k0_cond3 i = 1#1
  · by_cases h4 : k0_cond4 i = 1#1
    · unfold step; rw [dif_neg h1, dif_neg h2, dif_pos h3, dif_pos h4, if_pos h4, if_pos h4]; dsimp only
      iintro ⟨H3, H4, H5, H6, H7, H8, H9, H10, H11, H12, H13, Hk⟩
      iapply ((runLast c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.2.2.2.2 K)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexists _; iexact H10
      isplitl [H11]; · iexists _; iexact H11
      isplitl [H12]; · iexact H12
      isplitl [H13]; · iexact H13
      iintro ⟨H3, H4, H5, H6, H7, H8, H9, H10, H11, H12, H13⟩
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
    · unfold step; rw [dif_neg h1, dif_neg h2, dif_pos h3, dif_neg h4, if_neg h4, if_neg h4]; dsimp only
      iintro ⟨H3, H4, H5, H6, H7, H8, H9, H10, H11, H12, H13, Hk⟩
      iapply ((runTwo c i arg3 harg3 arg4 harg4 arg5 harg5 arg6 harg6 arg7 harg7 arg8 harg8 arg9 harg9 arg10 harg10 arg11 harg11 arg12 harg12 arg13 harg13 h1 h2 h3 h4 x3 x4 x5 x6 x7 x8 x12 x13).2.2.2 K)
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H12]; · iexact H12
      isplitl [H13]; · iexact H13
      iintro ⟨H3, H4, H5, H6, H7, H8, H9, H12, H13⟩
      iapply Hk
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      iexact H13
  · unfold step; rw [dif_neg h1, dif_neg h2, dif_neg h3, if_neg (not_cond4_of_not_cond3 h3), if_neg (not_cond4_of_not_cond3 h3)]; dsimp only
    iintro ⟨H3, H4, H5, H6, H7, H8, H9, H10, H11, H12, H13, Hk⟩
    iapply ((runThree c i arg3 harg3 arg4 harg4 arg5 harg5 arg6 harg6 arg7 harg7 arg8 harg8 arg9 harg9 arg10 harg10 arg11 harg11 arg12 harg12 arg13 harg13 h1 h2 h3 (not_cond4_of_not_cond3 h3) x3 x4 x5 x6 x7 x8 x12 x13).2.2.2 K)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H12]; · iexact H12
    isplitl [H13]; · iexact H13
    iintro ⟨H3, H4, H5, H6, H7, H8, H9, H12, H13⟩
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    iexact H13

/-! ## The points of the grid -/

variable (m : (ℓ : Loc nD τ sig) → Buf (Elt F) ℓ) (ρ : Dev nD → PrngReg)

/-- The row block of point `t`: the last coordinate runs fastest. -/
theorem rowBlk_coords : ∀ t : Fin cfg0.N, rowBlk (grid0.coords t) = t.val % 8 :=
  (by decide +kernel : ∀ t : Fin grid0.N, ((grid0.coords t) 2).val = t.val % 8)

/-- What the body makes at point `t` of the blocks there and of the accumulators at `a`. -/
def pointStep (c : Dev nD) (t : Fin cfg0.N) (a : Vec F S2048x128 .f32 × Vec F S2048x128 .f32) :
    Vec F S1x256x128 .bf16 × Vec F S1x2048x128 .bf16 × Vec F S1x2048x128 .bf16 × Vec F S2048x128 .f32 × Vec F S2048x128 .f32 :=
  step c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) a.1 a.2

/-- The accumulators before point `n`. -/
def acc (c : Dev nD) : ℕ → Vec F S2048x128 .f32 × Vec F S2048x128 .f32
  | 0 => (constant S2048x128 .f32 0x00000000#32, constant S2048x128 .f32 0x00000000#32)
  | n + 1 => if h : n < cfg0.N then (pointStep m c ⟨n, h⟩ (acc c n)).2.2.2 else acc c n

/-- The accumulators after a point. -/
theorem acc_succ (c : Dev nD) (t : Fin cfg0.N) : acc m c (t.val + 1) = (pointStep m c t (acc m c t.val)).2.2.2 := by
  rw [acc, dif_pos t.isLt]

/-- What is carried between points: the accumulators, known past the first row block, and the generator register. -/
def carried (c : Dev nD) (n : ℕ) (_ : n ≤ cfg0.N) : sProp 𝕄 :=
  iprop((∃ x12 x13, ⌜n % 8 ≠ 0 → x12 = (acc m c n).1 ∧ x13 = (acc m c n).2⌝
    ∗ owns (c : Thread nD τ) (Memref.whole cc0_scratch0) fullShare x12
    ∗ owns (c : Thread nD τ) (Memref.whole cc0_scratch1) fullShare x13) ∗ ∃ r, prngReg (c : Dev nD) r)

/-- The proof data: the arrays as the launch finds them; after a point, each input's block in place and the outputs at
    what the point makes; the accumulators carried. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (pointStep m c t (acc m c t.val)).1
    | ⟨7, _⟩ => (pointStep m c t (acc m c t.val)).2.1
    | ⟨8, _⟩ => (pointStep m c t (acc m c t.val)).2.2.1
  Φ t := carried m c t.val (Nat.le_of_lt_succ t.isLt)
  q w := Pipeline.shareOf spec0 w
  owed _ := 0

/-- The arrays are as the launch finds them. -/
theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (pointStep m c t (acc m c t.val)).1 := by dsimp only [dats]
theorem after0_7 (c : Dev nD) (t : Fin cfg0.N) : (dats m 0 c).after 7 t = (pointStep m c t (acc m c t.val)).2.1 := by dsimp only [dats]
theorem after0_8 (c : Dev nD) (t : Fin cfg0.N) : (dats m 0 c).after 8 t = (pointStep m c t (acc m c t.val)).2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- What is carried, before a point. -/
theorem carried_castSucc (c : Dev nD) (t : Fin cfg0.N) : (dats m 0 c).Φ t.castSucc = carried m c t.val (Nat.le_of_lt t.isLt) := by
  dsimp only [dats]; exact Pipeline.Dat.Φ_castSucc (carried m c) t

/-- What is carried, after a point. -/
theorem carried_succ (c : Dev nD) (t : Fin cfg0.N) : (dats m 0 c).Φ t.succ = carried m c (t.val + 1) t.isLt := by
  dsimp only [dats]; rfl

/-- A point's result does not depend on what the accumulators held, where the row blocks begin. -/
theorem pointStep_eq (c : Dev nD) (t : Fin cfg0.N) (x12 : Vec F S2048x128 .f32) (x13 : Vec F S2048x128 .f32)
    (h : t.val % 8 ≠ 0 → x12 = (acc m c t.val).1 ∧ x13 = (acc m c t.val).2) :
    step c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) x12 x13 = pointStep m c t (acc m c t.val) := by
  unfold pointStep
  by_cases h0 : t.val % 8 = 0
  · exact step_first _ _ _ _ _ _ _ _ _ _ _ _ _ _ _ _ _ _ _ _ _ _ _ _ _ _ _ _ _ _ _ _ _ _ ((cond1_iff _).mpr ((rowBlk_coords t).trans h0))
  · rw [(h h0).1, (h h0).2]

/-- What the body is called with at a point, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

/-- and what it returns: the gradients of k and v only where they are written. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (if k0_cond4 (grid0.coords t) = 1#1 then owns (c : Thread nD τ) (st0_7 t) fullShare ((dats m 0 c).after 7 t) else iprop(∃ d, owns (c : Thread nD τ) (st0_7 t) fullShare ((dats m 0 c).before 7 t d)))
    ∗ (if k0_cond4 (grid0.coords t) = 1#1 then owns (c : Thread nD τ) (st0_8 t) fullShare ((dats m 0 c).after 8 t) else iprop(∃ d, owns (c : Thread nD τ) (st0_8 t) fullShare ((dats m 0 c).before 8 t d))))

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [carried_castSucc, carried_succ,
    show (dats m 0 c).owesAt () t.succ = (dats m 0 c).owesAt () t.castSucc from rfl,
    after0_0, after0_1, after0_2, after0_3, after0_4, after0_5, after0_6, after0_7, after0_8]
  unfold carried
  iintro ⟨⟨⟨%x12, %x13, %hx, H12, H13⟩, Hr⟩, Ho, ⟨%d0, H3⟩, ⟨%d1, H4⟩, ⟨%d2, H5⟩, ⟨%d3, H6⟩, ⟨%d4, H7⟩, ⟨%d5, H8⟩, ⟨%d6, H9⟩, ⟨%d7, H10⟩, ⟨%d8, H11⟩⟩
  have hs := pointStep_eq m c t x12 x13 hx
  iapply (step_ok c (grid0.coords t) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (st0_8 t) (hstage0_8 ((cfg0.slots t 8).cast nbuf0_8)) (Memref.whole cc0_scratch0) (Memref.isWhole_whole _) (Memref.whole cc0_scratch1) (Memref.isWhole_whole _) (iblk m c 0 t) (iblk m c 1 t) (iblk m c 2 t) (iblk m c 3 t) (iblk m c 4 t) (iblk m c 5 t) _ _ x12 x13 _)
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [H13]; · iexact H13
  rw [hs]
  iintro ⟨H3, H4, H5, H6, H7, H8, H9, H10, H11, H12, H13⟩
  isplitl [H12 H13 Hr]
  · isplitl [H12 H13]
    · iexists _, _; isplitr
      · ipureintro; intro _; rw [acc_succ]; exact ⟨rfl, rfl⟩
      isplitl [H12]; · iexact H12
      iexact H13
    iexact Hr
  isplitl [Ho]; · iexact Ho
  isplitl [H3]; · iexact H3
  isplitl [H4]; · iexact H4
  isplitl [H5]; · iexact H5
  isplitl [H6]; · iexact H6
  isplitl [H7]; · iexact H7
  isplitl [H8]; · iexact H8
  isplitl [H9]; · iexact H9
  by_cases h4 : k0_cond4 (grid0.coords t) = 1#1
  · simp only [if_pos h4]
    isplitl [H10]; · iexact H10
    iexact H11
  · simp only [if_neg h4]
    isplitl [H10]; · iexists _; iexact H10
    iexists _; iexact H11

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- A window of the gradient of k or v is written back only where the body writes it. -/
theorem leaves_idle (c : Dev nD) (t : Fin cfg0.N) (P Q : sProp 𝕄) (f : Bool) : (f = true ↔ t.val % 8 = 7) →
    ((if k0_cond4 (grid0.coords t) = 1#1 then P else Q)
      ⊢ (match !(k0_cond4 (grid0.coords t) == 1#1) with
          | true => match f with
            | false => Q
            | true => P
          | false => P)) := by
  intro hf
  by_cases h4 : k0_cond4 (grid0.coords t) = 1#1
  · rw [if_pos h4, show (!(k0_cond4 (grid0.coords t) == 1#1)) = false by simp [h4]]
  · have hf' : f = false := Bool.eq_false_iff.mpr fun h => h4 ((cond4_iff _).mpr ((rowBlk_coords t).trans (hf.mp h)))
    rw [if_neg h4, hf', show (!(k0_cond4 (grid0.coords t) == 1#1)) = true by simp [h4]]

set_option maxHeartbeats 4000000 in
/-- The obligation of the launch, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  iintro ⟨HΦ, Ho, H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iapply (leaves_idle c t _ _ ((cfg0.win 7).flush t) (flush0_7 t)); iexact H7
  iapply (leaves_idle c t _ _ ((cfg0.win 8).flush t) (flush0_8 t)); iexact H8

/-- The launch hands over the accumulators at anything. -/
theorem carried_in (c : Dev nD) : Pipeline.ΦA (cfgs 0).spec c ⊢ (dats (F := F) m 0 c).Φ 0 := by
  show Pipeline.ΦA spec0 c ⊢ carried m c 0 (Nat.zero_le _)
  unfold Pipeline.ΦA carried
  rw [scopedRest0_eq]
  iintro ⟨⟨⟨%f, H12⟩, ⟨%g, H13⟩⟩, Hr⟩
  isplitl [H12 H13]
  · iexists ((Memref.whole cc0_scratch0).view.read (Elt F) f), ((Memref.whole cc0_scratch1).view.read (Elt F) g); isplitr
    · ipureintro; exact fun h => absurd rfl h
    isplitl [H12]
    · unfold owns; iexists f; isplitr; · ipureintro; rfl
      rw [show (Memref.whole cc0_scratch0).view.set = Finset.univ from View.set_whole _]; iexact H12
    · unfold owns; iexists g; isplitr; · ipureintro; rfl
      rw [show (Memref.whole cc0_scratch1).view.set = Finset.univ from View.set_whole _]; iexact H13
  iexact Hr

/-- And takes them back at anything. -/
theorem carried_out (c : Dev nD) : (dats (F := F) m 0 c).Φ (Fin.last (cfgs 0).N) ⊢ Pipeline.ΦA (cfgs 0).spec c := by
  show carried m c cfg0.N le_rfl ⊢ Pipeline.ΦA spec0 c
  unfold Pipeline.ΦA carried owns
  rw [scopedRest0_eq]
  iintro ⟨⟨%x12, %x13, -, ⟨%f, -, H12⟩, ⟨%g, -, H13⟩⟩, Hr⟩
  isplitl [H12 H13]
  · isplitl [H12]
    · iexists f; rw [show (Memref.whole cc0_scratch0).view.set = Finset.univ from View.set_whole _]; iexact H12
    · iexists g; rw [show (Memref.whole cc0_scratch1).view.set = Finset.univ from View.set_whole _]; iexact H13
  iexact Hr

/-! ## The run and the frame -/

set_option backward.isDefEq.respectTransparency.types false in
/-- The launch: every weakly fair execution ends, each array at what the proof data say, each counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m)
    (hin := carried_in m) (hout := carried_out m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end as they were, the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) (run_main m ρ)) ((θ_run defs _ _).mono (fun _ h => h.2) (run_main_quiescent m ρ))

end Cert.KernelIdeal.Sb

end
end
-- ==== Proof.SbClaim.lean ====
/- The first pair of programs: what they claim besides their values. -/
module

public import proofs.«01_k».proof.Defs
public import proofs.«01_k».proof.Proof.SbFrame
public import proofs.«01_k».proof.Proof.Words.SbFrame
public import proofs.«01_k».proof.Proof.Gen.ReferenceIdeal.Run

@[expose] public section

noncomputable section

namespace Cert.Sb

open Idealize.ShloMosaic

/-- The kernel's frame at the words. -/
theorem kernel_frame : Cert.quiescent_Kernel := fun m ρ _ => Cert.Kernel.Sb.frame (F := Bits) m ρ

/-- The kernel's frame over the extended reals. -/
theorem ideal_frame : Cert.quiescent_KernelIdeal := fun m ρ _ => Cert.KernelIdeal.Sb.frame (F := Ideal) m ρ

/-- The first reference leaves its arguments as they were and declares no semaphore. -/
theorem reference_frame : Cert.quiescent_ReferenceIdeal := fun m ρ _ =>
  (θ_run Cert.ReferenceIdeal.defs _ _).mono (fun r h => ⟨fun c => ⟨(h c).2.2.2.1, (h c).2.2.2.2⟩,
    sem_eq_zero_of_no_sems (by decide) r.2⟩) (Cert.ReferenceIdeal.Value.run (F := Ideal) m ρ)

end Cert.Sb

end
-- ==== Proof.Reals.lean ====
/- Extended-real arithmetic on real operands: sums, quotients and maxima of reals are reals, and the printed constants the
   two attention cores use are reals. Nothing here mentions a program. -/
module

public import Idealize.ShloMosaic.Lib.Pointwise
public import Idealize.ShloMosaic.PureOps.Ideal.Laws

@[expose] public section

noncomputable section

namespace Cert.Reals

open Idealize.ShloMosaic

/-- An extended real that is neither infinity. -/
def Fin' (x : EReal) : Prop := x ≠ ⊤ ∧ x ≠ ⊥

/-- A finite extended real is the real number it stands for. -/
theorem coe_toReal {x : EReal} (h : Fin' x) : x = ((x.toReal : ℝ) : EReal) :=
  (EReal.coe_toReal h.1 h.2).symm

/-- A finite sum of reals, taken among the extended reals, is the real sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A quotient of reals by a real that is not zero is the real quotient. -/
theorem div_coe_coe (x y : ℝ) (hy : y ≠ 0) : Ideal.div (x : EReal) (y : EReal) = ((x / y : ℝ) : EReal) := by
  rw [Ideal.div_coe hy, ← EReal.coe_mul, mul_one_div]

/-- The largest of finitely many reals, begun at minus infinity, is a real once there is one of them. -/
theorem fold_max_real {ι : Type} (s : Finset ι) (hs : s.Nonempty) (f : ι → EReal) (hf : ∀ k, ∃ r : ℝ, f k = (r : EReal)) :
    ∃ mx : ℝ, Finset.fold max (⊥ : EReal) f s = (mx : EReal) := by
  classical
  induction hs using Finset.Nonempty.cons_induction with
  | singleton a => obtain ⟨r, e⟩ := hf a; exact ⟨r, by rw [Finset.fold_singleton, max_bot_right, e]⟩
  | cons a s ha hs ih =>
    obtain ⟨mx, e⟩ := ih
    obtain ⟨r, e'⟩ := hf a
    refine ⟨max r mx, ?_⟩
    rw [Finset.cons_eq_insert, Finset.fold_insert ha, e, e']
    exact (EReal.coe_strictMono.monotone.map_max).symm

/-- So is every element of a host program's maximum along one axis. -/
theorem reduce_max_real {s t u : Shape} {a : Fin s.rank} (h' : s.ReducesTo [a] t) (h : s.Reduces [a] t) (hu : 0 < u.numel)
    (x : s.Idx → EReal) (init : u.Idx → EReal) (hi : init (Shape.Idx.first hu) = ⊥) (k₀ : Fin (s.size a))
    (hx : ∀ i, ∃ r : ℝ, x i = (r : EReal)) (j : t.Idx) : ∃ mx : ℝ, Host.reduce max x init h' hu j = (mx : EReal) := by
  rw [Host.reduce_eq_fold_single max x init h' h hu j, hi]
  exact fold_max_real _ ⟨k₀, Finset.mem_univ _⟩ _ fun k => hx _

/-- The word of minus infinity is minus infinity. -/
theorem negInf_f32 : Ideal.ofBits .f32 0xFF800000#32 = ⊥ := by
  simp [Ideal.ofBits, Ideal.ieee]

/-- The scale of the cross-attention, the single-precision word nearest to 128 ^ (-1/2), is a real number. -/
theorem scale_f32 : ∃ r : ℝ, Ideal.ofBits .f32 0x3DB504F3#32 = (r : EReal) := by
  refine ⟨11863283 / 134217728, ?_⟩
  simp [Ideal.ofBits, Ideal.ieee, -EReal.coe_mul]
  norm_num

end Cert.Reals

end
-- ==== Proof.MemMath.lean ====
/- The attention into the memory and its gradient, over the reals, for one query row of one head: the two ways the weights and
   the gradient of the scores are spelled over the extended reals are shown to be one real formula. -/
module

public import proofs.«01_k».proof.Proof.Reals

@[expose] public section

noncomputable section

namespace Cert.Mem

open Idealize.ShloMosaic Cert.Reals

variable (κ : ℝ) (q g : Fin 128 → ℝ) (k v : Fin 256 → Fin 128 → ℝ)

/-- The score of memory slot `s`: the scaled product of the query with that slot's key. -/
def score (s : Fin 256) : ℝ := (∑ d, q d * k s d) * κ

/-- The normalizer: the sum of the exponentials of the scores. -/
def norm : ℝ := ∑ s, Real.exp (score κ q k s)

/-- The attention weight of memory slot `s`. -/
def weight (s : Fin 256) : ℝ := Real.exp (score κ q k s) / norm κ q k

/-- The gradient at the weight of slot `s`: the product of the output's gradient with that slot's value. -/
def dweight (s : Fin 256) : ℝ := ∑ d, g d * v s d

/-- The gradient at the score of slot `s`, with the scale of the score multiplied in. -/
def dscore (s : Fin 256) : ℝ :=
  weight κ q k s * (dweight g v s - ∑ s', weight κ q k s' * dweight g v s') * κ

/-- The normalizer is positive. -/
theorem norm_pos : 0 < norm κ q k :=
  Finset.sum_pos (fun _ _ => Real.exp_pos _) Finset.univ_nonempty

/-- The normalizer is not zero. -/
theorem norm_ne : norm κ q k ≠ 0 := (norm_pos κ q k).ne'

/-- The exponentials of the scores less a common shift add up to the normalizer times the exponential of minus the shift. -/
theorem sum_shift (mx : ℝ) : (∑ s, Real.exp (score κ q k s - mx)) = norm κ q k * Real.exp (-mx) := by
  rw [norm, Finset.sum_mul]
  exact Finset.sum_congr rfl fun s _ => by rw [← Real.exp_add, sub_eq_add_neg]

/-- A weight does not see the common shift of the scores. -/
theorem shifted_weight (mx : ℝ) (s : Fin 256) :
    Real.exp (score κ q k s - mx) / (norm κ q k * Real.exp (-mx)) = weight κ q k s := by
  rw [weight, sub_eq_add_neg, Real.exp_add, mul_div_mul_right _ _ (Real.exp_pos _).ne']

/-- The weight as exponential times reciprocal of the sum. -/
theorem weight_recip (mx : ℝ) (s : Fin 256) :
    Real.exp (score κ q k s - mx) * (1 / (norm κ q k * Real.exp (-mx))) = weight κ q k s := by
  rw [mul_one_div, shifted_weight]

/-- The gradient at the scores, spelled through the quotient rule of the normalization, is the usual formula. -/
theorem dscore_quotient (mx : ℝ) (s : Fin 256) :
    (dweight g v s / (norm κ q k * Real.exp (-mx))
        + (0 + -(0 + ∑ s', dweight g v s' * (1 / (norm κ q k * Real.exp (-mx) * (norm κ q k * Real.exp (-mx))))
            * Real.exp (score κ q k s' - mx))))
      * Real.exp (score κ q k s - mx) * κ = dscore κ q g k v s := by
  have hz : norm κ q k * Real.exp (-mx) ≠ 0 := mul_ne_zero (norm_ne κ q k) (Real.exp_pos _).ne'
  have hw : ∀ s', dweight g v s' * (1 / (norm κ q k * Real.exp (-mx) * (norm κ q k * Real.exp (-mx))))
      * Real.exp (score κ q k s' - mx)
      = (weight κ q k s' * dweight g v s') / (norm κ q k * Real.exp (-mx)) := fun s' => by
    rw [← shifted_weight κ q k mx s']; field_simp
  simp only [hw, zero_add, ← Finset.sum_div, dscore, ← shifted_weight κ q k mx s]
  field_simp
  ring

end Cert.Mem

end
-- ==== Proof.MemPayload.lean ====
/- What the cross-attention's kernel computes of one block, read at an index on real operands: the attention weights and the
   gradient at the scores of each head are those of MemMath. -/
module

public import proofs.«01_k».proof.Proof.MemMath
public import proofs.«01_k».proof.Proof.Gen.Kernel2Ideal.Skeleton

@[expose] public section

noncomputable section

namespace Cert.Mem

open Idealize.ShloMosaic Cert.Reals Cert.Kernel2Ideal Cert.Kernel2Ideal.Gen

variable (κ : ℝ)

/-- A row of scores, shifted by its largest, exponentiated and multiplied by the reciprocal of the sum, is the row of weights. -/
theorem soft_row (hκ : Ideal.ofBits .f32 0x3DB504F3#32 = (κ : EReal)) (Q : Fin 128 → ℝ) (K : Fin 256 → Fin 128 → ℝ)
    (q : Fin 128 → EReal) (k : Fin 256 → Fin 128 → EReal) (hq : ∀ d, q d = Q d) (hk : ∀ s d, k s d = K s d) (s : Fin 256) :
    Ideal.exp ((∑ x, q x * k s x) * Ideal.ofBits .f32 0x3DB504F3#32
          - Finset.fold max (Ideal.ofBits .f32 0xFF800000#32) (fun x => (∑ x_1, q x_1 * k x x_1) * Ideal.ofBits .f32 0x3DB504F3#32) Finset.univ)
        * Ideal.div 1 (∑ x, Ideal.exp ((∑ x_1, q x_1 * k x x_1) * Ideal.ofBits .f32 0x3DB504F3#32
            - Finset.fold max (Ideal.ofBits .f32 0xFF800000#32) (fun x => (∑ x_1, q x_1 * k x x_1) * Ideal.ofBits .f32 0x3DB504F3#32) Finset.univ))
      = (weight κ Q K s : EReal) := by
  have hs : ∀ s, (∑ x, q x * k s x) * Ideal.ofBits .f32 0x3DB504F3#32 = (score κ Q K s : EReal) := fun s => by
    simp only [hq, hk, hκ, ← EReal.coe_mul, coe_sum, score]
  obtain ⟨mx, e⟩ := fold_max_real Finset.univ Finset.univ_nonempty (fun s => (score κ Q K s : EReal)) fun s => ⟨_, rfl⟩
  simp only [hs, negInf_f32, e, ← EReal.coe_sub, Ideal.exp_coe, coe_sum, sum_shift]
  rw [show (1 : EReal) = ((1 : ℝ) : EReal) from rfl, div_coe_coe _ _ (mul_ne_zero (norm_ne κ Q K) (Real.exp_pos _).ne'), ← EReal.coe_mul,
    weight_recip]

/-- The weights times the gradient at the weights less its mean, scaled, is the gradient at the scores. -/
theorem dscore_row (hκ : Ideal.ofBits .f32 0x3DB504F3#32 = (κ : EReal)) (Q G : Fin 128 → ℝ) (K V : Fin 256 → Fin 128 → ℝ)
    (p dp : Fin 256 → EReal) (hp : ∀ s, p s = weight κ Q K s) (hdp : ∀ s, dp s = dweight G V s) (s : Fin 256) :
    p s * (dp s - ∑ x, p x * dp x) * Ideal.ofBits .f32 0x3DB504F3#32 = (dscore κ Q G K V s : EReal) := by
  simp only [hp, hdp, hκ, ← EReal.coe_mul, coe_sum, ← EReal.coe_sub, dscore]

variable (hκ : Ideal.ofBits .f32 0x3DB504F3#32 = (κ : EReal))
  (Q G : Fin 512 → Fin 128 → ℝ) (K V : Fin 256 → Fin 128 → ℝ)

include hκ in
/-- The weights of the first head. -/
theorem weights0 (x : Vec Ideal S1x512x128 .bf16) (y : Vec Ideal S1x256x128 .bf16) (hx : ∀ t d, x (ix3 0 t d) = Q t d) (hy : ∀ s d, y (ix3 0 s d) = K s d)
    (t s) : k0_pay15 (F := Ideal) (k0_pay13 x y) (k0_pay14 x y) (ix2 t s) = (weight κ (Q t) K s : EReal) := by
  pointwise [k0_pay15, k0_pay14, k0_pay13, k0_pay5]
  exact soft_row κ hκ (Q t) K _ _ (hx t) hy s

include hκ in
/-- The weights of the second head. -/
theorem weights1 (x : FVec Ideal S512x128 .bf16) (y : Vec Ideal S1x256x128 .bf16) (hx : ∀ t d, x (ix2 t d) = Q t d) (hy : ∀ s d, y (ix3 0 s d) = K s d)
    (t s) : k0_pay16 (F := Ideal) x y (ix2 t s) = (weight κ (Q t) K s : EReal) := by
  pointwise [k0_pay16]
  exact soft_row κ hκ (Q t) K _ _ (hx t) hy s

/-- The heads' weights are one computation. -/
theorem pay17_eq {F : FTy → Type} [FloatOps F] : (k0_pay17 (F := F)) = k0_pay16 := rfl
/-- The heads' weights are one computation. -/
theorem pay18_eq {F : FTy → Type} [FloatOps F] : (k0_pay18 (F := F)) = k0_pay16 := rfl

/-- The gradient at the weights. -/
theorem dweights (x : FVec Ideal S512x128 .bf16) (y : Vec Ideal S1x256x128 .bf16) (hx : ∀ t d, x (ix2 t d) = G t d) (hy : ∀ s d, y (ix3 0 s d) = V s d)
    (t s) : k0_pay19 (F := Ideal) x y (ix2 t s) = (dweight (G t) V s : EReal) := by
  pointwise [k0_pay19]
  simp only [hx, hy, ← EReal.coe_mul, coe_sum, dweight]

/-- The heads' products with the values are one computation. -/
theorem pay20_eq {F : FTy → Type} [FloatOps F] : (k0_pay20 (F := F)) = k0_pay19 := rfl
/-- The heads' products with the values are one computation. -/
theorem pay21_eq {F : FTy → Type} [FloatOps F] : (k0_pay21 (F := F)) = k0_pay19 := rfl

include hκ in
/-- The gradient at the scores. -/
theorem dscores (p dp : FVec Ideal S512x256 .f32) (hp : ∀ t s, p (ix2 t s) = weight κ (Q t) K s) (hdp : ∀ t s, dp (ix2 t s) = dweight (G t) V s)
    (t s) : k0_pay24 (F := Ideal) p dp (ix2 t s) = (dscore κ (Q t) (G t) K V s : EReal) := by
  pointwise [k0_pay24]
  exact dscore_row κ hκ (Q t) (G t) K V _ _ (hp t) (hdp t) s

/-- The heads' gradients at the scores are one computation, -/
theorem pay25_eq {F : FTy → Type} [FloatOps F] : (k0_pay25 (F := F)) = k0_pay24 := rfl
/-- the last one's too, -/
theorem pay26_eq {F : FTy → Type} [FloatOps F] : (k0_pay26 (F := F)) = k0_pay24 := rfl
/-- and the first one's, which takes the values' product in. -/
theorem pay23_eq {F : FTy → Type} [FloatOps F] (x : FVec F S512x128 .bf16) (p : FVec F S512x256 .f32) (y : Vec F S1x256x128 .bf16) :
    k0_pay23 (k0_pay22 x p y) (Scalar.ofBits .f32 0x3DB504F3#32) = k0_pay24 p (k0_pay19 x y) := rfl

/-- The gradient at the query, of the gradient at the scores and the keys. -/
theorem dq_pay (ds : FVec Ideal S512x256 .bf16) (y : Vec Ideal S1x256x128 .bf16) (D : Fin 512 → Fin 256 → ℝ) (hd : ∀ t s, ds (ix2 t s) = D t s)
    (hy : ∀ s d, y (ix3 0 s d) = K s d) (t d) : k0_pay31 (F := Ideal) ds y (ix3 0 t d) = ((∑ s, D t s * K s d : ℝ) : EReal) := by
  pointwise [k0_pay31]
  simp only [hd, hy, ← EReal.coe_mul, coe_sum]

/-- The store of the second head's gradient at the query is that of the third head's, -/
theorem pay36_eq {F : FTy → Type} [FloatOps F] : (k0_pay36 (F := F)) = k0_pay31 := rfl
/-- of the first's -/
theorem pay27_eq {F : FTy → Type} [FloatOps F] (x : FVec F S512x256 .f32) (a : F .f32) (y) : (k0_pay27 (F := F)) x a y = k0_pay31 (k0_pay23 x a) y := rfl
/-- and of the last's. -/
theorem pay1_eq {F : FTy → Type} [FloatOps F] (x : FVec F S512x256 .bf16) (y) :
    (k0_pay1 (F := F)) x (k0_pay39 y) (constant S512x128 .f32 0x00000000#32) = k0_pay31 x y := rfl

/-- The gradient at the key, added to what was there. -/
theorem dk_pay (x : FVec Ideal S512x128 .bf16) (ds : FVec Ideal S512x256 .bf16) (w : Vec Ideal S1x256x128 .f32) (D : Fin 512 → Fin 256 → ℝ) (hd : ∀ t s, ds (ix2 t s) = D t s)
    (hx : ∀ t d, x (ix2 t d) = Q t d) (s d) : k0_pay32 (F := Ideal) x ds w (ix3 0 s d) = w (ix3 0 s d) + ((∑ t, D t s * Q t d : ℝ) : EReal) := by
  pointwise [k0_pay32]
  simp only [hd, hx, ← EReal.coe_mul, coe_sum]

/-- The heads' stores of the gradient at the key are one computation. -/
theorem pay37_eq {F : FTy → Type} [FloatOps F] : (k0_pay37 (F := F)) = k0_pay32 := rfl
/-- The heads' stores of the gradient at the key are one computation. -/
theorem pay2_eq {F : FTy → Type} [FloatOps F] : (k0_pay2 (F := F)) = k0_pay32 := rfl
/-- The first head's too. -/
theorem pay29_eq {F : FTy → Type} [FloatOps F] (x : FVec F S512x128 .bf16) (y : FVec F S512x256 .f32) (a : F .f32) (w) :
    k0_pay29 (k0_pay28 x y a w) = k0_pay32 x (k0_pay23 y a) w := rfl

/-- The gradient at the value, added to what was there. -/
theorem dv_pay (x : FVec Ideal S512x128 .bf16) (p : FVec Ideal S512x256 .f32) (w : Vec Ideal S1x256x128 .f32) (P : Fin 512 → Fin 256 → ℝ) (hp : ∀ t s, p (ix2 t s) = P t s)
    (hx : ∀ t d, x (ix2 t d) = G t d) (s d) : k0_pay30 (F := Ideal) x p w (ix3 0 s d) = w (ix3 0 s d) + ((∑ t, P t s * G t d : ℝ) : EReal) := by
  pointwise [k0_pay30]
  simp only [hp, hx, ← EReal.coe_mul, coe_sum]

/-- The heads' stores of the gradient at the value are one computation. -/
theorem pay38_eq {F : FTy → Type} [FloatOps F] : (k0_pay38 (F := F)) = k0_pay30 := rfl
/-- The heads' stores of the gradient at the value are one computation. -/
theorem pay3_eq {F : FTy → Type} [FloatOps F] : (k0_pay3 (F := F)) = k0_pay30 := rfl
/-- The second head's too. -/
theorem pay35_eq {F : FTy → Type} [FloatOps F] (x : FVec F S512x128 .bf16) (p : FVec F S512x256 .f32) (w) :
    k0_pay35 (k0_pay33 w) (k0_pay34 x p) = k0_pay30 x p w := rfl

end Cert.Mem

end
-- ==== Proof.MemBlock.lean ====
/- What one point of the cross-attention's grid leaves in its two output blocks: in the first the gradient at the queries, in the
   second what was there and the point's rows' share of the gradients at the keys and at the values. -/
module

public import proofs.«01_k».proof.Proof.MemPayload
public import proofs.«01_k».proof.Proof.Gen.Kernel2Ideal.Value
public import Idealize.ShloMosaic.Lib.Pipeline.ValueKit
public import Idealize.ShloMosaic.Lib.Pipeline.ReadBack

@[expose] public section

noncomputable section

namespace Cert.Mem

open Idealize.ShloMosaic Cert.Reals Cert.Kernel2Ideal Cert.Kernel2Ideal.Gen

variable (κ : ℝ)

/-- The gradient at a query. -/
def rowDq (Q G : Fin 128 → ℝ) (K V : Fin 256 → Fin 128 → ℝ) (d : Fin 128) : ℝ := ∑ s, dscore κ Q G K V s * K s d

/-- The gradient at the keys, of 512 queries. -/
def rowsDk (Q G : Fin 512 → Fin 128 → ℝ) (K V : Fin 256 → Fin 128 → ℝ) (s : Fin 256) (d : Fin 128) : ℝ := ∑ t, dscore κ (Q t) (G t) K V s * Q t d

/-- The gradient at the values, of 512 queries. -/
def rowsDv (Q G : Fin 512 → Fin 128 → ℝ) (K : Fin 256 → Fin 128 → ℝ) (s : Fin 256) (d : Fin 128) : ℝ := ∑ t, weight κ (Q t) K s * G t d

section Head

variable (hκ : Ideal.ofBits .f32 0x3DB504F3#32 = (κ : EReal))
  (Q G : Fin 512 → Fin 128 → ℝ) (K V : Fin 256 → Fin 128 → ℝ)
  (q g : Vec Ideal S1x512x128 .bf16) (k v : Vec Ideal S1x256x128 .bf16)
  (hq : ∀ t d, q (ix3 0 t d) = Q t d) (hg : ∀ t d, g (ix3 0 t d) = G t d)
  (hk : ∀ s d, k (ix3 0 s d) = K s d) (hv : ∀ s d, v (ix3 0 s d) = V s d)

include hq in
/-- A head's queries without their unit axis. -/
theorem squeeze_real (t d) : k0_pay6 (F := Ideal) q (ix2 t d) = Q t d := by
  pointwise [k0_pay6]; exact hq t d

/-- The layouts of the heads' blocks are one. -/
theorem pay5_eq {F : FTy → Type} [FloatOps F] : (k0_pay5 (F := F)) = k0_pay6 := rfl
/-- The layouts of the heads' blocks are one. -/
theorem pay7_eq {F : FTy → Type} [FloatOps F] : (k0_pay7 (F := F)) = k0_pay6 := rfl
/-- The layouts of the heads' blocks are one. -/
theorem pay8_eq {F : FTy → Type} [FloatOps F] : (k0_pay8 (F := F)) = k0_pay6 := rfl
/-- The layouts of the heads' blocks are one. -/
theorem pay9_eq {F : FTy → Type} [FloatOps F] : (k0_pay9 (F := F)) = k0_pay6 := rfl
/-- The layouts of the heads' blocks are one. -/
theorem pay10_eq {F : FTy → Type} [FloatOps F] : (k0_pay10 (F := F)) = k0_pay6 := rfl
/-- The layouts of the heads' blocks are one. -/
theorem pay11_eq {F : FTy → Type} [FloatOps F] : (k0_pay11 (F := F)) = k0_pay6 := rfl
/-- The layouts of the heads' blocks are one. -/
theorem pay12_eq {F : FTy → Type} [FloatOps F] : (k0_pay12 (F := F)) = k0_pay6 := rfl

include hκ hq hg hk hv in
/-- A head's gradient at the scores. -/
theorem head_ds (t s) : k0_pay24 (F := Ideal) (k0_pay16 (k0_pay6 q) k) (k0_pay19 (k0_pay6 g) v) (ix2 t s) = (dscore κ (Q t) (G t) K V s : EReal) :=
  dscores κ hκ Q G K V _ _ (weights1 κ hκ Q K _ k (squeeze_real Q q hq) hk) (dweights G V _ v (squeeze_real G g hg) hv) t s

include hκ hq hg hk hv in
/-- A head's store of the gradient at the queries. -/
theorem head_dq (t d) : k0_pay31 (F := Ideal) (k0_pay24 (k0_pay16 (k0_pay6 q) k) (k0_pay19 (k0_pay6 g) v)) k (ix3 0 t d)
    = (rowDq κ (Q t) (G t) K V d : EReal) :=
  dq_pay K _ k (fun t s => dscore κ (Q t) (G t) K V s) (head_ds κ hκ Q G K V q g k v hq hg hk hv) hk t d

include hκ hq hg hk hv in
/-- A head's store of the gradient at the keys. -/
theorem head_dk (w : Vec Ideal S1x256x128 .f32) (s d) :
    k0_pay32 (F := Ideal) (k0_pay6 q) (k0_pay24 (k0_pay16 (k0_pay6 q) k) (k0_pay19 (k0_pay6 g) v)) w (ix3 0 s d)
    = w (ix3 0 s d) + (rowsDk κ Q G K V s d : EReal) :=
  dk_pay Q _ _ w (fun t s => dscore κ (Q t) (G t) K V s) (head_ds κ hκ Q G K V q g k v hq hg hk hv) (squeeze_real Q q hq) s d

include hκ hq hg hk in
/-- A head's store of the gradient at the values. -/
theorem head_dv (w : Vec Ideal S1x256x128 .f32) (s d) :
    k0_pay30 (F := Ideal) (k0_pay6 g) (k0_pay16 (k0_pay6 q) k) w (ix3 0 s d)
    = w (ix3 0 s d) + (rowsDv κ Q G K s d : EReal) :=
  dv_pay G _ _ w (fun t s => weight κ (Q t) K s) (weights1 κ hκ Q K _ k (squeeze_real Q q hq) hk) (squeeze_real G g hg) s d

end Head

/-- What a function of head and lane is at a column of the heads set beside one another. -/
theorem at_column {α : Type} (f : Fin 4 → Fin 128 → α) (j : Fin 512) (h : Fin 4) (d : Fin 128) (e : j.val = 128 * h.val + d.val) :
    f ⟨j.val / 128, by omega⟩ ⟨j.val % 128, by omega⟩ = f h d := by
  congr 1
  · congr 1; omega
  · apply Fin.ext; show j.val % 128 = _; omega

/-- The same, of the keys' columns followed by the values'. -/
def twoHalves {α : Type} (f g : Fin 4 → Fin 128 → α) (j : Fin 1024) : α :=
  if h : j.val < 512 then f ⟨j.val / 128, by omega⟩ ⟨j.val % 128, by omega⟩ else g ⟨(j.val - 512) / 128, by omega⟩ ⟨(j.val - 512) % 128, by omega⟩

/-- A column among the keys'. -/
theorem twoHalves_left {α : Type} (f g : Fin 4 → Fin 128 → α) (j : Fin 1024) (h : Fin 4) (d : Fin 128) (e : j.val = 128 * h.val + d.val) :
    twoHalves f g j = f h d := by
  rw [twoHalves, dif_pos (by omega)]
  exact at_column f ⟨j.val, by omega⟩ h d e

/-- A column among the values'. -/
theorem twoHalves_right {α : Type} (f g : Fin 4 → Fin 128 → α) (j : Fin 1024) (h : Fin 4) (d : Fin 128) (e : j.val = 512 + 128 * h.val + d.val) :
    twoHalves f g j = g h d := by
  rw [twoHalves, dif_neg (by omega)]
  exact at_column g ⟨j.val - 512, by omega⟩ h d (by show j.val - 512 = _; omega)

/-- An earlier store that the later ones cover is not seen. -/
theorem canon_covered {s : Shape} {e : EltTy} (L L' : List (View.Piece (Elt Ideal) s e)) (y : s.Idx) (h : ∃ p ∈ L, y ∈ p.1.set) :
    View.canon (L ++ L') y = View.canon L y := by
  induction L with
  | nil => obtain ⟨p, hp, _⟩ := h; exact absurd hp List.not_mem_nil
  | cons p L ih =>
    by_cases hm : y ∈ p.1.set
    · obtain ⟨x, rfl⟩ := p.1.exists_idx_of_mem hm
      rw [show p.1.idx x = p.1.emb x from rfl]
      exact (View.canon_cons_emb _ _ _ x).trans (View.canon_cons_emb _ _ _ x).symm
    · rw [List.cons_append, View.canon_cons_of_not_mem _ _ hm, View.canon_cons_of_not_mem _ _ hm]
      obtain ⟨p', hp', hy⟩ := h
      rcases List.mem_cons.mp hp' with rfl | hp'
      · exact absurd hy hm
      · exact ih ⟨p', hp', hy⟩

/-- The blocks that a point of the grid is given, as reals: four heads' queries, the keys and values, and the gradient. -/
structure RealBlocks (m : (ℓ : Loc nD τ sig) → Buf (Elt Ideal) ℓ) (c : Dev nD) (t : Fin cfg0.N)
    (Q G : Fin 4 → Fin 512 → Fin 128 → ℝ) (K V : Fin 4 → Fin 256 → Fin 128 → ℝ) : Prop where
  q0 : ∀ r d, iblk m c 0 t (ix3 0 r d) = (Q 0 r d : EReal)
  q1 : ∀ r d, iblk m c 1 t (ix3 0 r d) = (Q 1 r d : EReal)
  q2 : ∀ r d, iblk m c 2 t (ix3 0 r d) = (Q 2 r d : EReal)
  q3 : ∀ r d, iblk m c 3 t (ix3 0 r d) = (Q 3 r d : EReal)
  k : ∀ h s d, iblk m c 4 t (ix3 0 s ⟨128 * h.val + d.val, by omega⟩) = (K h s d : EReal)
  v : ∀ h s d, iblk m c 4 t (ix3 0 s ⟨512 + 128 * h.val + d.val, by omega⟩) = (V h s d : EReal)
  g : ∀ h r d, iblk m c 5 t (ix3 0 r ⟨128 * h.val + d.val, by omega⟩) = (G h r d : EReal)

/-- A load of 128 columns of the keys' and values' block. -/
theorem ld_kv {e : EltTy} (X : Vec Ideal S1x256x1024 e) (o : ℕ) (inb : ∀ a, ![0, 0, o] a + ![1, 256, 128] a ≤ S1x256x1024.size a) (ho : o + 128 ≤ 1024) (s : Fin 256) (d : Fin 128) :
    View.ld X (Rect.unit (s := S1x256x1024) ![0, 0, o] ![1, 256, 128] inb) (ix3 0 s d) = X (ix3 0 s ⟨o + d.val, by omega⟩) := by
  pointwise

/-- A load of 128 columns of the gradient's block. -/
theorem ld_g {e : EltTy} (X : Vec Ideal S1x512x512 e) (o : ℕ) (inb : ∀ a, ![0, 0, o] a + ![1, 512, 128] a ≤ S1x512x512.size a) (ho : o + 128 ≤ 512) (s : Fin 512) (d : Fin 128) :
    View.ld X (Rect.unit (s := S1x512x512) ![0, 0, o] ![1, 512, 128] inb) (ix3 0 s d) = X (ix3 0 s ⟨o + d.val, by omega⟩) := by
  pointwise

section Pieces

variable (hκ : Ideal.ofBits .f32 0x3DB504F3#32 = (κ : EReal))
  (Q G : Fin 4 → Fin 512 → Fin 128 → ℝ) (K V : Fin 4 → Fin 256 → Fin 128 → ℝ) (h : Fin 4)
  (q g : Vec Ideal S1x512x128 .bf16) (k v : Vec Ideal S1x256x128 .bf16)
  (hq : ∀ t d, q (ix3 0 t d) = Q h t d) (hg : ∀ t d, g (ix3 0 t d) = G h t d)
  (hk : ∀ s d, k (ix3 0 s d) = K h s d) (hv : ∀ s d, v (ix3 0 s d) = V h s d)

/-- The whole block's gradient at the queries. -/
def blockDq (r : Fin 512) (j : Fin 512) : ℝ :=
  (fun h d => rowDq κ (Q h r) (G h r) (K h) (V h) d) ⟨j.val / 128, by omega⟩ ⟨j.val % 128, by omega⟩

/-- The whole block's gradients at the keys and at the values. -/
def blockDkv (s : Fin 256) (j : Fin 1024) : ℝ :=
  twoHalves (fun h d => rowsDk κ (Q h) (G h) (K h) (V h) s d) (fun h d => rowsDv κ (Q h) (G h) (K h) s d) j

include hκ hq hg hk hv in
/-- A head's store of the gradient at the queries, as a piece of the block's. -/
theorem piece_dq (r j : Fin 512) (x : S1x512x128.Idx) (h1 : r.val = (x 1).val) (h2 : j.val = 128 * h.val + (x 2).val) :
    k0_pay31 (F := Ideal) (k0_pay24 (k0_pay16 (k0_pay6 q) k) (k0_pay19 (k0_pay6 g) v)) k x = (blockDq κ Q G K V r j : EReal) := by
  refine Eq.trans ?_ (congrArg ((↑·) : ℝ → EReal) (at_column (fun h d => rowDq κ (Q h r) (G h r) (K h) (V h) d) j h (x 2) h2)).symm
  rw [show x = ix3 0 r (x 2) by
    funext a; match a with | 0 => exact Subsingleton.elim (α := Fin 1) _ _ | 1 => exact Fin.ext h1.symm | 2 => rfl]
  exact head_dq κ hκ (Q h) (G h) (K h) (V h) q g k v hq hg hk hv r (x 2)

include hκ hq hg hk hv in
/-- A head's store of the gradient at the keys, as a piece of the block's. -/
theorem piece_dk (w : Vec Ideal S1x256x128 .f32) (s : Fin 256) (j : Fin 1024) (p : EReal) (x : S1x256x128.Idx) (h1 : s.val = (x 1).val)
    (h2 : j.val = 128 * h.val + (x 2).val) (hw : ∀ d, d = x 2 → w (ix3 0 s d) = p) :
    k0_pay32 (F := Ideal) (k0_pay6 q) (k0_pay24 (k0_pay16 (k0_pay6 q) k) (k0_pay19 (k0_pay6 g) v)) w x = p + (blockDkv κ Q G K V s j : EReal) := by
  rw [blockDkv, twoHalves_left _ _ j h (x 2) h2, show x = ix3 0 s (x 2) by
    funext a; match a with | 0 => exact Subsingleton.elim (α := Fin 1) _ _ | 1 => exact Fin.ext h1.symm | 2 => rfl, ← hw (x 2) rfl]
  exact head_dk κ hκ (Q h) (G h) (K h) (V h) q g k v hq hg hk hv w s (x 2)

include hκ hq hg hk in
/-- A head's store of the gradient at the values, as a piece of the block's. -/
theorem piece_dv (w : Vec Ideal S1x256x128 .f32) (s : Fin 256) (j : Fin 1024) (p : EReal) (x : S1x256x128.Idx) (h1 : s.val = (x 1).val)
    (h2 : j.val = 512 + 128 * h.val + (x 2).val) (hw : ∀ d, d = x 2 → w (ix3 0 s d) = p) :
    k0_pay30 (F := Ideal) (k0_pay6 g) (k0_pay16 (k0_pay6 q) k) w x = p + (blockDkv κ Q G K V s j : EReal) := by
  rw [blockDkv, twoHalves_right _ _ j h (x 2) h2, show x = ix3 0 s (x 2) by
    funext a; match a with | 0 => exact Subsingleton.elim (α := Fin 1) _ _ | 1 => exact Fin.ext h1.symm | 2 => rfl, ← hw (x 2) rfl]
  exact head_dv κ hκ (Q h) (G h) (K h) q g k hq hg hk w s (x 2)

end Pieces

/-- Two names of a column. -/
theorem column_eq {e : EltTy} (X : Vec Ideal S1x256x1024 e) (s : Fin 256) (d : Fin 128) (j : Fin 1024) (x : S1x256x128.Idx) (o : ℕ) {h : o + d.val < 1024} (e : d = x 2) (hj : j.val = o + (x 2).val) :
    X (ix3 0 s ⟨o + d.val, h⟩) = X (ix3 0 s j) := by
  subst e; exact congrArg X (congrArg (ix3 0 s) (Fin.ext hj.symm))

section Outputs

variable (hκ : Ideal.ofBits .f32 0x3DB504F3#32 = (κ : EReal)) (m : (ℓ : Loc nD τ sig) → Buf (Elt Ideal) ℓ) (c : Dev nD) (t : Fin cfg0.N)
  (Q G : Fin 4 → Fin 512 → Fin 128 → ℝ) (K V : Fin 4 → Fin 256 → Fin 128 → ℝ) (H : RealBlocks m c t Q G K V)

include hκ H in
/-- The first output block at the first point of a batch. -/
theorem dq_first (h0 : t.val % 4 = 0) (r j : Fin 512) : (outsAt0 m c t.val t.isLt).1 (ix3 0 r j) = (blockDq κ Q G K V r j : EReal) := by
  rw [outsAt0_A m c t h0]
  frame_open
  simp (disch := decide) only [↓ View.readCov_skip, ↓ View.readCov_cons_toLoadRect, ↓ View.readCov_fill]
  frame_out
  canon_tiles x h
  · exact piece_dq κ hκ Q G K V 3 _ _ _ _ H.q3 (fun s d => (ld_g _ _ _ (by decide) s d).trans (H.g 3 s d))
      (fun s d => (ld_kv _ _ _ (by decide) s d).trans (H.k 3 s d)) (fun s d => (ld_kv _ _ _ (by decide) s d).trans (H.v 3 s d)) r j x h1 (h2)
  · exact piece_dq κ hκ Q G K V 2 _ _ _ _ H.q2 (fun s d => (ld_g _ _ _ (by decide) s d).trans (H.g 2 s d))
      (fun s d => (ld_kv _ _ _ (by decide) s d).trans (H.k 2 s d)) (fun s d => (ld_kv _ _ _ (by decide) s d).trans (H.v 2 s d)) r j x h1 (h2)
  · exact piece_dq κ hκ Q G K V 1 _ _ _ _ H.q1 (fun s d => (ld_g _ _ _ (by decide) s d).trans (H.g 1 s d))
      (fun s d => (ld_kv _ _ _ (by decide) s d).trans (H.k 1 s d)) (fun s d => (ld_kv _ _ _ (by decide) s d).trans (H.v 1 s d)) r j x h1 (h2)
  · exact piece_dq κ hκ Q G K V 0 _ _ _ _ H.q0 (fun s d => (ld_g _ _ _ (by decide) s d).trans (H.g 0 s d))
      (fun s d => (ld_kv _ _ _ (by decide) s d).trans (H.k 0 s d)) (fun s d => (ld_kv _ _ _ (by decide) s d).trans (H.v 0 s d)) r j x h1 (h2.trans (Nat.zero_add _).symm)

include hκ H in
/-- The first output block at a later point. -/
theorem dq_later (h0 : ¬t.val % 4 = 0) (r j : Fin 512) : (outsAt0 m c t.val t.isLt).1 (ix3 0 r j) = (blockDq κ Q G K V r j : EReal) := by
  rw [outsAt0_B m c t h0]
  frame_open
  simp (disch := decide) only [↓ View.readCov_skip, ↓ View.readCov_cons_toLoadRect, ↓ View.readCov_fill]
  frame_out
  canon_tiles x h
  · exact piece_dq κ hκ Q G K V 3 _ _ _ _ H.q3 (fun s d => (ld_g _ _ _ (by decide) s d).trans (H.g 3 s d))
      (fun s d => (ld_kv _ _ _ (by decide) s d).trans (H.k 3 s d)) (fun s d => (ld_kv _ _ _ (by decide) s d).trans (H.v 3 s d)) r j x h1 (h2)
  · exact piece_dq κ hκ Q G K V 2 _ _ _ _ H.q2 (fun s d => (ld_g _ _ _ (by decide) s d).trans (H.g 2 s d))
      (fun s d => (ld_kv _ _ _ (by decide) s d).trans (H.k 2 s d)) (fun s d => (ld_kv _ _ _ (by decide) s d).trans (H.v 2 s d)) r j x h1 (h2)
  · exact piece_dq κ hκ Q G K V 1 _ _ _ _ H.q1 (fun s d => (ld_g _ _ _ (by decide) s d).trans (H.g 1 s d))
      (fun s d => (ld_kv _ _ _ (by decide) s d).trans (H.k 1 s d)) (fun s d => (ld_kv _ _ _ (by decide) s d).trans (H.v 1 s d)) r j x h1 (h2)
  · exact piece_dq κ hκ Q G K V 0 _ _ _ _ H.q0 (fun s d => (ld_g _ _ _ (by decide) s d).trans (H.g 0 s d))
      (fun s d => (ld_kv _ _ _ (by decide) s d).trans (H.k 0 s d)) (fun s d => (ld_kv _ _ _ (by decide) s d).trans (H.v 0 s d)) r j x h1 (h2.trans (Nat.zero_add _).symm)

include hκ H in
/-- The first output block. -/
theorem dq_point (r j : Fin 512) : (outsAt0 m c t.val t.isLt).1 (ix3 0 r j) = (blockDq κ Q G K V r j : EReal) := by
  by_cases h0 : t.val % 4 = 0
  · exact dq_first κ hκ m c t Q G K V H h0 r j
  · exact dq_later κ hκ m c t Q G K V H h0 r j

include hκ H in
/-- The second output block at a later point: what was there and this point's rows' part. -/
theorem dkv_later (h0 : ¬t.val % 4 = 0) (s : Fin 256) (j : Fin 1024) : (outsAt0 m c t.val t.isLt).2 (ix3 0 s j)
    = (outsAt0 m c (t.val - 1) (Nat.lt_of_le_of_lt (Nat.sub_le _ _) t.isLt)).2 (ix3 0 s j) + (blockDkv κ Q G K V s j : EReal) := by
  rw [outsAt0_B m c t h0]
  frame_open
  simp (disch := decide) only [↓ View.readCov_skip, ↓ View.readCov_cons_toLoadRect, ↓ View.readCov_fill]
  frame_out
  canon_tiles x h
  · exact piece_dv κ hκ Q G K V 3 _ _ _ H.q3 (fun s d => (ld_g _ _ _ (by decide) s d).trans (H.g 3 s d))
      (fun s d => (ld_kv _ _ _ (by decide) s d).trans (H.k 3 s d)) _ s j _ x h1 h2 (fun d e => (ld_kv _ _ _ (by decide) s d).trans (column_eq _ s d j x 896 e h2))
  · exact piece_dk κ hκ Q G K V 3 _ _ _ _ H.q3 (fun s d => (ld_g _ _ _ (by decide) s d).trans (H.g 3 s d))
      (fun s d => (ld_kv _ _ _ (by decide) s d).trans (H.k 3 s d)) (fun s d => (ld_kv _ _ _ (by decide) s d).trans (H.v 3 s d)) _ s j _ x h1 (h2) (fun d e => (ld_kv _ _ _ (by decide) s d).trans (column_eq _ s d j x 384 e h2))
  · exact piece_dv κ hκ Q G K V 2 _ _ _ H.q2 (fun s d => (ld_g _ _ _ (by decide) s d).trans (H.g 2 s d))
      (fun s d => (ld_kv _ _ _ (by decide) s d).trans (H.k 2 s d)) _ s j _ x h1 h2 (fun d e => (ld_kv _ _ _ (by decide) s d).trans (column_eq _ s d j x 768 e h2))
  · exact piece_dk κ hκ Q G K V 2 _ _ _ _ H.q2 (fun s d => (ld_g _ _ _ (by decide) s d).trans (H.g 2 s d))
      (fun s d => (ld_kv _ _ _ (by decide) s d).trans (H.k 2 s d)) (fun s d => (ld_kv _ _ _ (by decide) s d).trans (H.v 2 s d)) _ s j _ x h1 (h2) (fun d e => (ld_kv _ _ _ (by decide) s d).trans (column_eq _ s d j x 256 e h2))
  · exact piece_dv κ hκ Q G K V 1 _ _ _ H.q1 (fun s d => (ld_g _ _ _ (by decide) s d).trans (H.g 1 s d))
      (fun s d => (ld_kv _ _ _ (by decide) s d).trans (H.k 1 s d)) _ s j _ x h1 h2 (fun d e => (ld_kv _ _ _ (by decide) s d).trans (column_eq _ s d j x 640 e h2))
  · exact piece_dk κ hκ Q G K V 1 _ _ _ _ H.q1 (fun s d => (ld_g _ _ _ (by decide) s d).trans (H.g 1 s d))
      (fun s d => (ld_kv _ _ _ (by decide) s d).trans (H.k 1 s d)) (fun s d => (ld_kv _ _ _ (by decide) s d).trans (H.v 1 s d)) _ s j _ x h1 (h2) (fun d e => (ld_kv _ _ _ (by decide) s d).trans (column_eq _ s d j x 128 e h2))
  · exact piece_dv κ hκ Q G K V 0 _ _ _ H.q0 (fun s d => (ld_g _ _ _ (by decide) s d).trans (H.g 0 s d))
      (fun s d => (ld_kv _ _ _ (by decide) s d).trans (H.k 0 s d)) _ s j _ x h1 h2 (fun d e => (ld_kv _ _ _ (by decide) s d).trans (column_eq _ s d j x 512 e h2))
  · exact piece_dk κ hκ Q G K V 0 _ _ _ _ H.q0 (fun s d => (ld_g _ _ _ (by decide) s d).trans (H.g 0 s d))
      (fun s d => (ld_kv _ _ _ (by decide) s d).trans (H.k 0 s d)) (fun s d => (ld_kv _ _ _ (by decide) s d).trans (H.v 0 s d)) _ s j _ x h1 (h2.trans (Nat.zero_add _).symm) (fun d e => (ld_kv _ _ _ (by decide) s d).trans (column_eq _ s d j x 0 e (h2.trans (Nat.zero_add _).symm)))

/-- The block is zeroed at the first point of a batch. -/
theorem zero_at (i : S1x256x1024.Idx) : k0_pay4 (F := Ideal) i = 0 := by
  pointwise [k0_pay4]

include hκ H in
/-- The second output block at the first point of a batch. -/
theorem dkv_first (h0 : t.val % 4 = 0) (s : Fin 256) (j : Fin 1024) : (outsAt0 m c t.val t.isLt).2 (ix3 0 s j)
    = 0 + (blockDkv κ Q G K V s j : EReal) := by
  rw [outsAt0_A m c t h0]
  frame_open
  simp (disch := decide) only [↓ View.readCov_skip, ↓ View.readCov_cons_toLoadRect, ↓ View.readCov_fill]
  frame_out
  refine (canon_covered [_, _, _, _, _, _, _, _] [_] _ ?_).trans ?_
  · exact View.cover_of_tiledBy _ ![1, 256, 128] (by sl_kernel_rfl) _
  canon_tiles x h
  · exact piece_dv κ hκ Q G K V 3 _ _ _ H.q3 (fun s d => (ld_g _ _ _ (by decide) s d).trans (H.g 3 s d))
      (fun s d => (ld_kv _ _ _ (by decide) s d).trans (H.k 3 s d)) _ s j _ x h1 h2 (fun d e => (ld_kv _ _ _ (by decide) s d).trans (zero_at _))
  · exact piece_dk κ hκ Q G K V 3 _ _ _ _ H.q3 (fun s d => (ld_g _ _ _ (by decide) s d).trans (H.g 3 s d))
      (fun s d => (ld_kv _ _ _ (by decide) s d).trans (H.k 3 s d)) (fun s d => (ld_kv _ _ _ (by decide) s d).trans (H.v 3 s d)) _ s j _ x h1 (h2) (fun d e => (ld_kv _ _ _ (by decide) s d).trans (zero_at _))
  · exact piece_dv κ hκ Q G K V 2 _ _ _ H.q2 (fun s d => (ld_g _ _ _ (by decide) s d).trans (H.g 2 s d))
      (fun s d => (ld_kv _ _ _ (by decide) s d).trans (H.k 2 s d)) _ s j _ x h1 h2 (fun d e => (ld_kv _ _ _ (by decide) s d).trans (zero_at _))
  · exact piece_dk κ hκ Q G K V 2 _ _ _ _ H.q2 (fun s d => (ld_g _ _ _ (by decide) s d).trans (H.g 2 s d))
      (fun s d => (ld_kv _ _ _ (by decide) s d).trans (H.k 2 s d)) (fun s d => (ld_kv _ _ _ (by decide) s d).trans (H.v 2 s d)) _ s j _ x h1 (h2) (fun d e => (ld_kv _ _ _ (by decide) s d).trans (zero_at _))
  · exact piece_dv κ hκ Q G K V 1 _ _ _ H.q1 (fun s d => (ld_g _ _ _ (by decide) s d).trans (H.g 1 s d))
      (fun s d => (ld_kv _ _ _ (by decide) s d).trans (H.k 1 s d)) _ s j _ x h1 h2 (fun d e => (ld_kv _ _ _ (by decide) s d).trans (zero_at _))
  · exact piece_dk κ hκ Q G K V 1 _ _ _ _ H.q1 (fun s d => (ld_g _ _ _ (by decide) s d).trans (H.g 1 s d))
      (fun s d => (ld_kv _ _ _ (by decide) s d).trans (H.k 1 s d)) (fun s d => (ld_kv _ _ _ (by decide) s d).trans (H.v 1 s d)) _ s j _ x h1 (h2) (fun d e => (ld_kv _ _ _ (by decide) s d).trans (zero_at _))
  · exact piece_dv κ hκ Q G K V 0 _ _ _ H.q0 (fun s d => (ld_g _ _ _ (by decide) s d).trans (H.g 0 s d))
      (fun s d => (ld_kv _ _ _ (by decide) s d).trans (H.k 0 s d)) _ s j _ x h1 h2 (fun d e => (ld_kv _ _ _ (by decide) s d).trans (zero_at _))
  · exact piece_dk κ hκ Q G K V 0 _ _ _ _ H.q0 (fun s d => (ld_g _ _ _ (by decide) s d).trans (H.g 0 s d))
      (fun s d => (ld_kv _ _ _ (by decide) s d).trans (H.k 0 s d)) (fun s d => (ld_kv _ _ _ (by decide) s d).trans (H.v 0 s d)) _ s j _ x h1 (h2.trans (Nat.zero_add _).symm) (fun d e => (ld_kv _ _ _ (by decide) s d).trans (zero_at _))

end Outputs

end Cert.Mem

end
-- ==== Proof.MemScores.lean ====
/- The cross-attention's reference read at an index, on finite inputs: every stage is a real number, and its two results are
   the gradients of MemMath. -/
module

public import Idealize.ShloMosaic.Lib.Pipeline.ValueKit
public import proofs.«01_k».proof.Proof.MemMath
public import proofs.«01_k».proof.Proof.Gen.Reference2Ideal.Read

@[expose] public section

noncomputable section

namespace Cert.Mem

open Idealize.ShloMosaic Cert.Reals Cert.Reference2Ideal Cert.Reference2Ideal.Read

variable (x0 : Vec Ideal S4x2048x4352 .bf16) (x1 : Vec Ideal S4x256x1024 .bf16) (x2 : Vec Ideal S4x2048x512 .bf16)

/-- The query of head `h` at row `t` of batch `b`. -/
def qOf (b : Fin 4) (t : Fin 2048) (h : Fin 4) (d : Fin 128) : ℝ := (x0 (ix3 b t ⟨3840 + (128 * h.val + d.val), by omega⟩)).toReal
/-- The key of head `h` at memory slot `s` of batch `b`. -/
def kOf (b : Fin 4) (h : Fin 4) (s : Fin 256) (d : Fin 128) : ℝ := (x1 (ix3 b s ⟨128 * h.val + d.val, by omega⟩)).toReal
/-- The value of head `h` at memory slot `s` of batch `b`. -/
def vOf (b : Fin 4) (h : Fin 4) (s : Fin 256) (d : Fin 128) : ℝ := (x1 (ix3 b s ⟨512 + (128 * h.val + d.val), by omega⟩)).toReal
/-- The gradient of the output of head `h` at row `t` of batch `b`. -/
def gOf (b : Fin 4) (t : Fin 2048) (h : Fin 4) (d : Fin 128) : ℝ := (x2 (ix3 b t ⟨128 * h.val + d.val, by omega⟩)).toReal

variable (κ : ℝ)

variable (hκ : Ideal.ofBits .f32 0x3DB504F3#32 = (κ : EReal))
variable (h0 : ∀ i, Fin' (x0 i)) (h1 : ∀ i, Fin' (x1 i)) (h2 : ∀ i, Fin' (x2 i))

/-- The folded query of the reference is the query. -/
theorem v2_real (h0 : ∀ i, Fin' (x0 i)) (b t h d) : val_main_v2 (F := Ideal) x0 (ix4 b t h d) = (qOf x0 b t h d : EReal) := by
  pointwise [val_main_v2, val_main_v1, val_main_v0]
  rw [qOf, ← coe_toReal (h0 _)]
  blk_ext

/-- The folded key of the reference is the key. -/
theorem v5_real (h1 : ∀ i, Fin' (x1 i)) (b s h d) : val_main_v5 (F := Ideal) x1 (ix4 b s h d) = (kOf x1 b h s d : EReal) := by
  pointwise [val_main_v5, val_main_v4, val_main_v3]
  rw [kOf, ← coe_toReal (h1 _)]
  blk_ext

/-- The folded value of the reference is the value. -/
theorem v7_real (h1 : ∀ i, Fin' (x1 i)) (b s h d) : val_main_v7 (F := Ideal) x1 (ix4 b s h d) = (vOf x1 b h s d : EReal) := by
  pointwise [val_main_v7, val_main_v6, val_main_v3]
  rw [vOf, ← coe_toReal (h1 _)]
  blk_ext

/-- The transposed output gradient of the reference is the output gradient. -/
theorem v43_real (h2 : ∀ i, Fin' (x2 i)) (b h d t) : val_main_v43 (F := Ideal) x2 (ix4 b h d t) = (gOf x2 b t h d : EReal) := by
  pointwise [val_main_v43, val_main_v9, val_main_v8]
  rw [gOf, ← coe_toReal (h2 _)]
  blk_ext

include hκ h0 h1 in
/-- The scaled scores. -/
theorem v12_real (b h t s) : val_main_v12 (F := Ideal) x0 x1 (ix4 b h t s) = (score κ (qOf x0 b t h) (kOf x1 b h) s : EReal) := by
  pointwise [val_main_v12, val_main_v11, val_main_cst, val_main_v10]
  simp only [v2_real x0 h0, v5_real x1 h1, ← EReal.coe_mul, coe_sum, hκ, score]

end Cert.Mem

end
-- ==== Proof.MemMax.lean ====
/- The largest score of a row, in the cross-attention's reference, is a real number. -/
module

public import proofs.«01_k».proof.Proof.MemScores

@[expose] public section

noncomputable section

namespace Cert.Mem

open Idealize.ShloMosaic Cert.Reals Cert.Reference2Ideal Cert.Reference2Ideal.Read

variable (x0 : Vec Ideal S4x2048x4352 .bf16) (x1 : Vec Ideal S4x256x1024 .bf16) (x2 : Vec Ideal S4x2048x512 .bf16)
variable (κ : ℝ)
variable (hκ : Ideal.ofBits .f32 0x3DB504F3#32 = (κ : EReal))
variable (h0 : ∀ i, Fin' (x0 i)) (h1 : ∀ i, Fin' (x1 i)) (h2 : ∀ i, Fin' (x2 i))

/-- The initial value of the maximum is minus infinity. -/
theorem cst_0_bot (i) : val_main_cst_0 (F := Ideal) i = ⊥ := by
  pointwise [val_main_cst_0]; exact negInf_f32

include hκ h0 h1 in
/-- Every scaled score is a real number. -/
theorem v12_isReal (i) : ∃ r : ℝ, val_main_v12 (F := Ideal) x0 x1 i = (r : EReal) := by
  obtain ⟨b, h, t, s, rfl⟩ : ∃ b h t s, i = ix4 b h t s := ⟨i 0, i 1, i 2, i 3, by blk_ext⟩
  exact ⟨_, v12_real x0 x1 κ hκ h0 h1 b h t s⟩

/-- The shapes of the maximum: the last axis goes. -/
theorem reduces_last : S4x4x2048x256.Reduces [3] S4x4x2048 := by decide

/-- The maximum along the last axis of an array of reals is a real. -/
theorem max_real (h' : S4x4x2048x256.ReducesTo [3] S4x4x2048) (hu : 0 < S_.numel) (x : S4x4x2048x256.Idx → EReal) (init : S_.Idx → EReal) (hi : ∀ i, init i = ⊥) (hx : ∀ i, ∃ r : ℝ, x i = (r : EReal)) (j : S4x4x2048.Idx) :
    ∃ mx : ℝ, Host.reduce (max : EReal → EReal → EReal) x init h' hu j = (mx : EReal) :=
  reduce_max_real _ reduces_last _ _ _ (hi _) ⟨0, by decide⟩ hx j

include hκ h0 h1 in
/-- The largest score of a row is a real number. -/
theorem v13_real (j) : ∃ mx : ℝ, val_main_v13 (F := Ideal) x0 x1 j = (mx : EReal) := by
  unfold val_main_v13
  exact max_real _ _ _ _ cst_0_bot (v12_isReal x0 x1 κ hκ h0 h1) j

include hκ h0 h1 in
/-- And so is the row's shift. -/
theorem v20_real (b h t) : ∃ mx : ℝ, val_main_v20 (F := Ideal) x0 x1 (ix3 b h t) = (mx : EReal) := by
  obtain ⟨mx, e13⟩ := v13_real x0 x1 κ hκ h0 h1 (ix3 b h t)
  refine ⟨mx, ?_⟩
  rw [val_main_v20_apply, val_main_v19_apply, e13]
  pointwise [val_main_cst_2]
  rw [negInf_f32, max_bot_left]

end Cert.Mem

end
-- ==== Proof.MemReference.lean ====
/- The cross-attention's reference on finite inputs: its two results are the gradients of MemMath. -/
module

public import proofs.«01_k».proof.Proof.MemMax

@[expose] public section

noncomputable section

namespace Cert.Mem

open Idealize.ShloMosaic Cert.Reals Cert.Reference2Ideal Cert.Reference2Ideal.Read

variable (x0 : Vec Ideal S4x2048x4352 .bf16) (x1 : Vec Ideal S4x256x1024 .bf16) (x2 : Vec Ideal S4x2048x512 .bf16)
variable (κ : ℝ)
variable (hκ : Ideal.ofBits .f32 0x3DB504F3#32 = (κ : EReal))
variable (h0 : ∀ i, Fin' (x0 i)) (h1 : ∀ i, Fin' (x1 i)) (h2 : ∀ i, Fin' (x2 i))

/-- The exponentials of the scores less the row's shift. -/
theorem v33_real (mx : ℝ) (b h t) (e : val_main_v20 (F := Ideal) x0 x1 (ix3 b h t) = (mx : EReal)) (hκ : Ideal.ofBits .f32 0x3DB504F3#32 = (κ : EReal))
    (h0 : ∀ i, Fin' (x0 i)) (h1 : ∀ i, Fin' (x1 i)) (s) :
    val_main_v33 (F := Ideal) x0 x1 (ix4 b h t s) = (Real.exp (score κ (qOf x0 b t h) (kOf x1 b h) s - mx) : EReal) := by
  pointwise [val_main_v33, val_main_v32, val_main_v31, val_main_v30]
  rw [e, v12_real x0 x1 κ hκ h0 h1, ← EReal.coe_sub, Ideal.exp_coe]

/-- Their sum. -/
theorem v34_real (mx : ℝ) (b h t) (e : val_main_v20 (F := Ideal) x0 x1 (ix3 b h t) = (mx : EReal)) (hκ : Ideal.ofBits .f32 0x3DB504F3#32 = (κ : EReal))
    (h0 : ∀ i, Fin' (x0 i)) (h1 : ∀ i, Fin' (x1 i)) :
    val_main_v34 (F := Ideal) x0 x1 (ix3 b h t) = (norm κ (qOf x0 b t h) (kOf x1 b h) * Real.exp (-mx) : ℝ) := by
  pointwise [val_main_v34, val_main_cst_8]
  simp only [v33_real x0 x1 κ mx b h t e hκ h0 h1, coe_sum, sum_shift]

include hκ h0 h1 in
/-- The attention weights. -/
theorem v37_real (b h t s) : val_main_v37 (F := Ideal) x0 x1 (ix4 b h t s) = (weight κ (qOf x0 b t h) (kOf x1 b h) s : EReal) := by
  obtain ⟨mx, e⟩ := v20_real x0 x1 κ hκ h0 h1 b h t
  pointwise [val_main_v37, val_main_v36, val_main_v35]
  rw [v33_real x0 x1 κ mx b h t e hκ h0 h1, v34_real x0 x1 κ mx b h t e hκ h0 h1,
    div_coe_coe _ _ (mul_ne_zero (norm_ne _ _ _) (Real.exp_pos _).ne'), shifted_weight]

/-- The gradient at the weights. -/
theorem v44_real (h1 : ∀ i, Fin' (x1 i)) (h2 : ∀ i, Fin' (x2 i)) (b h t s) :
    val_main_v44 (F := Ideal) x1 x2 (ix4 b h t s) = (dweight (gOf x2 b t h) (vOf x1 b h) s : EReal) := by
  pointwise [val_main_v44]
  simp only [v43_real x2 h2, v7_real x1 h1, ← EReal.coe_mul, coe_sum, dweight]

include hκ h0 h1 h2 in
/-- The gradient at the scores, scaled. -/
theorem v60_real (b h t s) : val_main_v60 (F := Ideal) x0 x1 x2 (ix4 b h t s)
    = (dscore κ (qOf x0 b t h) (gOf x2 b t h) (kOf x1 b h) (vOf x1 b h) s : EReal) := by
  obtain ⟨mx, e⟩ := v20_real x0 x1 κ hκ h0 h1 b h t
  have hz : norm κ (qOf x0 b t h) (kOf x1 b h) * Real.exp (-mx) ≠ 0 := mul_ne_zero (norm_ne _ _ _) (Real.exp_pos _).ne'
  pointwise [val_main_v60, val_main_v59, val_main_cst_12, val_main_v58, val_main_v57, val_main_v56, val_main_v55, val_main_v54, val_main_v53, val_main_v52, val_main_v51, val_main_v50, val_main_v49, val_main_v48, val_main_v47, val_main_v40, val_main_v39, val_main_cst_9, val_main_v38, val_main_v35, val_main_cst_10, val_main_cst_11]
  simp only [v33_real x0 x1 κ mx b h t e hκ h0 h1, v34_real x0 x1 κ mx b h t e hκ h0 h1, v44_real x1 x2 h1 h2, hκ,
    ← EReal.coe_mul, show (1 : EReal) = ((1 : ℝ) : EReal) from rfl, div_coe_coe _ _ hz, div_coe_coe _ _ (mul_ne_zero hz hz), coe_sum, ← EReal.coe_neg,
    ← EReal.coe_add]
  rw [← dscore_quotient κ _ _ _ _ mx]
  simp

/-! ## The two results -/

/-- The gradient at the query. -/
def dq (b : Fin 4) (t : Fin 2048) (h : Fin 4) (d : Fin 128) : ℝ :=
  ∑ s, dscore κ (qOf x0 b t h) (gOf x2 b t h) (kOf x1 b h) (vOf x1 b h) s * kOf x1 b h s d
/-- The gradient at the key. -/
def dk (b : Fin 4) (h : Fin 4) (s : Fin 256) (d : Fin 128) : ℝ :=
  ∑ t, dscore κ (qOf x0 b t h) (gOf x2 b t h) (kOf x1 b h) (vOf x1 b h) s * qOf x0 b t h d
/-- The gradient at the value. -/
def dv (b : Fin 4) (h : Fin 4) (s : Fin 256) (d : Fin 128) : ℝ :=
  ∑ t, weight κ (qOf x0 b t h) (kOf x1 b h) s * gOf x2 b t h d

include hκ h0 h1 h2 in
/-- The first result is the gradient at the queries, head by head. -/
theorem v69_real (b t j) : val_main_v69 (F := Ideal) x0 x1 x2 (ix3 b t j)
    = (dq x0 x1 x2 κ b t ⟨j.val / 128, by omega⟩ ⟨j.val % 128, by omega⟩ : EReal) := by
  pointwise [val_main_v69, val_main_v68, val_main_v64, val_main_v63]
  simp only [v60_real x0 x1 x2 κ hκ h0 h1 h2, v5_real x1 h1, ← EReal.coe_mul, coe_sum, dq]

include hκ h0 h1 h2 in
/-- The second result is the gradient at the keys beside the gradient at the values. -/
theorem v67_real (b s) (j : Fin 1024) : val_main_v67 (F := Ideal) x0 x1 x2 (ix3 b s j)
    = (if h : j.val < 512 then (dk x0 x1 x2 κ b ⟨j.val / 128, by omega⟩ s ⟨j.val % 128, by omega⟩ : EReal)
        else (dv x0 x1 x2 κ b ⟨(j.val - 512) / 128, by omega⟩ s ⟨(j.val - 512) % 128, by omega⟩ : EReal)) := by
  pointwise [val_main_v67, val_main_v66, val_main_v65, val_main_v46, val_main_v45, val_main_v62, val_main_v61]
  simp only [v60_real x0 x1 x2 κ hκ h0 h1 h2, v2_real x0 h0, v37_real x0 x1 κ hκ h0 h1, v43_real x2 h2, ← EReal.coe_mul, coe_sum, dk, dv]
  split_ifs with h
  · rfl
  all_goals exact congrArg _ (Finset.sum_congr rfl fun t _ => mul_comm _ _)

end Cert.Mem

end
-- ==== Proof.MemArray.lean ====
/- The arrays that the cross-attention's backward pass leaves: the gradients of MemReference, index by index. -/
module

public import proofs.«01_k».proof.Proof.MemBlock
public import proofs.«01_k».proof.Proof.MemReference

@[expose] public section

noncomputable section

namespace Cert.Mem

open Idealize.ShloMosaic Idealize.ShloMosaic.TcCoe Cert.Reals Cert.Kernel2Ideal Cert.Kernel2Ideal.Gen
open Idealize.ShloMosaic.Pipeline (Dat)

/-- Where each window's block lies at a point of the grid. -/
theorem idx : ∀ t : Fin cfg0.N, win0_0.index t = ![t.val / 4, t.val % 4, 30] ∧ win0_1.index t = ![t.val / 4, t.val % 4, 31]
    ∧ win0_2.index t = ![t.val / 4, t.val % 4, 32] ∧ win0_3.index t = ![t.val / 4, t.val % 4, 33] ∧ win0_4.index t = ![t.val / 4, 0, 0]
    ∧ win0_5.index t = ![t.val / 4, t.val % 4, 0] ∧ win0_6.index t = ![t.val / 4, t.val % 4, 0] ∧ win0_7.index t = ![t.val / 4, 0, 0] :=
  (by decide +kernel : ∀ t : Fin grid0.N, _)

/-- The grid has sixteen points. -/
theorem points (t : Fin cfg0.N) : t.val < 16 := t.isLt

/-- The batch of a point. -/
def batch (t : Fin cfg0.N) : Fin 4 := ⟨t.val / 4, by have := points t; omega⟩
/-- The row of the array that a row of the point's block is. -/
def row (t : Fin cfg0.N) (r : Fin 512) : Fin 2048 := ⟨t.val % 4 * 512 + r.val, by omega⟩

variable (m : (ℓ : Loc nD τ sig) → Buf (Elt Ideal) ℓ) (c : Dev nD)

/-- The queries' array. -/
def arr0 : Vec Ideal S4x2048x4352 .bf16 := m ((c : Thread nD τ).loc main_arg0)
/-- The keys' and values' array. -/
def arr1 : Vec Ideal S4x256x1024 .bf16 := m ((c : Thread nD τ).loc main_arg1)
/-- The array of the output's gradient. -/
def arr2 : Vec Ideal S4x2048x512 .bf16 := m ((c : Thread nD τ).loc main_arg2)

variable (h0 : ∀ i, Fin' (arr0 m c i)) (h1 : ∀ i, Fin' (arr1 m c i)) (h2 : ∀ i, Fin' (arr2 m c i))

/-- The queries of a point. -/
def ptQ (t : Fin cfg0.N) (h : Fin 4) (r : Fin 512) : Fin 128 → ℝ := qOf (arr0 m c) (batch t) (row t r) h
/-- The output's gradient at a point. -/
def ptG (t : Fin cfg0.N) (h : Fin 4) (r : Fin 512) : Fin 128 → ℝ := gOf (arr2 m c) (batch t) (row t r) h
/-- The keys of a point. -/
def ptK (t : Fin cfg0.N) (h : Fin 4) : Fin 256 → Fin 128 → ℝ := kOf (arr1 m c) (batch t) h
/-- The values of a point. -/
def ptV (t : Fin cfg0.N) (h : Fin 4) : Fin 256 → Fin 128 → ℝ := vOf (arr1 m c) (batch t) h

include h0 h1 h2 in
/-- The blocks of a point are real. -/
theorem realBlocks (t : Fin cfg0.N) : RealBlocks m c t (ptQ m c t) (ptG m c t) (ptK m c t) (ptV m c t) where
  q0 r d := by
    refine Eq.trans ?_ (coe_toReal (h0 (ix3 (batch t) (row t r) ⟨3840 + (128 * (0 : Fin 4).val + d.val), by omega⟩)))
    unfold arr0 batch row; blk_ext [iblk, V, idx t]
  q1 r d := by
    refine Eq.trans ?_ (coe_toReal (h0 (ix3 (batch t) (row t r) ⟨3840 + (128 * (1 : Fin 4).val + d.val), by omega⟩)))
    unfold arr0 batch row; blk_ext [iblk, V, idx t]
  q2 r d := by
    refine Eq.trans ?_ (coe_toReal (h0 (ix3 (batch t) (row t r) ⟨3840 + (128 * (2 : Fin 4).val + d.val), by omega⟩)))
    unfold arr0 batch row; blk_ext [iblk, V, idx t]
  q3 r d := by
    refine Eq.trans ?_ (coe_toReal (h0 (ix3 (batch t) (row t r) ⟨3840 + (128 * (3 : Fin 4).val + d.val), by omega⟩)))
    unfold arr0 batch row; blk_ext [iblk, V, idx t]
  k h s d := by
    refine Eq.trans ?_ (coe_toReal (h1 (ix3 (batch t) s ⟨128 * h.val + d.val, by omega⟩)))
    unfold arr1 batch; blk_ext [iblk, V, idx t]
  v h s d := by
    refine Eq.trans ?_ (coe_toReal (h1 (ix3 (batch t) s ⟨512 + (128 * h.val + d.val), by omega⟩)))
    unfold arr1 batch; blk_ext [iblk, V, idx t]
  g h r d := by
    refine Eq.trans ?_ (coe_toReal (h2 (ix3 (batch t) (row t r) ⟨128 * h.val + d.val, by omega⟩)))
    unfold arr2 batch row; blk_ext [iblk, V, idx t]

variable (κ : ℝ) (hκ : Ideal.ofBits .f32 0x3DB504F3#32 = (κ : EReal))

/-- A function of head and lane at a column. -/
def heads {α : Type} (f : Fin 4 → Fin 128 → α) (j : Fin 512) : α := f ⟨j.val / 128, by omega⟩ ⟨j.val % 128, by omega⟩

/-- The gradient at the queries as an array. -/
def dqArr : S4x2048x512.Idx → EReal := fun i => ((heads (dq (arr0 m c) (arr1 m c) (arr2 m c) κ (i 0) (i 1)) (i 2) : ℝ) : EReal)

/-- The gradients at the keys and values as an array. -/
def dkvArr : S4x256x1024.Idx → EReal := fun i =>
  ((twoHalves (fun h d => dk (arr0 m c) (arr1 m c) (arr2 m c) κ (i 0) h (i 1) d) (fun h d => dv (arr0 m c) (arr1 m c) (arr2 m c) κ (i 0) h (i 1) d) (i 2) : ℝ) : EReal)

include h0 h1 h2 hκ in
/-- The first output array. -/
theorem arr6 : (dats m 0 c).arrAt 6 cfg0.N = dqArr m c κ := by
  refine (dats m 0 c).arrAt_eq_of_covers 6 _ (by decide +kernel) fun t hf y => ?_
  obtain ⟨s, j, rfl⟩ : ∃ (s : Fin 512) (j : Fin 512), y = ix3 0 s j := ⟨y 1, y 2, by
    funext a; match a with | 0 => exact Subsingleton.elim (α := Fin 1) _ _ | 1 => rfl | 2 => rfl⟩
  blk_simp
  rw [after0_6]
  refine (dq_point κ hκ m c t _ _ _ _ (realBlocks m c h0 h1 h2 t) s j).trans ?_
  have e : (win0_6.blk t).view.emb (ix3 0 s j) = ix3 (batch t) (row t s) j := by
    unfold batch row; blk_ext [idx t]
  exact (congrArg (dqArr m c κ) e).symm

/-- A sum over the four points of a batch and their rows is the sum over the array's rows. -/
theorem sum_rows (f : Fin 2048 → ℝ) (b : Fin 4) (hb : ∀ a : Fin 4, 4 * b.val + a.val < cfg0.N) :
    ∑ a : Fin 4, ∑ r : Fin 512, f (row ⟨4 * b.val + a.val, hb a⟩ r) = ∑ l, f l := by
  rw [← Fin.sum_mul_add_fin 4 512 f]
  refine Finset.sum_congr rfl fun a _ => Finset.sum_congr rfl fun r _ => congrArg f (Fin.ext ?_)
  show (4 * b.val + a.val) % 4 * 512 + r.val = a.val * 512 + r.val
  omega

include h0 h1 h2 hκ in
/-- The second output array. -/
theorem arr7 : (dats m 0 c).arrAt 7 cfg0.N = dkvArr m c κ := by
  refine (dats m 0 c).arrAt_eq_of_covers 7 _ (by decide +kernel) fun t hf y => ?_
  have hr := (flush0_7 t).mp hf
  obtain ⟨s, j, rfl⟩ : ∃ (s : Fin 256) (j : Fin 1024), y = ix3 0 s j := ⟨y 1, y 2, by
    funext a; match a with | 0 => exact Subsingleton.elim (α := Fin 1) _ _ | 1 => rfl | 2 => rfl⟩
  blk_simp
  rw [after0_7]
  have E := Pipeline.eq_sum_fin_of_reset_step_apply_of_flush (fun n h (i : Fin 256 × Fin 1024) => (outsAt0 m c n h).2 (ix3 0 i.1 i.2)) 4 (fun _ => 0)
    (fun p i => (blockDkv κ (ptQ m c p) (ptG m c p) (ptK m c p) (ptV m c p) i.1 i.2 : EReal))
    (fun p h i => dkv_first κ hκ m c p _ _ _ _ (realBlocks m c h0 h1 h2 p) h i.1 i.2)
    (fun p h i => dkv_later κ hκ m c p _ _ _ _ (realBlocks m c h0 h1 h2 p) h i.1 i.2) t hr (s, j)
  refine E.trans ?_
  have e : (win0_7.blk t).view.emb (ix3 0 s j) = ix3 (batch t) s j := by
    unfold batch; blk_ext [idx t]
  refine Eq.trans ?_ (congrArg (dkvArr m c κ) e).symm
  rw [zero_add]
  simp only [coe_sum]
  refine congrArg _ ?_
  show _ = twoHalves (fun h d => dk (arr0 m c) (arr1 m c) (arr2 m c) κ (batch t) h s d) (fun h d => dv (arr0 m c) (arr1 m c) (arr2 m c) κ (batch t) h s d) j
  have hb : ∀ a : Fin 4, batch ⟨4 * (t.val / 4) + a.val, Pipeline.run_point_lt_of_flush t hr a⟩ = batch t := fun a => Fin.ext (by
    show (4 * (t.val / 4) + a.val) / 4 = t.val / 4; omega)
  simp only [blockDkv, twoHalves, ptQ, ptG, ptK, ptV, hb, rowsDk, rowsDv]
  split_ifs with h
  · exact (sum_rows (fun l => dscore κ (qOf (arr0 m c) (batch t) l ⟨j.val / 128, _⟩) (gOf (arr2 m c) (batch t) l ⟨j.val / 128, _⟩) (kOf (arr1 m c) (batch t) ⟨j.val / 128, _⟩) (vOf (arr1 m c) (batch t) ⟨j.val / 128, _⟩) s
      * qOf (arr0 m c) (batch t) l ⟨j.val / 128, _⟩ ⟨j.val % 128, _⟩) (batch t) fun a => Pipeline.run_point_lt_of_flush t hr a)
  · exact (sum_rows (fun l => weight κ (qOf (arr0 m c) (batch t) l ⟨(j.val - 512) / 128, _⟩) (kOf (arr1 m c) (batch t) ⟨(j.val - 512) / 128, _⟩) s
      * gOf (arr2 m c) (batch t) l ⟨(j.val - 512) / 128, _⟩ ⟨(j.val - 512) % 128, _⟩) (batch t) fun a => Pipeline.run_point_lt_of_flush t hr a)

end Cert.Mem

end
-- ==== Proof.Finite.lean ====
/- What the preconditions say: every entry of every argument is a real number. -/
module

public import proofs.«01_k».proof.Proof.Reals
public import proofs.«01_k».proof.Proof.Gen.Pre_finite2
public import Idealize.ShloMosaic.Lib.Pointwise
public import Idealize.ShloMosaic.Lib.ReduceAll

@[expose] public section

noncomputable section

namespace Cert.Finite

open Idealize.ShloMosaic Cert.Reals

/-- The word of +∞ is ⊤. -/
theorem posInf_f32 : Ideal.ofBits .f32 0x7F800000#32 = ⊤ := by
  simp [Ideal.ofBits, Ideal.ieee]

/-- A number whose absolute value is below +∞ is real. -/
theorem real_of_abs (x : EReal) (h : BitVec.ofBool (decide (max x (-x) < Ideal.ofBits .f32 0x7F800000#32)) = 1#1) : Fin' x := by
  rw [posInf_f32] at h
  have h' : max x (-x) < ⊤ := by
    by_contra hn
    rw [decide_eq_false hn] at h
    exact absurd h (by decide)
  induction x with
  | bot => exact absurd h' (by simp)
  | top => exact absurd h' (by simp)
  | coe r => exact ⟨EReal.coe_ne_top r, EReal.coe_ne_bot r⟩

/-- The results of a test of a whole array have one index. -/
instance : Subsingleton (Shape.Idx ⟨0, ![]⟩) := ⟨fun a b => funext fun i => i.elim0⟩

/-- The second precondition makes its three arguments real. -/
theorem finite2 (x0 x1 x2) (h : Cert.Pre_finite2.fn (F := Ideal) x0 x1 x2 = fun _ => 1#1) :
    (∀ i, Fin' (x0 i)) ∧ (∀ i, Fin' (x1 i)) ∧ (∀ i, Fin' (x2 i)) := by
  dsimp only [Cert.Pre_finite2.fn] at h
  obtain ⟨h01, h2⟩ := IntOp.andi_eq_one.1 (congrFun h ix0)
  obtain ⟨h0, h1⟩ := IntOp.andi_eq_one.1 h01
  exact ⟨fun i => real_of_abs _ (Host.reduce_andi_all _ _ _ _ _ h0 i), fun i => real_of_abs _ (Host.reduce_andi_all _ _ _ _ _ h1 i),
    fun i => real_of_abs _ (Host.reduce_andi_all _ _ _ _ _ h2 i)⟩

end Cert.Finite

end
-- ==== Proof.MemClaim.lean ====
/- The second pair of programs: over the reals the kernel and the reference end with the same gradients. -/
module

public import proofs.«01_k».proof.Defs
public import proofs.«01_k».proof.Proof.MemArray
public import proofs.«01_k».proof.Proof.MemReference
public import proofs.«01_k».proof.Proof.Finite
public import proofs.«01_k».proof.Proof.Gen.Reference2Ideal.Run

@[expose] public section

noncomputable section

namespace Cert.Mem

open Idealize.ShloMosaic Cert.Reals

/-- The second reference leaves its arguments as they were and declares no semaphore. -/
theorem reference_frame : Cert.quiescent_Reference2Ideal := fun m ρ _ =>
  (θ_run Cert.Reference2Ideal.defs _ _).mono (fun r h => ⟨fun c => ⟨(h c).2.2.1, (h c).2.2.2.1, (h c).2.2.2.2⟩,
    sem_eq_zero_of_no_sems (by decide) r.2⟩) (Cert.Reference2Ideal.Value.run (F := Ideal) m ρ)

/-- The second kernel and the second reference end with the same gradients. -/
theorem algebraic : Cert.algebraic_Kernel2Ideal_Reference2Ideal_pre_finite2 := by
  intro m ρ m' ρ' hpre hargs
  obtain ⟨κ, hκ⟩ := scale_f32
  have hf := fun c => Cert.Finite.finite2 _ _ _ (hpre c)
  refine ⟨fun c => dqArr m c κ, fun c => dkvArr m c κ, (θ_run Cert.Kernel2Ideal.defs _ _).mono (fun r h c => ?_) (Cert.Kernel2Ideal.Value.run_blocks (F := Ideal) m ρ),
    (θ_run Cert.Reference2Ideal.defs _ _).mono (fun r h c => ?_) (Cert.Reference2Ideal.Value.run (F := Ideal) m' ρ')⟩
  · obtain ⟨h0, h1, h2⟩ := hf c
    exact ⟨(h c).1.trans (arr6 m c h0 h1 h2 κ hκ), (h c).2.1.trans (arr7 m c h0 h1 h2 κ hκ), (h c).2.2⟩
  · obtain ⟨h0, h1, h2⟩ := hf c
    refine ⟨(h c).1.trans ((Cert.Reference2Ideal.Read.val_main_v69_eq m' c).trans ?_), (h c).2.1.trans ((Cert.Reference2Ideal.Read.val_main_v67_eq m' c).trans ?_), (h c).2.2⟩
    · rw [(hargs c).1, (hargs c).2.1, (hargs c).2.2]
      funext i
      obtain ⟨b, t, j, rfl⟩ : ∃ (b : Fin 4) (t : Fin 2048) (j : Fin 512), i = ix3 b t j := ⟨i 0, i 1, i 2, by
        funext a; match a with | 0 => rfl | 1 => rfl | 2 => rfl⟩
      exact v69_real _ _ _ κ hκ h0 h1 h2 b t j
    · rw [(hargs c).1, (hargs c).2.1, (hargs c).2.2]
      funext i
      obtain ⟨b, s, j, rfl⟩ : ∃ (b : Fin 4) (s : Fin 256) (j : Fin 1024), i = ix3 b s j := ⟨i 0, i 1, i 2, by
        funext a; match a with | 0 => rfl | 1 => rfl | 2 => rfl⟩
      refine (v67_real _ _ _ κ hκ h0 h1 h2 b s j).trans ?_
      show _ = ((twoHalves _ _ j : ℝ) : EReal)
      unfold twoHalves
      split_ifs <;> rfl

end Cert.Mem

end
-- ==== Proof.FfnInput.lean ====
/- The gradient at the feed-forward's input: the gradients at the two halves of the first product against the four shards
   of its weights. Over the extended reals the kernel and the reference end with the same array, whatever the arguments. -/
module

public import proofs.«01_k».proof.Defs
public import proofs.«01_k».proof.Proof.Gen.Kernel3Ideal.Value
public import proofs.«01_k».proof.Proof.Gen.Reference3Ideal.Read
public import proofs.«01_k».proof.Proof.Gen.Reference3Ideal.Run
public import Idealize.ShloMosaic.Lib.Pipeline.ValueKit
public import Idealize.ShloMosaic.Lib.Pipeline.ReadBack
public import Idealize.ShloMosaic.Lib.Pointwise

@[expose] public section

noncomputable section

namespace Cert.FfnInput

open Idealize.ShloMosaic Idealize.ShloMosaic.TcCoe
open Idealize.ShloMosaic.Pipeline (Dat)

/-- A token's gradient against one shard of the weights, the token's entries from `o` on. -/
def part (a : Cert.Kernel3Ideal.S8192x2816.Idx → EReal) (w : Cert.Kernel3Ideal.S4x1024x1408.Idx → EReal) (o : ℕ) (ho : o + 1408 ≤ 2816) (s : Fin 4)
    (t : Fin 8192) (d : Fin 1024) : EReal :=
  ∑ k : Fin 1408, a (ix2 t ⟨o + k.val, by omega⟩) * w (ix3 s d k)

/-- The gradient at the input: the four shards' parts. -/
def inGrad (a b : Cert.Kernel3Ideal.S8192x2816.Idx → EReal) (w : Cert.Kernel3Ideal.S4x1024x1408.Idx → EReal) (t : Fin 8192) (d : Fin 1024) : EReal :=
  part a w 0 (by omega) 0 t d + part a w 1408 (by omega) 1 t d + part b w 0 (by omega) 2 t d + part b w 1408 (by omega) 3 t d

section Kernel

open Cert.Kernel3Ideal Cert.Kernel3Ideal.Gen

/-- Where each window's block lies at a point of the grid. -/
theorem idx : ∀ t : Fin cfg0.N, win0_0.index t = ![t.val, 0] ∧ win0_1.index t = ![0, 0, 0] ∧ win0_2.index t = ![t.val, 1] ∧ win0_3.index t = ![1, 0, 0]
    ∧ win0_4.index t = ![t.val, 0] ∧ win0_5.index t = ![2, 0, 0] ∧ win0_6.index t = ![t.val, 1] ∧ win0_7.index t = ![3, 0, 0] ∧ win0_8.index t = ![t.val, 0] :=
  (by decide +kernel : ∀ t : Fin grid0.N, _)

variable (m : (ℓ : Loc nD τ sig) → Buf (Elt Ideal) ℓ) (c : Dev nD)

/-- The array that the kernel writes. -/
def arr : S8192x1024.Idx → EReal := fun i =>
  inGrad (m ((c : Thread nD τ).loc main_arg0)) (m ((c : Thread nD τ).loc main_arg1)) (m ((c : Thread nD τ).loc main_arg2)) (i 0) (i 1)

/-- The output array. -/
theorem arr8 : (dats m 0 c).arrAt 8 cfg0.N = arr m c := by
  refine (dats m 0 c).arrAt_eq_of_covers 8 _ (by decide +kernel) fun t hf y => ?_
  have ht : t.val < 16 := t.isLt
  obtain ⟨r, d, rfl⟩ : ∃ (r : Fin 512) (d : Fin 1024), y = ix2 r d := ⟨y 0, y 1, by
    funext a; match a with | 0 => rfl | 1 => rfl⟩
  blk_simp
  rw [after0_8]
  have e : (win0_8.blk t).view.emb (ix2 r d) = ix2 ⟨t.val * 512 + r.val, by omega⟩ d := by
    blk_ext [idx t]
  refine Eq.trans ?_ (congrArg (arr m c) e).symm
  frame_out
  pointwise [k0_pay1]
  unfold arr inGrad part
  blk_point [iblk, V, idx t]

end Kernel

section Reference

open Cert.Reference3Ideal Cert.Reference3Ideal.Gen Cert.Reference3Ideal.Read

variable (a b : Vec Ideal S8192x2816 .bf16) (w : Vec Ideal S4x1024x1408 .bf16)

/-- The reference at one entry: the sum over all 5632 columns, cut into the four shards. -/
theorem ref (t : Fin 8192) (d : Fin 1024) : val_main_v15 (F := Ideal) a b w (ix2 t d) = inGrad a b w t d := by
  pointwise [val_main_v15, val_main_v14, val_main_v11, val_main_v10, val_main_v9, val_main_v8, val_main_v7, val_main_v6, val_main_v5, val_main_v4, val_main_v3, val_main_v2, val_main_v1, val_main_v0]
  rw [← Fin.sum_mul_add_fin 4 1408, Fin.sum_univ_four]
  unfold inGrad part
  refine congrArg₂ (· + ·) (congrArg₂ (· + ·) (congrArg₂ (· + ·) ?_ ?_) ?_) ?_ <;> refine Finset.sum_congr rfl fun k _ => ?_
  · rw [dif_pos (by show 0 * 1408 + k.val < 2816; omega), dif_pos (by show 0 * 1408 + k.val < 1408; omega)]
    exact congrArg₂ (· * ·)
      (congrArg (fun l => a (ix2 t l)) (Fin.ext (by show 0 * 1408 + k.val = 0 + k.val; omega)))
      (congrArg (fun l => w (ix3 0 d l)) (Fin.ext (by show 0 * 1408 + k.val = k.val; omega)))
  · rw [dif_pos (by show 1 * 1408 + k.val < 2816; omega), dif_neg (by show ¬ 1 * 1408 + k.val < 1408; omega), dif_pos (by show 1 * 1408 + k.val - 1408 < 1408; omega)]
    exact congrArg₂ (· * ·)
      (congrArg (fun l => a (ix2 t l)) (Fin.ext (by show 1 * 1408 + k.val = 1408 + k.val; omega)))
      (congrArg (fun l => w (ix3 1 d l)) (Fin.ext (by show 1 * 1408 + k.val - 1408 = k.val; omega)))
  · rw [dif_neg (by show ¬ 2 * 1408 + k.val < 2816; omega), dif_neg (by show ¬ 2 * 1408 + k.val < 1408; omega), dif_neg (by show ¬ 2 * 1408 + k.val - 1408 < 1408; omega),
      dif_pos (by show 2 * 1408 + k.val - 1408 - 1408 < 1408; omega)]
    exact congrArg₂ (· * ·)
      (congrArg (fun l => b (ix2 t l)) (Fin.ext (by show 2 * 1408 + k.val - 2816 = 0 + k.val; omega)))
      (congrArg (fun l => w (ix3 2 d l)) (Fin.ext (by show 2 * 1408 + k.val - 1408 - 1408 = k.val; omega)))
  · rw [dif_neg (by show ¬ 3 * 1408 + k.val < 2816; omega), dif_neg (by show ¬ 3 * 1408 + k.val < 1408; omega), dif_neg (by show ¬ 3 * 1408 + k.val - 1408 < 1408; omega),
      dif_neg (by show ¬ 3 * 1408 + k.val - 1408 - 1408 < 1408; omega)]
    exact congrArg₂ (· * ·)
      (congrArg (fun l => b (ix2 t l)) (Fin.ext (by show 3 * 1408 + k.val - 2816 = 1408 + k.val; omega)))
      (congrArg (fun l => w (ix3 3 d l)) (Fin.ext (by show 3 * 1408 + k.val - 1408 - 1408 - 1408 = k.val; omega)))

end Reference

/-- The reference leaves its arguments as they were and declares no semaphore. -/
theorem reference_frame : Cert.quiescent_Reference3Ideal := fun m ρ _ =>
  (θ_run Cert.Reference3Ideal.defs _ _).mono (fun r h => ⟨fun c => (h c).2,
    sem_eq_zero_of_no_sems (by decide) r.2⟩) (Cert.Reference3Ideal.Value.run (F := Ideal) m ρ)

/-- The kernel and the reference end with the same gradient. -/
theorem algebraic : Cert.algebraic_Kernel3Ideal_Reference3Ideal := by
  intro m ρ m' ρ' hpre hargs
  refine ⟨fun c => arr m c, (θ_run Cert.Kernel3Ideal.defs _ _).mono (fun r h c => ?_) (Cert.Kernel3Ideal.Value.run_blocks (F := Ideal) m ρ),
    (θ_run Cert.Reference3Ideal.defs _ _).mono (fun r h c => ?_) (Cert.Reference3Ideal.Value.run (F := Ideal) m' ρ')⟩
  · exact ⟨(h c).1.trans (arr8 m c), (h c).2⟩
  · refine ⟨(h c).1.trans ((Cert.Reference3Ideal.Read.val_main_v15_eq _ _ _).trans ?_), (h c).2⟩
    rw [(hargs c).1, (hargs c).2.1, (hargs c).2.2]
    funext i
    obtain ⟨t, d, rfl⟩ : ∃ (t : Fin 8192) (d : Fin 1024), i = ix2 t d := ⟨i 0, i 1, by
      funext a; match a with | 0 => rfl | 1 => rfl⟩
    exact ref _ _ _ t d

end Cert.FfnInput

end
-- ==== Proof.ProjInput.lean ====
/- The gradient at the attention block's input: the gradient of the combined projection and the gradient at the gates, each
   against the four shards of its weights. Over the extended reals the kernel and the reference end with the same array,
   whatever the arguments: the two only group the sum differently. -/
module

public import proofs.«01_k».proof.Defs
public import proofs.«01_k».proof.Proof.Gen.Kernel4Ideal.Value
public import proofs.«01_k».proof.Proof.Gen.Reference4Ideal.Read
public import proofs.«01_k».proof.Proof.Gen.Reference4Ideal.Run
public import Idealize.ShloMosaic.Lib.Pipeline.ValueKit
public import Idealize.ShloMosaic.Lib.Pipeline.ReadBack
public import Idealize.ShloMosaic.Lib.Pointwise

@[expose] public section

noncomputable section

namespace Cert.ProjInput

open Idealize.ShloMosaic Idealize.ShloMosaic.TcCoe
open Idealize.ShloMosaic.Pipeline (Dat)

/-- The projection's gradient of one shard against that shard of the weights. -/
def proj (a : Cert.Kernel4Ideal.S4x8192x1088.Idx → EReal) (w : Cert.Kernel4Ideal.S4x1024x1088.Idx → EReal) (s : Fin 4)
    (t : Fin 8192) (d : Fin 1024) : EReal :=
  ∑ k : Fin 1088, a (ix3 s t k) * w (ix3 s d k)

/-- The gates' gradient, its entries from `o` on, against one shard of the weights. -/
def gate (b : Cert.Kernel4Ideal.S8192x3072.Idx → EReal) (g : Cert.Kernel4Ideal.S4x1024x768.Idx → EReal) (o : ℕ) (ho : o + 768 ≤ 3072) (s : Fin 4)
    (t : Fin 8192) (d : Fin 1024) : EReal :=
  ∑ k : Fin 768, b (ix2 t ⟨o + k.val, by omega⟩) * g (ix3 s d k)

/-- The gradient at the input: the eight parts, in the kernel's order. -/
def inGrad (a : Cert.Kernel4Ideal.S4x8192x1088.Idx → EReal) (b : Cert.Kernel4Ideal.S8192x3072.Idx → EReal) (w : Cert.Kernel4Ideal.S4x1024x1088.Idx → EReal)
    (g : Cert.Kernel4Ideal.S4x1024x768.Idx → EReal) (t : Fin 8192) (d : Fin 1024) : EReal :=
  proj a w 0 t d + proj a w 1 t d + proj a w 2 t d + proj a w 3 t d
    + gate b g 0 (by omega) 0 t d + gate b g 768 (by omega) 1 t d + gate b g 1536 (by omega) 2 t d + gate b g 2304 (by omega) 3 t d

section Kernel

open Cert.Kernel4Ideal Cert.Kernel4Ideal.Gen

/-- Where each window's block lies at a point of the grid. -/
theorem idx : ∀ t : Fin cfg0.N, win0_0.index t = ![0, t.val, 0] ∧ win0_1.index t = ![0, 0, 0] ∧ win0_2.index t = ![1, t.val, 0] ∧ win0_3.index t = ![1, 0, 0]
    ∧ win0_4.index t = ![2, t.val, 0] ∧ win0_5.index t = ![2, 0, 0] ∧ win0_6.index t = ![3, t.val, 0] ∧ win0_7.index t = ![3, 0, 0]
    ∧ win0_8.index t = ![t.val, 0] ∧ win0_9.index t = ![0, 0, 0] ∧ win0_10.index t = ![t.val, 1] ∧ win0_11.index t = ![1, 0, 0]
    ∧ win0_12.index t = ![t.val, 2] ∧ win0_13.index t = ![2, 0, 0] ∧ win0_14.index t = ![t.val, 3] ∧ win0_15.index t = ![3, 0, 0]
    ∧ win0_16.index t = ![t.val, 0] :=
  (by decide +kernel : ∀ t : Fin grid0.N, _)

variable (m : (ℓ : Loc nD τ sig) → Buf (Elt Ideal) ℓ) (c : Dev nD)

/-- The array that the kernel writes. -/
def arr : S8192x1024.Idx → EReal := fun i =>
  inGrad (m ((c : Thread nD τ).loc main_arg0)) (m ((c : Thread nD τ).loc main_arg1)) (m ((c : Thread nD τ).loc main_arg2)) (m ((c : Thread nD τ).loc main_arg3)) (i 0) (i 1)

/-- The output array. -/
theorem arr16 : (dats m 0 c).arrAt 16 cfg0.N = arr m c := by
  refine (dats m 0 c).arrAt_eq_of_covers 16 _ (by decide +kernel) fun t hf y => ?_
  have ht : t.val < 16 := t.isLt
  obtain ⟨r, d, rfl⟩ : ∃ (r : Fin 512) (d : Fin 1024), y = ix2 r d := ⟨y 0, y 1, by
    funext a; match a with | 0 => rfl | 1 => rfl⟩
  blk_simp
  rw [after0_16]
  have e : (win0_16.blk t).view.emb (ix2 r d) = ix2 ⟨t.val * 512 + r.val, by omega⟩ d := by
    blk_ext [idx t]
  refine Eq.trans ?_ (congrArg (arr m c) e).symm
  frame_out
  pointwise [k0_pay1, k0_pay2]
  unfold arr inGrad proj gate
  blk_point [iblk, V, idx t]

end Kernel

section Reference

open Cert.Reference4Ideal Cert.Reference4Ideal.Gen Cert.Reference4Ideal.Read

variable (a : Vec Ideal S4x8192x1088 .bf16) (b : Vec Ideal S8192x3072 .bf16) (w : Vec Ideal S4x1024x1088 .bf16) (g : Vec Ideal S4x1024x768 .bf16)

/-- The reference's projection part at one entry, cut into the four shards. -/
theorem ref_proj (t : Fin 8192) (d : Fin 1024) : val_main_v35 (F := Ideal) a w (ix2 t d) = proj a w 0 t d + proj a w 1 t d + proj a w 2 t d + proj a w 3 t d := by
  pointwise [val_main_v35, val_main_v29, val_main_v28, val_main_v27, val_main_v26, val_main_v25, val_main_v24, val_main_v23, val_main_v22, val_main_v21, val_main_v20,
    val_main_v9, val_main_v8, val_main_v7, val_main_v6, val_main_v5, val_main_v4, val_main_v3, val_main_v2, val_main_v1, val_main_v0]
  rw [← Fin.sum_mul_add_fin 4 1088, Fin.sum_univ_four]
  unfold proj
  refine congrArg₂ (· + ·) (congrArg₂ (· + ·) (congrArg₂ (· + ·) ?_ ?_) ?_) ?_ <;> refine Finset.sum_congr rfl fun k _ => ?_
  · rw [dif_pos (by show 0 * 1088 + k.val < 1088; omega),
      dif_pos (by show 0 * 1088 + k.val < 1088; omega)]
    exact congrArg₂ (· * ·)
      (congrArg (fun l => a (ix3 0 t l)) (Fin.ext (by show 0 * 1088 + k.val = k.val; omega)))
      (congrArg (fun l => w (ix3 0 d l)) (Fin.ext (by show 0 * 1088 + k.val = k.val; omega)))
  · rw [dif_neg (by show ¬ 1 * 1088 + k.val < 1088; omega), dif_pos (by show 1 * 1088 + k.val - 1088 < 1088; omega),
      dif_neg (by show ¬ 1 * 1088 + k.val < 1088; omega), dif_pos (by show 1 * 1088 + k.val - 1088 < 1088; omega)]
    exact congrArg₂ (· * ·)
      (congrArg (fun l => a (ix3 1 t l)) (Fin.ext (by show 1 * 1088 + k.val - 1088 = k.val; omega)))
      (congrArg (fun l => w (ix3 1 d l)) (Fin.ext (by show 1 * 1088 + k.val - 1088 = k.val; omega)))
  · rw [dif_neg (by show ¬ 2 * 1088 + k.val < 1088; omega), dif_neg (by show ¬ 2 * 1088 + k.val - 1088 < 1088; omega), dif_pos (by show 2 * 1088 + k.val - 1088 - 1088 < 1088; omega),
      dif_neg (by show ¬ 2 * 1088 + k.val < 1088; omega), dif_neg (by show ¬ 2 * 1088 + k.val - 1088 < 1088; omega), dif_pos (by show 2 * 1088 + k.val - 1088 - 1088 < 1088; omega)]
    exact congrArg₂ (· * ·)
      (congrArg (fun l => a (ix3 2 t l)) (Fin.ext (by show 2 * 1088 + k.val - 1088 - 1088 = k.val; omega)))
      (congrArg (fun l => w (ix3 2 d l)) (Fin.ext (by show 2 * 1088 + k.val - 1088 - 1088 = k.val; omega)))
  · rw [dif_neg (by show ¬ 3 * 1088 + k.val < 1088; omega), dif_neg (by show ¬ 3 * 1088 + k.val - 1088 < 1088; omega), dif_neg (by show ¬ 3 * 1088 + k.val - 1088 - 1088 < 1088; omega),
      dif_neg (by show ¬ 3 * 1088 + k.val < 1088; omega), dif_neg (by show ¬ 3 * 1088 + k.val - 1088 < 1088; omega), dif_neg (by show ¬ 3 * 1088 + k.val - 1088 - 1088 < 1088; omega)]
    exact congrArg₂ (· * ·)
      (congrArg (fun l => a (ix3 3 t l)) (Fin.ext (by show 3 * 1088 + k.val - 1088 - 1088 - 1088 = k.val; omega)))
      (congrArg (fun l => w (ix3 3 d l)) (Fin.ext (by show 3 * 1088 + k.val - 1088 - 1088 - 1088 = k.val; omega)))

/-- The reference's gate part at one entry, cut into the four shards. -/
theorem ref_gate (t : Fin 8192) (d : Fin 1024) : val_main_v34 (F := Ideal) b g (ix2 t d)
    = gate b g 0 (by omega) 0 t d + gate b g 768 (by omega) 1 t d + gate b g 1536 (by omega) 2 t d + gate b g 2304 (by omega) 3 t d := by
  pointwise [val_main_v34, val_main_v30, val_main_v19, val_main_v18, val_main_v17, val_main_v16, val_main_v15, val_main_v14, val_main_v13, val_main_v12, val_main_v11, val_main_v10]
  rw [← Fin.sum_mul_add_fin 4 768, Fin.sum_univ_four]
  unfold gate
  refine congrArg₂ (· + ·) (congrArg₂ (· + ·) (congrArg₂ (· + ·) ?_ ?_) ?_) ?_ <;> refine Finset.sum_congr rfl fun k _ => ?_
  · rw [dif_pos (by show 0 * 768 + k.val < 768; omega)]
    exact congrArg₂ (· * ·)
      (congrArg (fun l => b (ix2 t l)) (Fin.ext (by show 0 * 768 + k.val = 0 + k.val; omega)))
      (congrArg (fun l => g (ix3 0 d l)) (Fin.ext (by show 0 * 768 + k.val = k.val; omega)))
  · rw [dif_neg (by show ¬ 1 * 768 + k.val < 768; omega), dif_pos (by show 1 * 768 + k.val - 768 < 768; omega)]
    exact congrArg₂ (· * ·)
      (congrArg (fun l => b (ix2 t l)) (Fin.ext (by show 1 * 768 + k.val = 768 + k.val; omega)))
      (congrArg (fun l => g (ix3 1 d l)) (Fin.ext (by show 1 * 768 + k.val - 768 = k.val; omega)))
  · rw [dif_neg (by show ¬ 2 * 768 + k.val < 768; omega), dif_neg (by show ¬ 2 * 768 + k.val - 768 < 768; omega), dif_pos (by show 2 * 768 + k.val - 768 - 768 < 768; omega)]
    exact congrArg₂ (· * ·)
      (congrArg (fun l => b (ix2 t l)) (Fin.ext (by show 2 * 768 + k.val = 1536 + k.val; omega)))
      (congrArg (fun l => g (ix3 2 d l)) (Fin.ext (by show 2 * 768 + k.val - 768 - 768 = k.val; omega)))
  · rw [dif_neg (by show ¬ 3 * 768 + k.val < 768; omega), dif_neg (by show ¬ 3 * 768 + k.val - 768 < 768; omega), dif_neg (by show ¬ 3 * 768 + k.val - 768 - 768 < 768; omega)]
    exact congrArg₂ (· * ·)
      (congrArg (fun l => b (ix2 t l)) (Fin.ext (by show 3 * 768 + k.val = 2304 + k.val; omega)))
      (congrArg (fun l => g (ix3 3 d l)) (Fin.ext (by show 3 * 768 + k.val - 768 - 768 - 768 = k.val; omega)))

/-- The reference at one entry. -/
theorem ref (t : Fin 8192) (d : Fin 1024) : val_main_v37 (F := Ideal) a b w g (ix2 t d) = inGrad a b w g t d := by
  have e : val_main_v37 (F := Ideal) a b w g (ix2 t d) = val_main_v34 (F := Ideal) b g (ix2 t d) + val_main_v35 (F := Ideal) a w (ix2 t d) := rfl
  rw [e, ref_proj, ref_gate, add_comm]
  unfold inGrad
  simp only [add_assoc]

end Reference

/-- The reference leaves its arguments as they were and declares no semaphore. -/
theorem reference_frame : Cert.quiescent_Reference4Ideal := fun m ρ _ =>
  (θ_run Cert.Reference4Ideal.defs _ _).mono (fun r h => ⟨fun c => (h c).2,
    sem_eq_zero_of_no_sems (by decide) r.2⟩) (Cert.Reference4Ideal.Value.run (F := Ideal) m ρ)

/-- The kernel and the reference end with the same gradient. -/
theorem algebraic : Cert.algebraic_Kernel4Ideal_Reference4Ideal := by
  intro m ρ m' ρ' hpre hargs
  refine ⟨fun c => arr m c, (θ_run Cert.Kernel4Ideal.defs _ _).mono (fun r h c => ?_) (Cert.Kernel4Ideal.Value.run_blocks (F := Ideal) m ρ),
    (θ_run Cert.Reference4Ideal.defs _ _).mono (fun r h c => ?_) (Cert.Reference4Ideal.Value.run (F := Ideal) m' ρ')⟩
  · exact ⟨(h c).1.trans (arr16 m c), (h c).2⟩
  · refine ⟨(h c).1.trans ((Cert.Reference4Ideal.Read.val_main_v37_eq _ _ _ _).trans ?_), (h c).2⟩
    rw [(hargs c).1, (hargs c).2.1, (hargs c).2.2.1, (hargs c).2.2.2]
    funext i
    obtain ⟨t, d, rfl⟩ : ∃ (t : Fin 8192) (d : Fin 1024), i = ix2 t d := ⟨i 0, i 1, by
      funext a; match a with | 0 => rfl | 1 => rfl⟩
    exact ref _ _ _ _ t d

end Cert.ProjInput

end
-- ==== Proof.ProjWeights.lean ====
/- The gradient of the combined projection's weights, in four shards: the input's transpose against the projection's gradient,
   summed over all tokens. The kernel takes two shards at a time, runs through the tokens in eight blocks and keeps a running
   sum; over the extended reals it ends with the reference's array, whatever the arguments. -/
module

public import proofs.«01_k».proof.Defs
public import proofs.«01_k».proof.Proof.Gen.Kernel5Ideal.Value
public import proofs.«01_k».proof.Proof.Gen.Reference5Ideal.Read
public import proofs.«01_k».proof.Proof.Gen.Reference5Ideal.Run
public import Idealize.ShloMosaic.Lib.Pipeline.ValueKit
public import Idealize.ShloMosaic.Lib.Pipeline.ReadBack
public import Idealize.ShloMosaic.Lib.Pointwise
public import proofs.«01_k».proof.Proof.MemBlock

@[expose] public section

noncomputable section

namespace Cert.ProjWeights

open Idealize.ShloMosaic Idealize.ShloMosaic.TcCoe
open Idealize.ShloMosaic.Pipeline (Dat)

/-- The gradient of one weight of a shard: the sum over the tokens. -/
def gw (f : Cert.Kernel5Ideal.S8192x1024.Idx → EReal) (g : Cert.Kernel5Ideal.S4x8192x1088.Idx → EReal) (s : Fin 4) (i : Fin 1024) (j : Fin 1088) : EReal :=
  ∑ l : Fin 8192, f (ix2 l i) * g (ix3 s l j)

section Kernel

open Cert.Kernel5Ideal Cert.Kernel5Ideal.Gen

/-- Where each window's block lies at a point of the grid. -/
theorem idx : ∀ t : Fin cfg0.N, win0_0.index t = ![t.val % 8, 0] ∧ win0_1.index t = ![t.val / 8, t.val % 8, 0] ∧ win0_2.index t = ![t.val / 8, 0, 0] :=
  (by decide +kernel : ∀ t : Fin grid0.N, _)

variable (m : (ℓ : Loc nD τ sig) → Buf (Elt Ideal) ℓ) (c : Dev nD)

/-- The array that the kernel writes. -/
def arr : S4x1024x1088.Idx → EReal := fun i =>
  gw (m ((c : Thread nD τ).loc main_arg0)) (m ((c : Thread nD τ).loc main_arg1)) (i 0) (i 1) (i 2)

/-- A product of a block with one of two blocks over their rows, at one place. -/
def rows (a : Vec Ideal S1024x1024 .bf16) (b : Vec Ideal S2x1024x1088 .bf16) (q : Fin 2) (i : Fin 1024) (j : Fin 1088) : EReal :=
  ∑ k : Fin 1024, a (ix2 k i) * b (ix3 q k j)

/-- What a point adds at one place of its block. -/
def term (t : Fin cfg0.N) (q : Fin 2) (i : Fin 1024) (j : Fin 1088) : EReal := rows (iblk m c 0 t) (iblk m c 1 t) q i j

/-- The reset's value is zero. -/
theorem reset_apply (i : S2x1024x1088.Idx) : k0_pay1 (F := Ideal) i = 0 := by
  pointwise [k0_pay1]

/-- One of the two blocks, loaded. -/
theorem ld_two {e : EltTy} (X : Vec Ideal S2x1024x1088 e) (o : ℕ) (inb : ∀ a, ![o, 0, 0] a + ![1, 1024, 1088] a ≤ S2x1024x1088.size a) (ho : o < 2) (i : Fin 1024) (j : Fin 1088) :
    View.ld X (Rect.unit (s := S2x1024x1088) ![o, 0, 0] ![1, 1024, 1088] inb) (ix3 0 i j) = X (ix3 ⟨o, ho⟩ i j) := by
  pointwise

/-- The arithmetic of the first shard's step at one place. -/
theorem first_apply (a : Vec Ideal S1024x1024 .bf16) (acc : Vec Ideal S1x1024x1088 .f32) (b : Vec Ideal S1x1024x1088 .bf16) (i : Fin 1024) (j : Fin 1088) :
    k0_pay2 (F := Ideal) a acc b (ix3 0 i j) = acc (ix3 0 i j) + ∑ k : Fin 1024, a (ix2 k i) * b (ix3 0 k j) := by
  pointwise [k0_pay2]

/-- The arithmetic of the second shard's step at one place. -/
theorem second_apply (a : Vec Ideal S1024x1024 .bf16) (acc : Vec Ideal S1x1024x1088 .f32) (b : Vec Ideal S1x1024x1088 .bf16) (i : Fin 1024) (j : Fin 1088) :
    k0_pay3 (F := Ideal) a acc b (ix3 0 i j) = acc (ix3 0 i j) + ∑ k : Fin 1024, a (ix2 k i) * b (ix3 0 k j) := by
  pointwise [k0_pay3]

/-- A step on one of the two shards adds that shard's product. -/
theorem step_two (a : Vec Ideal S1024x1024 .bf16) (X : Vec Ideal S2x1024x1088 .f32) (b : Vec Ideal S2x1024x1088 .bf16) (o : ℕ)
    (inb inb' : ∀ a, ![o, 0, 0] a + ![1, 1024, 1088] a ≤ S2x1024x1088.size a) (ho : o < 2) (i : Fin 1024) (j : Fin 1088) :
    View.ld X (Rect.unit (s := S2x1024x1088) ![o, 0, 0] ![1, 1024, 1088] inb) (ix3 0 i j)
      + ∑ k : Fin 1024, a (ix2 k i) * View.ld b (Rect.unit (s := S2x1024x1088) ![o, 0, 0] ![1, 1024, 1088] inb') (ix3 0 k j)
    = X (ix3 ⟨o, ho⟩ i j) + rows a b ⟨o, ho⟩ i j :=
  congrArg₂ (· + ·) (ld_two X o inb ho i j) (Finset.sum_congr rfl fun k _ => congrArg (a (ix2 k i) * ·) (ld_two b o inb' ho k j))

/-- A place of one shard's block, from its coordinates. -/
theorem place (x : S1x1024x1088.Idx) (i : Fin 1024) (j : Fin 1088) (h1 : i.val = (x 1).val) (h2 : j.val = (x 2).val) : x = ix3 0 i j := by
  funext a
  match a with
  | 0 => exact Subsingleton.elim (α := Fin 1) _ _
  | 1 => exact Fin.ext h1.symm
  | 2 => exact Fin.ext h2.symm

/-- The first point of a run starts from zero. -/
theorem first (t : Fin cfg0.N) (h : t.val % 8 = 0) (q : Fin 2) (i : Fin 1024) (j : Fin 1088) : outsAt0 m c t.val t.isLt (ix3 q i j) = 0 + term m c t q i j := by
  rw [outsAt0_A m c t h]
  frame_open
  simp (disch := decide) only [↓ View.readCov_skip, ↓ View.readCov_cons_toLoadRect, ↓ View.readCov_fill]
  frame_out
  refine (Cert.Mem.canon_covered [_, _] [_] _ ?_).trans ?_
  · exact View.cover_of_tiledBy _ ![1, 1024, 1088] (by sl_kernel_rfl) _
  canon_tiles x h
  · obtain rfl : q = ⟨1, by decide⟩ := Fin.ext (h0.trans (by show 1 + (x 0).val = 1; omega))
    obtain rfl := place x i j h1 h2
    rw [second_apply, step_two _ _ _ 1 _ _ (by decide)]
    exact congrArg (· + _) (reset_apply _)
  · obtain rfl : q = ⟨0, by decide⟩ := Fin.ext (h0.trans (by show (x 0).val = 0; omega))
    obtain rfl := place x i j h1 h2
    rw [first_apply, step_two _ _ _ 0 _ _ (by decide)]
    exact congrArg (· + _) (reset_apply _)

/-- A later point adds to what the point before left. -/
theorem later (t : Fin cfg0.N) (h : ¬t.val % 8 = 0) (q : Fin 2) (i : Fin 1024) (j : Fin 1088) : outsAt0 m c t.val t.isLt (ix3 q i j)
    = outsAt0 m c (t.val - 1) (by omega) (ix3 q i j) + term m c t q i j := by
  rw [outsAt0_B m c t h]
  frame_open
  simp (disch := decide) only [↓ View.readCov_skip, ↓ View.readCov_cons_toLoadRect, ↓ View.readCov_fill]
  frame_out
  canon_tiles x h
  · obtain rfl : q = ⟨1, by decide⟩ := Fin.ext (h0.trans (by show 1 + (x 0).val = 1; omega))
    obtain rfl := place x i j h1 h2
    rw [second_apply, step_two _ _ _ 1 _ _ (by decide)]
    rfl
  · obtain rfl : q = ⟨0, by decide⟩ := Fin.ext (h0.trans (by show (x 0).val = 0; omega))
    obtain rfl := place x i j h1 h2
    rw [first_apply, step_two _ _ _ 0 _ _ (by decide)]
    rfl

/-- The output array. -/
theorem arr2 : (dats m 0 c).arrAt 2 cfg0.N = arr m c := by
  refine (dats m 0 c).arrAt_eq_of_covers 2 _ (by decide +kernel) fun t hf y => ?_
  have hr := (flush0_2 t).mp hf
  have ht : t.val < 16 := t.isLt
  obtain ⟨q, i, j, rfl⟩ : ∃ (q : Fin 2) (i : Fin 1024) (j : Fin 1088), y = ix3 q i j := ⟨y 0, y 1, y 2, by
    funext a; match a with | 0 => rfl | 1 => rfl | 2 => rfl⟩
  blk_simp
  rw [after0_2]
  have E := Pipeline.eq_sum_fin_of_reset_step_apply_of_flush (fun n h (i : Fin 2 × Fin 1024 × Fin 1088) => outsAt0 m c n h (ix3 i.1 i.2.1 i.2.2)) 8 (fun _ => 0)
    (fun p i => term m c p i.1 i.2.1 i.2.2) (fun p h i => first m c p h i.1 i.2.1 i.2.2) (fun p h i => later m c p h i.1 i.2.1 i.2.2) t hr (q, i, j)
  refine E.trans ?_
  have e : (win0_2.blk t).view.emb (ix3 q i j) = ix3 ⟨t.val / 8 * 2 + q.val, by omega⟩ i j := by
    blk_ext [idx t]
  refine Eq.trans ?_ (congrArg (arr m c) e).symm
  rw [zero_add]
  unfold arr gw term rows
  refine Eq.trans ?_ (Fin.sum_mul_add_fin 8 1024 _)
  refine Finset.sum_congr rfl fun s _ => Finset.sum_congr rfl fun k _ => ?_
  have hs : (8 * (t.val / 8) + s.val) % 8 = s.val := by omega
  have hd : (8 * (t.val / 8) + s.val) / 8 = t.val / 8 := by omega
  refine congrArg₂ (· * ·) ?_ ?_
  · blk_ext [iblk, V, idx ⟨8 * (t.val / 8) + s.val, Pipeline.run_point_lt_of_flush t hr s⟩, hs, hd]
  · blk_ext [iblk, V, idx ⟨8 * (t.val / 8) + s.val, Pipeline.run_point_lt_of_flush t hr s⟩, hs, hd]

end Kernel

section Reference

open Cert.Reference5Ideal Cert.Reference5Ideal.Gen Cert.Reference5Ideal.Read

variable (f : Vec Ideal S8192x1024 .bf16) (g : Vec Ideal S4x8192x1088 .bf16)

/-- The reference at one entry: each shard of the result reads that shard of the projection's gradient. -/
theorem ref (s : Fin 4) (i : Fin 1024) (j : Fin 1088) : val_main_v23 (F := Ideal) f g (ix3 s i j) = gw f g s i j := by
  unfold gw
  match s with
  | 0 =>
    pointwise [val_main_v23, val_main_v22, val_main_v21, val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3, val_main_v0]
    refine Finset.sum_congr rfl fun l _ => ?_
    exact mul_comm _ _
  | 1 =>
    pointwise [val_main_v23, val_main_v22, val_main_v21, val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3, val_main_v0]
    refine Finset.sum_congr rfl fun l _ => ?_
    exact mul_comm _ _
  | 2 =>
    pointwise [val_main_v23, val_main_v22, val_main_v21, val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3, val_main_v0]
    refine Finset.sum_congr rfl fun l _ => ?_
    rw [dif_neg (by show ¬ 2176 + j.val < 1088; omega), dif_neg (by show ¬ 2176 + j.val - 1088 < 1088; omega), dif_pos (by show 2176 + j.val - 1088 - 1088 < 1088; omega), mul_comm]
    exact congrArg (fun k => f (ix2 l i) * g (ix3 2 l k)) (Fin.ext (by show 2176 + j.val - 1088 - 1088 = j.val; omega))
  | 3 =>
    pointwise [val_main_v23, val_main_v22, val_main_v21, val_main_v20, val_main_v19, val_main_v18, val_main_v17, val_main_v16, val_main_v15, val_main_v14, val_main_v13, val_main_v12,
      val_main_v11, val_main_v10, val_main_v9, val_main_v8, val_main_v7, val_main_v6, val_main_v5, val_main_v4, val_main_v3, val_main_v0]
    refine Finset.sum_congr rfl fun l _ => ?_
    rw [dif_neg (by show ¬ 3264 + j.val < 1088; omega), dif_neg (by show ¬ 3264 + j.val - 1088 < 1088; omega), dif_neg (by show ¬ 3264 + j.val - 1088 - 1088 < 1088; omega), mul_comm]
    exact congrArg (fun k => f (ix2 l i) * g (ix3 3 l k)) (Fin.ext (by show 3264 + j.val - 1088 - 1088 - 1088 = j.val; omega))

end Reference

/-- The reference leaves its arguments as they were and declares no semaphore. -/
theorem reference_frame : Cert.quiescent_Reference5Ideal := fun m ρ _ =>
  (θ_run Cert.Reference5Ideal.defs _ _).mono (fun r h => ⟨fun c => (h c).2,
    sem_eq_zero_of_no_sems (by decide) r.2⟩) (Cert.Reference5Ideal.Value.run (F := Ideal) m ρ)

/-- The kernel and the reference end with the same gradient. -/
theorem algebraic : Cert.algebraic_Kernel5Ideal_Reference5Ideal := by
  intro m ρ m' ρ' hpre hargs
  refine ⟨fun c => arr m c, (θ_run Cert.Kernel5Ideal.defs _ _).mono (fun r h c => ?_) (Cert.Kernel5Ideal.Value.run_blocks (F := Ideal) m ρ),
    (θ_run Cert.Reference5Ideal.defs _ _).mono (fun r h c => ?_) (Cert.Reference5Ideal.Value.run (F := Ideal) m' ρ')⟩
  · exact ⟨(h c).1.trans (arr2 m c), (h c).2⟩
  · refine ⟨(h c).1.trans ((Cert.Reference5Ideal.Read.val_main_v23_eq m' c).trans ?_), (h c).2⟩
    rw [(hargs c).1, (hargs c).2]
    funext y
    obtain ⟨s, i, j, rfl⟩ : ∃ (s : Fin 4) (i : Fin 1024) (j : Fin 1088), y = ix3 s i j := ⟨y 0, y 1, y 2, by
      funext a; match a with | 0 => rfl | 1 => rfl | 2 => rfl⟩
    exact ref _ _ s i j

end Cert.ProjWeights

end
-- ==== Proof.FfnWeights.lean ====
/- The gradient of the feed-forward's second weights: the activations' transpose against the gradient of the output, summed
   over all tokens. The kernel runs through the tokens in eight blocks and keeps a running sum; over the extended reals it
   ends with the reference's array, whatever the arguments. -/
module

public import proofs.«01_k».proof.Defs
public import proofs.«01_k».proof.Proof.Gen.Kernel6Ideal.Value
public import proofs.«01_k».proof.Proof.Gen.Reference6Ideal.Read
public import proofs.«01_k».proof.Proof.Gen.Reference6Ideal.Run
public import Idealize.ShloMosaic.Lib.Pipeline.ValueKit
public import Idealize.ShloMosaic.Lib.Pipeline.ReadBack
public import Idealize.ShloMosaic.Lib.Pointwise

@[expose] public section

noncomputable section

namespace Cert.FfnWeights

open Idealize.ShloMosaic Idealize.ShloMosaic.TcCoe
open Idealize.ShloMosaic.Pipeline (Dat)

/-- The gradient of one weight: the sum over the tokens. -/
def gw (f : Cert.Kernel6Ideal.S8192x2816.Idx → EReal) (g : Cert.Kernel6Ideal.S8192x1024.Idx → EReal) (i : Fin 2816) (j : Fin 1024) : EReal :=
  ∑ l : Fin 8192, f (ix2 l i) * g (ix2 l j)

section Kernel

open Cert.Kernel6Ideal Cert.Kernel6Ideal.Gen

/-- Where each window's block lies at a point of the grid. -/
theorem idx : ∀ t : Fin cfg0.N, win0_0.index t = ![t.val % 8, t.val / 8] ∧ win0_1.index t = ![t.val % 8, 0] ∧ win0_2.index t = ![t.val / 8, 0] :=
  (by decide +kernel : ∀ t : Fin grid0.N, _)

variable (m : (ℓ : Loc nD τ sig) → Buf (Elt Ideal) ℓ) (c : Dev nD)

/-- The array that the kernel writes. -/
def arr : S2816x1024.Idx → EReal := fun i =>
  gw (m ((c : Thread nD τ).loc main_arg0)) (m ((c : Thread nD τ).loc main_arg1)) (i 0) (i 1)

/-- A product of two blocks over their rows, at one place. -/
def rows (a : Vec Ideal S1024x1408 .bf16) (b : Vec Ideal S1024x1024 .bf16) (i : Fin 1408) (j : Fin 1024) : EReal :=
  ∑ k : Fin 1024, a (ix2 k i) * b (ix2 k j)

/-- What a point adds at one place of its block. -/
def term (t : Fin cfg0.N) (i : Fin 1408) (j : Fin 1024) : EReal := rows (iblk m c 0 t) (iblk m c 1 t) i j

/-- The step's arithmetic at one place. -/
theorem step_apply (acc : Vec Ideal S1408x1024 .f32) (a : Vec Ideal S1024x1408 .bf16) (b : Vec Ideal S1024x1024 .bf16) (i : Fin 1408) (j : Fin 1024) :
    k0_pay2 (F := Ideal) acc a b (ix2 i j) = acc (ix2 i j) + rows a b i j := by
  pointwise [k0_pay2]
  rfl

/-- The reset's value is zero. -/
theorem reset_apply (i : Fin 1408) (j : Fin 1024) : k0_pay1 (F := Ideal) (ix2 i j) = 0 := by
  pointwise [k0_pay1]

/-- The first point of a run starts from zero. -/
theorem first (t : Fin cfg0.N) (h : t.val % 8 = 0) (i : Fin 1408) (j : Fin 1024) : outsAt0 m c t.val t.isLt (ix2 i j) = 0 + term m c t i j := by
  rw [outsAt0_A m c t h, Cert.Kernel6Ideal.Value.out_A_2_eq, step_apply, reset_apply]
  rfl

/-- A later point adds to what the point before left. -/
theorem later (t : Fin cfg0.N) (h : ¬t.val % 8 = 0) (i : Fin 1408) (j : Fin 1024) : outsAt0 m c t.val t.isLt (ix2 i j)
    = outsAt0 m c (t.val - 1) (by omega) (ix2 i j) + term m c t i j := by
  rw [outsAt0_B m c t h, Cert.Kernel6Ideal.Value.out_B_2_eq, step_apply]
  rfl

/-- The output array. -/
theorem arr2 : (dats m 0 c).arrAt 2 cfg0.N = arr m c := by
  refine (dats m 0 c).arrAt_eq_of_covers 2 _ (by decide +kernel) fun t hf y => ?_
  have hr := (flush0_2 t).mp hf
  have ht : t.val < 16 := t.isLt
  obtain ⟨i, j, rfl⟩ : ∃ (i : Fin 1408) (j : Fin 1024), y = ix2 i j := ⟨y 0, y 1, by
    funext a; match a with | 0 => rfl | 1 => rfl⟩
  blk_simp
  rw [after0_2]
  have E := Pipeline.eq_sum_fin_of_reset_step_apply_of_flush (fun n h (i : Fin 1408 × Fin 1024) => outsAt0 m c n h (ix2 i.1 i.2)) 8 (fun _ => 0)
    (fun p i => term m c p i.1 i.2) (fun p h i => first m c p h i.1 i.2) (fun p h i => later m c p h i.1 i.2) t hr (i, j)
  refine E.trans ?_
  have e : (win0_2.blk t).view.emb (ix2 i j) = ix2 ⟨t.val / 8 * 1408 + i.val, by omega⟩ j := by
    blk_ext [idx t]
  refine Eq.trans ?_ (congrArg (arr m c) e).symm
  rw [zero_add]
  unfold arr gw term rows
  refine Eq.trans ?_ (Fin.sum_mul_add_fin 8 1024 _)
  refine Finset.sum_congr rfl fun s _ => Finset.sum_congr rfl fun k _ => ?_
  have hs : (8 * (t.val / 8) + s.val) % 8 = s.val := by omega
  have hd : (8 * (t.val / 8) + s.val) / 8 = t.val / 8 := by omega
  refine congrArg₂ (· * ·) ?_ ?_
  · blk_ext [iblk, V, idx ⟨8 * (t.val / 8) + s.val, Pipeline.run_point_lt_of_flush t hr s⟩, hs, hd]
  · blk_ext [iblk, V, idx ⟨8 * (t.val / 8) + s.val, Pipeline.run_point_lt_of_flush t hr s⟩, hs, hd]

end Kernel

section Reference

open Cert.Reference6Ideal Cert.Reference6Ideal.Gen Cert.Reference6Ideal.Read

variable (f : Vec Ideal S8192x2816 .bf16) (g : Vec Ideal S8192x1024 .bf16)

/-- The reference at one entry. -/
theorem ref (i : Fin 2816) (j : Fin 1024) : val_main_v5 (F := Ideal) f g (ix2 i j) = gw f g i j := by
  pointwise [val_main_v5, val_main_v4, val_main_v3, val_main_v0]
  unfold gw
  exact Finset.sum_congr rfl fun l _ => mul_comm _ _

end Reference

/-- The reference leaves its arguments as they were and declares no semaphore. -/
theorem reference_frame : Cert.quiescent_Reference6Ideal := fun m ρ _ =>
  (θ_run Cert.Reference6Ideal.defs _ _).mono (fun r h => ⟨fun c => (h c).2,
    sem_eq_zero_of_no_sems (by decide) r.2⟩) (Cert.Reference6Ideal.Value.run (F := Ideal) m ρ)

/-- The kernel and the reference end with the same gradient. -/
theorem algebraic : Cert.algebraic_Kernel6Ideal_Reference6Ideal := by
  intro m ρ m' ρ' hpre hargs
  refine ⟨fun c => arr m c, (θ_run Cert.Kernel6Ideal.defs _ _).mono (fun r h c => ?_) (Cert.Kernel6Ideal.Value.run_blocks (F := Ideal) m ρ),
    (θ_run Cert.Reference6Ideal.defs _ _).mono (fun r h c => ?_) (Cert.Reference6Ideal.Value.run (F := Ideal) m' ρ')⟩
  · exact ⟨(h c).1.trans (arr2 m c), (h c).2⟩
  · refine ⟨(h c).1.trans ((Cert.Reference6Ideal.Read.val_main_v5_eq _ _).trans ?_), (h c).2⟩
    rw [(hargs c).1, (hargs c).2]
    funext y
    obtain ⟨i, j, rfl⟩ : ∃ (i : Fin 2816) (j : Fin 1024), y = ix2 i j := ⟨y 0, y 1, by
      funext a; match a with | 0 => rfl | 1 => rfl⟩
    exact ref _ _ i j

end Cert.FfnWeights

end
-- ==== Proof.Sigmoid.lean ====
/- The logistic function over the extended reals, in the two forms the programs write it, and the derivative of `g · σ(g)`
   in the two forms they write that. Nothing here mentions a program. -/
module

public import proofs.«01_k».proof.Proof.Reals

@[expose] public section

noncomputable section

namespace Cert.Sigmoid

open Idealize.ShloMosaic

/-- The single-precision word of one half. -/
theorem half_f32 : Ideal.ofBits .f32 0x3F000000#32 = ((1 / 2 : ℝ) : EReal) := by
  simp [Ideal.ofBits, Ideal.ieee, -EReal.coe_mul]
  norm_num

/-- The logistic function as the kernel writes it. -/
def viaTanh (g : EReal) : EReal := ((1 / 2 : ℝ) : EReal) * Ideal.tanh (((1 / 2 : ℝ) : EReal) * g) + ((1 / 2 : ℝ) : EReal)

/-- The logistic function as the reference writes it. -/
def viaExp (g : EReal) : EReal := Ideal.div 1 (1 + Ideal.exp (-g))

/-- The logistic function of a real. -/
def sg (r : ℝ) : ℝ := 1 / (1 + Real.exp (-r))

/-- The half-angle formula of the hyperbolic tangent. -/
theorem tanh_half (r : ℝ) : 1 / 2 * Real.tanh (1 / 2 * r) + 1 / 2 = sg r := by
  have e : Real.exp (-r) = Real.exp (-(1 / 2 * r)) * Real.exp (-(1 / 2 * r)) := by rw [← Real.exp_add]; congr 1; ring
  have e1 : Real.exp (1 / 2 * r) * Real.exp (-(1 / 2 * r)) = 1 := by rw [← Real.exp_add]; simp
  have h1 := Real.exp_pos (1 / 2 * r)
  have h2 := Real.exp_pos (-(1 / 2 * r))
  unfold sg
  rw [Real.tanh_eq_sinh_div_cosh, Real.sinh_eq, Real.cosh_eq, e]
  generalize Real.exp (1 / 2 * r) = a at *
  generalize Real.exp (-(1 / 2 * r)) = b at *
  have h3 : 0 < a + b := by linarith
  have h4 : 0 < 1 + b * b := by positivity
  field_simp
  nlinarith [e1, mul_comm a b]

/-- The kernel's form at a real. -/
theorem viaTanh_coe (r : ℝ) : viaTanh (r : EReal) = (sg r : EReal) := by
  unfold viaTanh
  rw [← EReal.coe_mul, Ideal.tanh_coe, ← EReal.coe_mul, ← EReal.coe_add, tanh_half]

/-- The reference's form at a real. -/
theorem viaExp_coe (r : ℝ) : viaExp (r : EReal) = (sg r : EReal) := by
  have h := Real.exp_pos (-r)
  unfold viaExp sg
  rw [← EReal.coe_neg, Ideal.exp_coe, ← EReal.coe_one, ← EReal.coe_add, Cert.Reals.div_coe_coe _ _ (by positivity)]

/-- The kernel's form at ∞. -/
theorem viaTanh_top : viaTanh ⊤ = 1 := by
  unfold viaTanh
  rw [EReal.coe_mul_top_of_pos (by norm_num), Ideal.tanh_top, mul_one, ← EReal.coe_add, ← EReal.coe_one]
  norm_num

/-- The kernel's form at −∞. -/
theorem viaTanh_bot : viaTanh ⊥ = 0 := by
  unfold viaTanh
  rw [EReal.coe_mul_bot_of_pos (by norm_num), Ideal.tanh_bot, ← EReal.coe_one, ← EReal.coe_neg, ← EReal.coe_mul, ← EReal.coe_add, ← EReal.coe_zero]
  norm_num

/-- The reference's form at ∞. -/
theorem viaExp_top : viaExp ⊤ = 1 := by
  unfold viaExp
  rw [EReal.neg_top, Ideal.exp_bot, add_zero, ← EReal.coe_one, Cert.Reals.div_coe_coe _ _ one_ne_zero, div_one]

/-- The reference's form at −∞. -/
theorem viaExp_bot : viaExp ⊥ = 0 := by
  unfold viaExp
  rw [EReal.neg_bot, Ideal.exp_top, ← EReal.coe_one, EReal.coe_add_top]
  simp [Ideal.div]

/-- The two forms of the logistic function are equal, at the infinities too. -/
theorem viaTanh_eq (g : EReal) : viaTanh g = viaExp g := by
  induction g with
  | bot => rw [viaTanh_bot, viaExp_bot]
  | top => rw [viaTanh_top, viaExp_top]
  | coe r => rw [viaTanh_coe, viaExp_coe]

/-- The gradient through `g · σ(g)`: the product rule written out by the reference, and factored by the kernel, for a real
    incoming gradient and any `g`. -/
theorem silu_grad (D : ℝ) (g : EReal) : (D : EReal) * (viaTanh g * (1 + g * (1 - viaTanh g)))
    = (D : EReal) * viaExp g + g * (D : EReal) * (viaExp g * (1 - viaExp g)) := by
  rw [viaTanh_eq]
  induction g with
  | bot => rw [viaExp_bot]; simp
  | top =>
    have h : (1 : EReal) - 1 = 0 := by rw [← EReal.coe_one, ← EReal.coe_sub, sub_self, EReal.coe_zero]
    rw [viaExp_top, h]; simp
  | coe r =>
    rw [viaExp_coe, ← EReal.coe_one]
    simp only [← EReal.coe_mul, ← EReal.coe_add, ← EReal.coe_sub]
    exact congrArg _ (by ring)

end Cert.Sigmoid

end
-- ==== Proof.FfnAct.lean ====
/- The gradients at the two halves of the feed-forward: through the second product and the gated activation `g · σ(g) · u`.
   Over the extended reals the kernel and the reference end with the same arrays once the gradient, the weights and the
   ungated half are finite. -/
module

public import proofs.«01_k».proof.Defs
public import proofs.«01_k».proof.Proof.Gen.Kernel7Ideal.Value
public import proofs.«01_k».proof.Proof.Gen.Reference7Ideal.Read
public import proofs.«01_k».proof.Proof.Gen.Reference7Ideal.Run
public import proofs.«01_k».proof.Proof.Gen.Pre_finite7
public import proofs.«01_k».proof.Proof.Finite
public import proofs.«01_k».proof.Proof.Sigmoid
public import Idealize.ShloMosaic.Lib.Pipeline.ValueKit
public import Idealize.ShloMosaic.Lib.Pipeline.ReadBack
public import Idealize.ShloMosaic.Lib.Pointwise

@[expose] public section

noncomputable section

namespace Cert.FfnAct

open Idealize.ShloMosaic Idealize.ShloMosaic.TcCoe
open Idealize.ShloMosaic.Pipeline (Dat)
open Cert.Reals Cert.Sigmoid

/-- The gradient at the activation's product: the output's gradient against the second weights. -/
def df (a : Cert.Kernel7Ideal.S8192x1024.Idx → EReal) (w : Cert.Kernel7Ideal.S2816x1024.Idx → EReal) (t : Fin 8192) (f : Fin 2816) : EReal :=
  ∑ k : Fin 1024, a (ix2 t k) * w (ix2 f k)

section Kernel

open Cert.Kernel7Ideal Cert.Kernel7Ideal.Gen

/-- Where each window's block lies at a point of the grid. -/
theorem idx : ∀ t : Fin cfg0.N, win0_0.index t = ![t.val % 8, 0] ∧ win0_1.index t = ![t.val / 8, 0] ∧ win0_2.index t = ![t.val % 8, t.val / 8]
    ∧ win0_3.index t = ![t.val % 8, t.val / 8] ∧ win0_4.index t = ![t.val % 8, t.val / 8] ∧ win0_5.index t = ![t.val % 8, t.val / 8] :=
  (by decide +kernel : ∀ t : Fin grid0.N, _)

variable (m : (ℓ : Loc nD τ sig) → Buf (Elt Ideal) ℓ) (c : Dev nD)

/-- The gradient at the gated half as the kernel writes it. -/
def gated (a : S8192x1024.Idx → EReal) (w : S2816x1024.Idx → EReal) (g u : S8192x2816.Idx → EReal) (t : Fin 8192) (f : Fin 2816) : EReal :=
  df a w t f * u (ix2 t f) * (viaTanh (g (ix2 t f)) * (1 + g (ix2 t f) * (1 - viaTanh (g (ix2 t f)))))

/-- The gradient at the other half as the kernel writes it. -/
def other (a : S8192x1024.Idx → EReal) (w : S2816x1024.Idx → EReal) (g : S8192x2816.Idx → EReal) (t : Fin 8192) (f : Fin 2816) : EReal :=
  df a w t f * (g (ix2 t f) * viaTanh (g (ix2 t f)))

/-- The first array that the kernel writes. -/
def arrG : S8192x2816.Idx → EReal := fun i =>
  gated (m ((c : Thread nD τ).loc main_arg0)) (m ((c : Thread nD τ).loc main_arg1)) (m ((c : Thread nD τ).loc main_arg2)) (m ((c : Thread nD τ).loc main_arg3)) (i 0) (i 1)

/-- The second array that the kernel writes. -/
def arrU : S8192x2816.Idx → EReal := fun i =>
  other (m ((c : Thread nD τ).loc main_arg0)) (m ((c : Thread nD τ).loc main_arg1)) (m ((c : Thread nD τ).loc main_arg2)) (i 0) (i 1)

/-- The first output array. -/
theorem arr4 : (dats m 0 c).arrAt 4 cfg0.N = arrG m c := by
  refine (dats m 0 c).arrAt_eq_of_covers 4 _ (by decide +kernel) fun t hf y => ?_
  have ht : t.val < 16 := t.isLt
  obtain ⟨r, f, rfl⟩ : ∃ (r : Fin 1024) (f : Fin 1408), y = ix2 r f := ⟨y 0, y 1, by
    funext a; match a with | 0 => rfl | 1 => rfl⟩
  blk_simp
  rw [after0_4]
  have e : (win0_4.blk t).view.emb (ix2 r f) = ix2 ⟨t.val % 8 * 1024 + r.val, by omega⟩ ⟨t.val / 8 * 1408 + f.val, by omega⟩ := by
    blk_ext [idx t]
  refine Eq.trans ?_ (congrArg (arrG m c) e).symm
  frame_out
  pointwise [k0_pay4, k0_pay3, k0_pay2, k0_pay1]
  simp only [half_f32]
  unfold arrG gated df viaTanh
  blk_point [iblk, V, idx t]

/-- The second output array. -/
theorem arr5 : (dats m 0 c).arrAt 5 cfg0.N = arrU m c := by
  refine (dats m 0 c).arrAt_eq_of_covers 5 _ (by decide +kernel) fun t hf y => ?_
  have ht : t.val < 16 := t.isLt
  obtain ⟨r, f, rfl⟩ : ∃ (r : Fin 1024) (f : Fin 1408), y = ix2 r f := ⟨y 0, y 1, by
    funext a; match a with | 0 => rfl | 1 => rfl⟩
  blk_simp
  rw [after0_5]
  have e : (win0_5.blk t).view.emb (ix2 r f) = ix2 ⟨t.val % 8 * 1024 + r.val, by omega⟩ ⟨t.val / 8 * 1408 + f.val, by omega⟩ := by
    blk_ext [idx t]
  refine Eq.trans ?_ (congrArg (arrU m c) e).symm
  frame_out
  pointwise [k0_pay5, k0_pay3, k0_pay2, k0_pay1]
  simp only [half_f32]
  unfold arrU other df viaTanh
  blk_point [iblk, V, idx t]

end Kernel

section Reference

open Cert.Reference7Ideal Cert.Reference7Ideal.Gen Cert.Reference7Ideal.Read

variable (a : Vec Ideal S8192x1024 .bf16) (w : Vec Ideal S2816x1024 .bf16) (g u : Vec Ideal S8192x2816 .bf16)

/-- The incoming gradient is real when what it is made of is. -/
theorem real_df (ha : ∀ i, Fin' (a i)) (hw : ∀ i, Fin' (w i)) (t : Fin 8192) (f : Fin 2816) :
    df a w t f = ((∑ k : Fin 1024, (a (ix2 t k)).toReal * (w (ix2 f k)).toReal : ℝ) : EReal) := by
  unfold df
  rw [← coe_sum]
  refine Finset.sum_congr rfl fun k _ => ?_
  rw [EReal.coe_mul]
  exact congrArg₂ (· * ·) (coe_toReal (ha _)) (coe_toReal (hw _))

/-- The reference's gradient at the gated half. -/
theorem ref_gated (ha : ∀ i, Fin' (a i)) (hw : ∀ i, Fin' (w i)) (hu : ∀ i, Fin' (u i)) (t : Fin 8192) (f : Fin 2816) :
    val_main_v11 (F := Ideal) a w g u (ix2 t f) = gated a w g u t f := by
  have e : val_main_v11 (F := Ideal) a w g u (ix2 t f) = df a w t f * u (ix2 t f) * viaExp (g (ix2 t f))
      + g (ix2 t f) * (df a w t f * u (ix2 t f)) * (viaExp (g (ix2 t f)) * (1 - viaExp (g (ix2 t f)))) := by
    unfold df viaExp
    pointwise [val_main_v11, val_main_v10, val_main_call1_v2, val_main_call1_v1, val_main_call1_v0, val_main_v9, val_main_v8, val_main_v7, val_main_v6, val_main_v3_0, val_main_v3_1,
      val_main_v3_2, val_main_call0_v7, val_main_call0_v6, val_main_call0_v4, val_main_call0_v3, val_main_call0_v2, val_main_call0_v1, val_main_call0_v0, val_main_call0_cst,
      val_main_call0_cst_0, val_main_call0_cst_1, val_main_v2, val_main_v1, val_main_v0]
  rw [e]
  unfold gated
  have hD : df a w t f * u (ix2 t f) = ((_ * (u (ix2 t f)).toReal : ℝ) : EReal) :=
    (congrArg₂ (· * ·) (real_df a w ha hw t f) (coe_toReal (hu _))).trans (EReal.coe_mul _ _).symm
  rw [hD]
  exact (silu_grad _ _).symm

/-- The reference's gradient at the other half. -/
theorem ref_other (t : Fin 8192) (f : Fin 2816) : val_main_v12 (F := Ideal) a w g (ix2 t f) = other a w g t f := by
  have e : val_main_v12 (F := Ideal) a w g (ix2 t f) = g (ix2 t f) * viaExp (g (ix2 t f)) * df a w t f := by
    unfold df viaExp
    pointwise [val_main_v12, val_main_v8, val_main_v7, val_main_v6, val_main_v3_0, val_main_v3_1,
      val_main_v3_2, val_main_call0_v7, val_main_call0_v6, val_main_call0_v4, val_main_call0_v3, val_main_call0_v2, val_main_call0_v1, val_main_call0_v0, val_main_call0_cst,
      val_main_call0_cst_0, val_main_call0_cst_1, val_main_v2, val_main_v1, val_main_v0]
  rw [e, mul_comm]
  unfold other
  rw [viaTanh_eq]

end Reference

/-- The precondition makes the gradient, the weights and the ungated half real. -/
theorem finite (x0 x1 x2 x3) (h : Cert.Pre_finite7.fn (F := Ideal) x0 x1 x2 x3 = fun _ => 1#1) :
    (∀ i, Fin' (x0 i)) ∧ (∀ i, Fin' (x1 i)) ∧ (∀ i, Fin' (x3 i)) := by
  dsimp only [Cert.Pre_finite7.fn] at h
  obtain ⟨h01, h2⟩ := IntOp.andi_eq_one.1 (congrFun h ix0)
  obtain ⟨h0, h1⟩ := IntOp.andi_eq_one.1 h01
  exact ⟨fun i => Cert.Finite.real_of_abs _ (Host.reduce_andi_all _ _ _ _ _ h0 i), fun i => Cert.Finite.real_of_abs _ (Host.reduce_andi_all _ _ _ _ _ h1 i),
    fun i => Cert.Finite.real_of_abs _ (Host.reduce_andi_all _ _ _ _ _ h2 i)⟩

/-- The reference leaves its arguments as they were and declares no semaphore. -/
theorem reference_frame : Cert.quiescent_Reference7Ideal := fun m ρ _ =>
  (θ_run Cert.Reference7Ideal.defs _ _).mono (fun r h => ⟨fun c => (h c).2.2,
    sem_eq_zero_of_no_sems (by decide) r.2⟩) (Cert.Reference7Ideal.Value.run (F := Ideal) m ρ)

/-- The kernel and the reference end with the same gradients. -/
theorem algebraic : Cert.algebraic_Kernel7Ideal_Reference7Ideal_pre_finite7 := by
  intro m ρ m' ρ' hpre hargs
  refine ⟨fun c => arrG m c, fun c => arrU m c, (θ_run Cert.Kernel7Ideal.defs _ _).mono (fun r h c => ?_) (Cert.Kernel7Ideal.Value.run_blocks (F := Ideal) m ρ),
    (θ_run Cert.Reference7Ideal.defs _ _).mono (fun r h c => ?_) (Cert.Reference7Ideal.Value.run (F := Ideal) m' ρ')⟩
  · exact ⟨(h c).1.trans (arr4 m c), (h c).2.1.trans (arr5 m c), (h c).2.2⟩
  · obtain ⟨ha, hw, hu⟩ := finite _ _ _ _ (hpre c)
    refine ⟨(h c).1.trans ((Cert.Reference7Ideal.Read.val_main_v11_eq _ _ _ _).trans ?_), (h c).2.1.trans ((Cert.Reference7Ideal.Read.val_main_v12_eq _ _ _).trans ?_), (h c).2.2⟩
    all_goals
      rw [(hargs c).1, (hargs c).2.1, (hargs c).2.2.1]
      try rw [(hargs c).2.2.2]
      funext i
      obtain ⟨t, f, rfl⟩ : ∃ (t : Fin 8192) (f : Fin 2816), i = ix2 t f := ⟨i 0, i 1, by
        funext a; match a with | 0 => rfl | 1 => rfl⟩
    · exact ref_gated _ _ _ _ ha hw hu t f
    · exact ref_other _ _ _ t f

end Cert.FfnAct

end
-- ==== Proof.GateWeights.lean ====
/- The gradient of the gates' weights, in four shards: the input's transpose against the gates' gradient, summed over all
   tokens. The kernel takes the columns of two shards at a time, runs through the tokens in eight blocks and keeps a running
   sum; over the extended reals it ends with the reference's array, whatever the arguments. -/
module

public import proofs.«01_k».proof.Defs
public import proofs.«01_k».proof.Proof.Gen.Kernel8Ideal.Value
public import proofs.«01_k».proof.Proof.Gen.Reference8Ideal.Read
public import proofs.«01_k».proof.Proof.Gen.Reference8Ideal.Run
public import Idealize.ShloMosaic.Lib.Pipeline.ValueKit
public import Idealize.ShloMosaic.Lib.Pipeline.ReadBack
public import Idealize.ShloMosaic.Lib.Pointwise
public import proofs.«01_k».proof.Proof.MemBlock

@[expose] public section

noncomputable section

namespace Cert.GateWeights

open Idealize.ShloMosaic Idealize.ShloMosaic.TcCoe
open Idealize.ShloMosaic.Pipeline (Dat)

/-- The gradient of one weight: the sum over the tokens. -/
def gw (f : Cert.Kernel8Ideal.S8192x1024.Idx → EReal) (g : Cert.Kernel8Ideal.S8192x3072.Idx → EReal) (i : Fin 1024) (j : Fin 3072) : EReal :=
  ∑ l : Fin 8192, f (ix2 l i) * g (ix2 l j)

section Kernel

open Cert.Kernel8Ideal Cert.Kernel8Ideal.Gen

/-- Where each window's block lies at a point of the grid. -/
theorem idx : ∀ t : Fin cfg0.N, win0_0.index t = ![t.val % 8, 0] ∧ win0_1.index t = ![t.val % 8, t.val / 8] ∧ win0_2.index t = ![t.val / 8, 0, 0] :=
  (by decide +kernel : ∀ t : Fin grid0.N, _)

variable (m : (ℓ : Loc nD τ sig) → Buf (Elt Ideal) ℓ) (c : Dev nD)

/-- The array that the kernel writes: a shard's columns lie one after the other in the gradient. -/
def arr : S4x1024x768.Idx → EReal := fun i =>
  gw (m ((c : Thread nD τ).loc main_arg0)) (m ((c : Thread nD τ).loc main_arg1)) (i 1) ⟨(i 0).val * 768 + (i 2).val, by have h0 : (i 0).val < 4 := (i 0).isLt; have h2 : (i 2).val < 768 := (i 2).isLt; omega⟩

/-- A product of a block with the columns of one of two shards, over their rows, at one place. -/
def rows (a : Vec Ideal S1024x1024 .bf16) (b : Vec Ideal S1024x1536 .bf16) (q : Fin 2) (i : Fin 1024) (j : Fin 768) : EReal :=
  ∑ k : Fin 1024, a (ix2 k i) * b (ix2 k ⟨q.val * 768 + j.val, by omega⟩)

/-- What a point adds at one place of its block. -/
def term (t : Fin cfg0.N) (q : Fin 2) (i : Fin 1024) (j : Fin 768) : EReal := rows (iblk m c 0 t) (iblk m c 1 t) q i j

/-- The reset's value is zero. -/
theorem reset_apply (i : S2x1024x768.Idx) : k0_pay1 (F := Ideal) i = 0 := by
  pointwise [k0_pay1]

/-- One of the two blocks, loaded. -/
theorem ld_two {e : EltTy} (X : Vec Ideal S2x1024x768 e) (o : ℕ) (inb : ∀ a, ![o, 0, 0] a + ![1, 1024, 768] a ≤ S2x1024x768.size a) (ho : o < 2) (i : Fin 1024) (j : Fin 768) :
    View.ld X (Rect.unit (s := S2x1024x768) ![o, 0, 0] ![1, 1024, 768] inb) (ix3 0 i j) = X (ix3 ⟨o, ho⟩ i j) := by
  pointwise

/-- The product at one place. -/
theorem prod_apply (a : Vec Ideal S1024x1024 .bf16) (b : Vec Ideal S1024x1536 .bf16) (q : Fin 2) (i : Fin 1024) (j : Fin 768) :
    k0_pay2 (F := Ideal) a b (ix2 i ⟨q.val * 768 + j.val, by omega⟩) = rows a b q i j := by
  pointwise [k0_pay2]
  rfl

/-- The arithmetic of the first shard's step at one place. -/
theorem first_apply (a : Vec Ideal S1024x1024 .bf16) (b : Vec Ideal S1024x1536 .bf16) (acc : Vec Ideal S1x1024x768 .f32) (i : Fin 1024) (j : Fin 768) :
    k0_pay3 (F := Ideal) a b acc (ix3 0 i j) = acc (ix3 0 i j) + rows a b 0 i j := by
  rw [← prod_apply]
  pointwise [k0_pay3]

/-- The arithmetic of the second shard's step at one place. -/
theorem second_apply (a : Vec Ideal S1024x1024 .bf16) (b : Vec Ideal S1024x1536 .bf16) (acc : Vec Ideal S1x1024x768 .f32) (i : Fin 1024) (j : Fin 768) :
    k0_pay4 (F := Ideal) a b acc (ix3 0 i j) = acc (ix3 0 i j) + rows a b 1 i j := by
  rw [← prod_apply]
  pointwise [k0_pay4]

/-- A place of one shard's block, from its coordinates. -/
theorem place (x : S1x1024x768.Idx) (i : Fin 1024) (j : Fin 768) (h1 : i.val = (x 1).val) (h2 : j.val = (x 2).val) : x = ix3 0 i j := by
  funext a
  match a with
  | 0 => exact Subsingleton.elim (α := Fin 1) _ _
  | 1 => exact Fin.ext h1.symm
  | 2 => exact Fin.ext h2.symm

/-- The first point of a run starts from zero. -/
theorem first (t : Fin cfg0.N) (h : t.val % 8 = 0) (q : Fin 2) (i : Fin 1024) (j : Fin 768) : outsAt0 m c t.val t.isLt (ix3 q i j) = 0 + term m c t q i j := by
  rw [outsAt0_A m c t h]
  frame_open
  simp (disch := decide) only [↓ View.readCov_skip, ↓ View.readCov_cons_toLoadRect, ↓ View.readCov_fill]
  frame_out
  refine (Cert.Mem.canon_covered [_, _] [_] _ ?_).trans ?_
  · exact View.cover_of_tiledBy _ ![1, 1024, 768] (by sl_kernel_rfl) _
  canon_tiles x h
  · obtain rfl : q = ⟨1, by decide⟩ := Fin.ext (h0.trans (by show 1 + (x 0).val = 1; omega))
    obtain rfl := place x i j h1 h2
    rw [second_apply, ld_two _ 1 _ (by decide)]
    exact congrArg (· + _) (reset_apply _)
  · obtain rfl : q = ⟨0, by decide⟩ := Fin.ext (h0.trans (by show (x 0).val = 0; omega))
    obtain rfl := place x i j h1 h2
    rw [first_apply, ld_two _ 0 _ (by decide)]
    exact congrArg (· + _) (reset_apply _)

/-- A later point adds to what the point before left. -/
theorem later (t : Fin cfg0.N) (h : ¬t.val % 8 = 0) (q : Fin 2) (i : Fin 1024) (j : Fin 768) : outsAt0 m c t.val t.isLt (ix3 q i j)
    = outsAt0 m c (t.val - 1) (by omega) (ix3 q i j) + term m c t q i j := by
  rw [outsAt0_B m c t h]
  frame_open
  simp (disch := decide) only [↓ View.readCov_skip, ↓ View.readCov_cons_toLoadRect, ↓ View.readCov_fill]
  frame_out
  canon_tiles x h
  · obtain rfl : q = ⟨1, by decide⟩ := Fin.ext (h0.trans (by show 1 + (x 0).val = 1; omega))
    obtain rfl := place x i j h1 h2
    rw [second_apply, ld_two _ 1 _ (by decide)]
    rfl
  · obtain rfl : q = ⟨0, by decide⟩ := Fin.ext (h0.trans (by show (x 0).val = 0; omega))
    obtain rfl := place x i j h1 h2
    rw [first_apply, ld_two _ 0 _ (by decide)]
    rfl

/-- The output array. -/
theorem arr2 : (dats m 0 c).arrAt 2 cfg0.N = arr m c := by
  refine (dats m 0 c).arrAt_eq_of_covers 2 _ (by decide +kernel) fun t hf y => ?_
  have hr := (flush0_2 t).mp hf
  have ht : t.val < 16 := t.isLt
  obtain ⟨q, i, j, rfl⟩ : ∃ (q : Fin 2) (i : Fin 1024) (j : Fin 768), y = ix3 q i j := ⟨y 0, y 1, y 2, by
    funext a; match a with | 0 => rfl | 1 => rfl | 2 => rfl⟩
  blk_simp
  rw [after0_2]
  have E := Pipeline.eq_sum_fin_of_reset_step_apply_of_flush (fun n h (i : Fin 2 × Fin 1024 × Fin 768) => outsAt0 m c n h (ix3 i.1 i.2.1 i.2.2)) 8 (fun _ => 0)
    (fun p i => term m c p i.1 i.2.1 i.2.2) (fun p h i => first m c p h i.1 i.2.1 i.2.2) (fun p h i => later m c p h i.1 i.2.1 i.2.2) t hr (q, i, j)
  refine E.trans ?_
  have e : (win0_2.blk t).view.emb (ix3 q i j) = ix3 ⟨t.val / 8 * 2 + q.val, by omega⟩ i j := by
    blk_ext [idx t]
  refine Eq.trans ?_ (congrArg (arr m c) e).symm
  rw [zero_add]
  unfold arr gw term rows
  refine Eq.trans ?_ (Fin.sum_mul_add_fin 8 1024 _)
  refine Finset.sum_congr rfl fun s _ => Finset.sum_congr rfl fun k _ => ?_
  have hs : (8 * (t.val / 8) + s.val) % 8 = s.val := by omega
  have hd : (8 * (t.val / 8) + s.val) / 8 = t.val / 8 := by omega
  refine congrArg₂ (· * ·) ?_ ?_
  · blk_ext [iblk, V, idx ⟨8 * (t.val / 8) + s.val, Pipeline.run_point_lt_of_flush t hr s⟩, hs, hd]
  · blk_ext [iblk, V, idx ⟨8 * (t.val / 8) + s.val, Pipeline.run_point_lt_of_flush t hr s⟩, hs, hd]

end Kernel

section Reference

open Cert.Reference8Ideal Cert.Reference8Ideal.Gen Cert.Reference8Ideal.Read

variable (f : Vec Ideal S8192x1024 .bf16) (g : Vec Ideal S8192x3072 .bf16)

/-- The reference at one entry: each shard of the result reads its columns of the gates' gradient. -/
theorem ref (s : Fin 4) (i : Fin 1024) (j : Fin 768) : val_main_v14 (F := Ideal) f g (ix3 s i j) = gw f g i ⟨s.val * 768 + j.val, by omega⟩ := by
  unfold gw
  match s with
  | 0 =>
    pointwise [val_main_v14, val_main_v13, val_main_v12, val_main_v11, val_main_v10, val_main_v9, val_main_v8, val_main_v7, val_main_v6, val_main_v5, val_main_v4, val_main_v3, val_main_v2, val_main_v1, val_main_v0]
    exact Finset.sum_congr rfl fun l _ => mul_comm _ _
  | 1 =>
    pointwise [val_main_v14, val_main_v13, val_main_v12, val_main_v11, val_main_v10, val_main_v9, val_main_v8, val_main_v7, val_main_v6, val_main_v5, val_main_v4, val_main_v3, val_main_v2, val_main_v1, val_main_v0]
    exact Finset.sum_congr rfl fun l _ => mul_comm _ _
  | 2 =>
    pointwise [val_main_v14, val_main_v13, val_main_v12, val_main_v11, val_main_v10, val_main_v9, val_main_v8, val_main_v7, val_main_v6, val_main_v5, val_main_v4, val_main_v3, val_main_v2, val_main_v1, val_main_v0]
    exact Finset.sum_congr rfl fun l _ => mul_comm _ _
  | 3 =>
    pointwise [val_main_v14, val_main_v13, val_main_v12, val_main_v11, val_main_v10, val_main_v9, val_main_v8, val_main_v7, val_main_v6, val_main_v5, val_main_v4, val_main_v3, val_main_v2, val_main_v1, val_main_v0]
    exact Finset.sum_congr rfl fun l _ => mul_comm _ _

end Reference

/-- The reference leaves its arguments as they were and declares no semaphore. -/
theorem reference_frame : Cert.quiescent_Reference8Ideal := fun m ρ _ =>
  (θ_run Cert.Reference8Ideal.defs _ _).mono (fun r h => ⟨fun c => (h c).2,
    sem_eq_zero_of_no_sems (by decide) r.2⟩) (Cert.Reference8Ideal.Value.run (F := Ideal) m ρ)

/-- The kernel and the reference end with the same gradient. -/
theorem algebraic : Cert.algebraic_Kernel8Ideal_Reference8Ideal := by
  intro m ρ m' ρ' hpre hargs
  refine ⟨fun c => arr m c, (θ_run Cert.Kernel8Ideal.defs _ _).mono (fun r h c => ?_) (Cert.Kernel8Ideal.Value.run_blocks (F := Ideal) m ρ),
    (θ_run Cert.Reference8Ideal.defs _ _).mono (fun r h c => ?_) (Cert.Reference8Ideal.Value.run (F := Ideal) m' ρ')⟩
  · exact ⟨(h c).1.trans (arr2 m c), (h c).2⟩
  · refine ⟨(h c).1.trans ((Cert.Reference8Ideal.Read.val_main_v14_eq _ _).trans ?_), (h c).2⟩
    rw [(hargs c).1, (hargs c).2]
    funext y
    obtain ⟨s, i, j, rfl⟩ : ∃ (s : Fin 4) (i : Fin 1024) (j : Fin 768), y = ix3 s i j := ⟨y 0, y 1, y 2, by
      funext a; match a with | 0 => rfl | 1 => rfl | 2 => rfl⟩
    exact ref _ _ s i j

end Cert.GateWeights

end
-- ==== Proof.FfnUpWeights.lean ====
/- The gradient of the feed-forward's ungated first weights, the last two of four shards: the input's transpose against the
   gradient of the ungated half, summed over all tokens. The kernel writes both shards into an array whose first two shards
   it leaves alone; over the extended reals it ends with the reference's array, whatever the arguments. -/
module

public import proofs.«01_k».proof.Defs
public import proofs.«01_k».proof.Proof.Gen.Kernel9Ideal.Value
public import proofs.«01_k».proof.Proof.Gen.Reference9Ideal.Read
public import proofs.«01_k».proof.Proof.Gen.Reference9Ideal.Run
public import Idealize.ShloMosaic.Lib.Pipeline.ValueKit
public import Idealize.ShloMosaic.Lib.Pipeline.ReadBack
public import Idealize.ShloMosaic.Lib.Pipeline.ValueKit.Partial
public import Idealize.ShloMosaic.Lib.Pointwise
public import proofs.«01_k».proof.Proof.MemBlock

@[expose] public section

noncomputable section

namespace Cert.FfnUpWeights

open Idealize.ShloMosaic Idealize.ShloMosaic.TcCoe
open Idealize.ShloMosaic.Pipeline (Dat)

/-- The gradient of one weight: the sum over the tokens. -/
def gw (f : Cert.Kernel9Ideal.S8192x1024.Idx → EReal) (g : Cert.Kernel9Ideal.S8192x2816.Idx → EReal) (i : Fin 1024) (j : Fin 2816) : EReal :=
  ∑ l : Fin 8192, f (ix2 l i) * g (ix2 l j)

section Kernel

open Cert.Kernel9Ideal Cert.Kernel9Ideal.Gen

/-- Where each window's block lies at a point of the grid. -/
theorem idx : ∀ t : Fin cfg0.N, win0_0.index t = ![t.val % 16, 0] ∧ win0_1.index t = ![t.val % 16, 0] ∧ win0_2.index t = ![1, 0, 0] :=
  (by decide +kernel : ∀ t : Fin grid0.N, _)

variable (m : (ℓ : Loc nD τ sig) → Buf (Elt Ideal) ℓ) (c : Dev nD)

/-- The array that the kernel writes: the first two shards are the old array's, the last two the gradient's columns. -/
def whole (f : S8192x1024.Idx → EReal) (g : S8192x2816.Idx → EReal) (o : S4x1024x1408.Idx → EReal) (s : Fin 4) (i : Fin 1024) (j : Fin 1408) : EReal :=
  if 2 ≤ s.val then gw f g i ⟨(s.val - 2) * 1408 + j.val, by omega⟩ else o (ix3 s i j)

/-- The array that the kernel writes, of the kernel's arguments. -/
def arr : S4x1024x1408.Idx → EReal := fun i =>
  whole (m ((c : Thread nD τ).loc main_arg0)) (m ((c : Thread nD τ).loc main_arg1)) (m ((c : Thread nD τ).loc main_arg2)) (i 0) (i 1) (i 2)

/-- A product of a block with the columns of one of two shards, over their rows, at one place. -/
def rows (a : Vec Ideal S512x1024 .bf16) (b : Vec Ideal S512x2816 .bf16) (q : Fin 2) (i : Fin 1024) (j : Fin 1408) : EReal :=
  ∑ k : Fin 512, a (ix2 k i) * b (ix2 k ⟨q.val * 1408 + j.val, by omega⟩)

/-- What a point adds at one place of its block. -/
def term (t : Fin cfg0.N) (q : Fin 2) (i : Fin 1024) (j : Fin 1408) : EReal := rows (iblk m c 0 t) (iblk m c 1 t) q i j

/-- The reset's value is zero. -/
theorem reset_apply (i : S2x1024x1408.Idx) : k0_pay1 (F := Ideal) i = 0 := by
  pointwise [k0_pay1]

/-- One of the two blocks, loaded. -/
theorem ld_two {e : EltTy} (X : Vec Ideal S2x1024x1408 e) (o : ℕ) (inb : ∀ a, ![o, 0, 0] a + ![1, 1024, 1408] a ≤ S2x1024x1408.size a) (ho : o < 2) (i : Fin 1024) (j : Fin 1408) :
    View.ld X (Rect.unit (s := S2x1024x1408) ![o, 0, 0] ![1, 1024, 1408] inb) (ix3 0 i j) = X (ix3 ⟨o, ho⟩ i j) := by
  pointwise

/-- The product at one place. -/
theorem prod_apply (a : Vec Ideal S512x1024 .bf16) (b : Vec Ideal S512x2816 .bf16) (q : Fin 2) (i : Fin 1024) (j : Fin 1408) :
    k0_pay2 (F := Ideal) a b (ix2 i ⟨q.val * 1408 + j.val, by omega⟩) = rows a b q i j := by
  pointwise [k0_pay2]
  rfl

/-- The arithmetic of the first shard's step at one place. -/
theorem first_apply (a : Vec Ideal S512x1024 .bf16) (b : Vec Ideal S512x2816 .bf16) (acc : Vec Ideal S1x1024x1408 .f32) (i : Fin 1024) (j : Fin 1408) :
    k0_pay3 (F := Ideal) a b acc (ix3 0 i j) = acc (ix3 0 i j) + rows a b 0 i j := by
  rw [← prod_apply]
  pointwise [k0_pay3]

/-- The arithmetic of the second shard's step at one place. -/
theorem second_apply (a : Vec Ideal S512x1024 .bf16) (b : Vec Ideal S512x2816 .bf16) (acc : Vec Ideal S1x1024x1408 .f32) (i : Fin 1024) (j : Fin 1408) :
    k0_pay4 (F := Ideal) a b acc (ix3 0 i j) = acc (ix3 0 i j) + rows a b 1 i j := by
  rw [← prod_apply]
  pointwise [k0_pay4]

/-- A place of one shard's block, from its coordinates. -/
theorem place (x : S1x1024x1408.Idx) (i : Fin 1024) (j : Fin 1408) (h1 : i.val = (x 1).val) (h2 : j.val = (x 2).val) : x = ix3 0 i j := by
  funext a
  match a with
  | 0 => exact Subsingleton.elim (α := Fin 1) _ _
  | 1 => exact Fin.ext h1.symm
  | 2 => exact Fin.ext h2.symm

/-- The first point of a run starts from zero. -/
theorem first (t : Fin cfg0.N) (h : t.val % 16 = 0) (q : Fin 2) (i : Fin 1024) (j : Fin 1408) : outsAt0 m c t.val t.isLt (ix3 q i j) = 0 + term m c t q i j := by
  rw [outsAt0_A m c t h]
  frame_open
  simp (disch := decide) only [↓ View.readCov_skip, ↓ View.readCov_cons_toLoadRect, ↓ View.readCov_fill]
  frame_out
  refine (Cert.Mem.canon_covered [_, _] [_] _ ?_).trans ?_
  · exact View.cover_of_tiledBy _ ![1, 1024, 1408] (by sl_kernel_rfl) _
  canon_tiles x h
  · obtain rfl : q = ⟨1, by decide⟩ := Fin.ext (h0.trans (by show 1 + (x 0).val = 1; omega))
    obtain rfl := place x i j h1 h2
    rw [second_apply, ld_two _ 1 _ (by decide)]
    exact congrArg (· + _) (reset_apply _)
  · obtain rfl : q = ⟨0, by decide⟩ := Fin.ext (h0.trans (by show (x 0).val = 0; omega))
    obtain rfl := place x i j h1 h2
    rw [first_apply, ld_two _ 0 _ (by decide)]
    exact congrArg (· + _) (reset_apply _)

/-- A later point adds to what the point before left. -/
theorem later (t : Fin cfg0.N) (h : ¬t.val % 16 = 0) (q : Fin 2) (i : Fin 1024) (j : Fin 1408) : outsAt0 m c t.val t.isLt (ix3 q i j)
    = outsAt0 m c (t.val - 1) (by omega) (ix3 q i j) + term m c t q i j := by
  rw [outsAt0_B m c t h]
  frame_open
  simp (disch := decide) only [↓ View.readCov_skip, ↓ View.readCov_cons_toLoadRect, ↓ View.readCov_fill]
  frame_out
  canon_tiles x h
  · obtain rfl : q = ⟨1, by decide⟩ := Fin.ext (h0.trans (by show 1 + (x 0).val = 1; omega))
    obtain rfl := place x i j h1 h2
    rw [second_apply, ld_two _ 1 _ (by decide)]
    rfl
  · obtain rfl : q = ⟨0, by decide⟩ := Fin.ext (h0.trans (by show (x 0).val = 0; omega))
    obtain rfl := place x i j h1 h2
    rw [first_apply, ld_two _ 0 _ (by decide)]
    rfl

/-- The block that the last point writes back. -/
theorem block (t : Fin cfg0.N) (hf : (cfg0.win 2).flush t = true) (q : Fin 2) (i : Fin 1024) (j : Fin 1408) : outsAt0 m c t.val t.isLt (ix3 q i j)
    = gw (m ((c : Thread nD τ).loc main_arg0)) (m ((c : Thread nD τ).loc main_arg1)) i ⟨q.val * 1408 + j.val, by omega⟩ := by
  have hr := (flush0_2 t).mp hf
  have ht : t.val < 16 := t.isLt
  have E := Pipeline.eq_sum_fin_of_reset_step_apply_of_flush (fun n h (i : Fin 2 × Fin 1024 × Fin 1408) => outsAt0 m c n h (ix3 i.1 i.2.1 i.2.2)) 16 (fun _ => 0)
    (fun p i => term m c p i.1 i.2.1 i.2.2) (fun p h i => first m c p h i.1 i.2.1 i.2.2) (fun p h i => later m c p h i.1 i.2.1 i.2.2) t hr (q, i, j)
  refine E.trans ?_
  rw [zero_add]
  unfold gw term rows
  refine Eq.trans ?_ (Fin.sum_mul_add_fin 16 512 _)
  refine Finset.sum_congr rfl fun s _ => Finset.sum_congr rfl fun k _ => ?_
  have hs : (16 * (t.val / 16) + s.val) % 16 = s.val := by omega
  refine congrArg₂ (· * ·) ?_ ?_
  · blk_ext [iblk, V, idx ⟨16 * (t.val / 16) + s.val, Pipeline.run_point_lt_of_flush t hr s⟩, hs]
  · blk_ext [iblk, V, idx ⟨16 * (t.val / 16) + s.val, Pipeline.run_point_lt_of_flush t hr s⟩, hs]

/-- The output array: the shards from the second on are written, the others are what they were. -/
theorem arr2 : (dats m 0 c).arrAt 2 cfg0.N = arr m c := by
  have H : (dats m 0 c).arrAt 2 cfg0.N = fun i : S4x1024x1408.Idx => if 1 ≤ (i 0).val / 2 then arr m c i else V m c main_v0 i := by
    refine (dats m 0 c).arrAt_eq_of_coversWhere 2 _ (fun β => 1 ≤ β (0 : Fin _)) (by decide +kernel) (fun t hf y => ?_) (fun j => Iff.rfl)
    obtain ⟨q, i, j, rfl⟩ : ∃ (q : Fin 2) (i : Fin 1024) (j : Fin 1408), y = ix3 q i j := ⟨y 0, y 1, y 2, by
      funext a; match a with | 0 => rfl | 1 => rfl | 2 => rfl⟩
    blk_simp
    rw [after0_2]
    have e : (win0_2.blk t).view.emb (ix3 q i j) = ix3 ⟨2 + q.val, by omega⟩ i j := by
      blk_ext [idx t]
    refine Eq.trans ?_ (congrArg (arr m c) e).symm
    refine (block m c t hf q i j).trans ?_
    show _ = whole _ _ _ ⟨2 + q.val, _⟩ i j
    rw [whole, if_pos (by show 2 ≤ 2 + q.val; omega)]
    exact congrArg (gw _ _ i) (Fin.ext (by show q.val * 1408 + j.val = (2 + q.val - 2) * 1408 + j.val; omega))
  rw [H]
  funext y
  obtain ⟨s, i, j, rfl⟩ : ∃ (s : Fin 4) (i : Fin 1024) (j : Fin 1408), y = ix3 s i j := ⟨y 0, y 1, y 2, by
    funext a; match a with | 0 => rfl | 1 => rfl | 2 => rfl⟩
  show (if 1 ≤ s.val / 2 then arr m c (ix3 s i j) else V m c main_v0 (ix3 s i j)) = arr m c (ix3 s i j)
  split_ifs with hs
  · rfl
  · show _ = whole _ _ _ s i j
    rw [whole, if_neg (by omega)]
    rfl

end Kernel

section Reference

open Cert.Reference9Ideal Cert.Reference9Ideal.Gen Cert.Reference9Ideal.Read

variable (f : Vec Ideal S8192x1024 .bf16) (g : Vec Ideal S8192x2816 .bf16) (o : Vec Ideal S4x1024x1408 .f32)

/-- The reference at one entry. -/
theorem ref (s : Fin 4) (i : Fin 1024) (j : Fin 1408) : val_main_v12 (F := Ideal) f g o (ix3 s i j) = whole f g o s i j := by
  unfold whole gw
  match s with
  | 0 =>
    rw [if_neg (by decide)]
    pointwise [val_main_v12, val_main_v11, val_main_v10, val_main_v9, val_main_v8, val_main_v7, val_main_v6, val_main_v5, val_main_v4, val_main_v3, val_main_v2, val_main_v1, val_main_v0]
  | 1 =>
    rw [if_neg (by decide)]
    pointwise [val_main_v12, val_main_v11, val_main_v10, val_main_v9, val_main_v8, val_main_v7, val_main_v6, val_main_v5, val_main_v4, val_main_v3, val_main_v2, val_main_v1, val_main_v0]
  | 2 =>
    rw [if_pos (by decide)]
    pointwise [val_main_v12, val_main_v11, val_main_v10, val_main_v9, val_main_v8, val_main_v7, val_main_v6, val_main_v5, val_main_v4, val_main_v3, val_main_v2, val_main_v1, val_main_v0]
    exact Finset.sum_congr rfl fun l _ => mul_comm _ _
  | 3 =>
    rw [if_pos (by decide)]
    pointwise [val_main_v12, val_main_v11, val_main_v10, val_main_v9, val_main_v8, val_main_v7, val_main_v6, val_main_v5, val_main_v4, val_main_v3, val_main_v2, val_main_v1, val_main_v0]
    exact Finset.sum_congr rfl fun l _ => mul_comm _ _

end Reference

/-- The reference leaves its arguments as they were and declares no semaphore. -/
theorem reference_frame : Cert.quiescent_Reference9Ideal := fun m ρ _ =>
  (θ_run Cert.Reference9Ideal.defs _ _).mono (fun r h => ⟨fun c => (h c).2,
    sem_eq_zero_of_no_sems (by decide) r.2⟩) (Cert.Reference9Ideal.Value.run (F := Ideal) m ρ)

/-- The kernel and the reference end with the same array. -/
theorem algebraic : Cert.algebraic_Kernel9Ideal_Reference9Ideal := by
  intro m ρ m' ρ' hpre hargs
  refine ⟨fun c => arr m c, (θ_run Cert.Kernel9Ideal.defs _ _).mono (fun r h c => ?_) (Cert.Kernel9Ideal.Value.run_blocks (F := Ideal) m ρ),
    (θ_run Cert.Reference9Ideal.defs _ _).mono (fun r h c => ?_) (Cert.Reference9Ideal.Value.run (F := Ideal) m' ρ')⟩
  · exact ⟨(h c).1.trans (arr2 m c), (h c).2⟩
  · refine ⟨(h c).1.trans ((Cert.Reference9Ideal.Read.val_main_v12_eq _ _ _).trans ?_), (h c).2⟩
    rw [(hargs c).1, (hargs c).2.1, (hargs c).2.2]
    funext y
    obtain ⟨s, i, j, rfl⟩ : ∃ (s : Fin 4) (i : Fin 1024) (j : Fin 1408), y = ix3 s i j := ⟨y 0, y 1, y 2, by
      funext a; match a with | 0 => rfl | 1 => rfl | 2 => rfl⟩
    exact ref _ _ _ s i j

end Cert.FfnUpWeights

end
-- ==== Proof.Merged.lean ====
/- The gradient at the merged branches: the gradient of the mixed output against the output projection's weights. Over the
   extended reals the kernel and the reference end with the same array, whatever the arguments. -/
module

public import proofs.«01_k».proof.Defs
public import proofs.«01_k».proof.Proof.Gen.Kernel10Ideal.Value
public import proofs.«01_k».proof.Proof.Gen.Reference10Ideal.Read
public import proofs.«01_k».proof.Proof.Gen.Reference10Ideal.Run
public import Idealize.ShloMosaic.Lib.Pipeline.ValueKit
public import Idealize.ShloMosaic.Lib.Pipeline.ReadBack
public import Idealize.ShloMosaic.Lib.Pointwise

@[expose] public section

noncomputable section

namespace Cert.Merged

open Idealize.ShloMosaic Idealize.ShloMosaic.TcCoe
open Idealize.ShloMosaic.Pipeline (Dat)

/-- The gradient of one token's channel: the sum over the output's channels. -/
def back (a : Cert.Kernel10Ideal.S8192x1024.Idx → EReal) (w : Cert.Kernel10Ideal.S1024x1024.Idx → EReal) (t : Fin 8192) (d : Fin 1024) : EReal :=
  ∑ k : Fin 1024, a (ix2 t k) * w (ix2 d k)

section Kernel

open Cert.Kernel10Ideal Cert.Kernel10Ideal.Gen

/-- Where each window's block lies at a point of the grid. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array that the kernel writes. -/
def arr : S8192x1024.Idx → EReal := fun i =>
  back (m ((c : Thread nD τ).loc main_arg0)) (m ((c : Thread nD τ).loc main_arg1)) (i 0) (i 1)

/-- The output array. -/
theorem arr2 : (dats m 0 c).arrAt 2 cfg0.N = arr m c := by
  refine (dats m 0 c).arrAt_eq_of_covers 2 _ (by decide +kernel) fun t hf y => ?_
  have ht : t.val < 8 := t.isLt
  obtain ⟨r, d, rfl⟩ : ∃ (r : Fin 1024) (d : Fin 1024), y = ix2 r d := ⟨y 0, y 1, by
    funext a; match a with | 0 => rfl | 1 => rfl⟩
  blk_simp
  rw [after0_2]
  have e : (win0_2.blk t).view.emb (ix2 r d) = ix2 ⟨t.val * 1024 + r.val, by omega⟩ d := by
    blk_ext [idx t]
  refine Eq.trans ?_ (congrArg (arr m c) e).symm
  frame_out
  pointwise [k0_pay1]
  unfold arr back
  blk_point [iblk, V, idx t]

end Kernel

section Reference

open Cert.Reference10Ideal Cert.Reference10Ideal.Gen Cert.Reference10Ideal.Read

/-- The reference at one entry. -/
theorem ref (a : Vec Ideal S8192x1024 .bf16) (w : Vec Ideal S1024x1024 .bf16) (t : Fin 8192) (d : Fin 1024) : val_main_v5 (F := Ideal) a w (ix2 t d) = back a w t d := by
  pointwise [val_main_v5, val_main_v4, val_main_v3, val_main_v2, val_main_v1, val_main_v0]
  rfl

end Reference

/-- The reference leaves its arguments as they were and declares no semaphore. -/
theorem reference_frame : Cert.quiescent_Reference10Ideal := fun m ρ _ =>
  (θ_run Cert.Reference10Ideal.defs _ _).mono (fun r h => ⟨fun c => (h c).2,
    sem_eq_zero_of_no_sems (by decide) r.2⟩) (Cert.Reference10Ideal.Value.run (F := Ideal) m ρ)

/-- The kernel and the reference end with the same gradient. -/
theorem algebraic : Cert.algebraic_Kernel10Ideal_Reference10Ideal := by
  intro m ρ m' ρ' hpre hargs
  refine ⟨fun c => arr m c, (θ_run Cert.Kernel10Ideal.defs _ _).mono (fun r h c => ?_) (Cert.Kernel10Ideal.Value.run_blocks (F := Ideal) m ρ),
    (θ_run Cert.Reference10Ideal.defs _ _).mono (fun r h c => ?_) (Cert.Reference10Ideal.Value.run (F := Ideal) m' ρ')⟩
  · exact ⟨(h c).1.trans (arr2 m c), (h c).2⟩
  · refine ⟨(h c).1.trans ((Cert.Reference10Ideal.Read.val_main_v5_eq _ _).trans ?_), (h c).2⟩
    rw [(hargs c).1, (hargs c).2]
    funext y
    obtain ⟨t, d, rfl⟩ : ∃ (t : Fin 8192) (d : Fin 1024), y = ix2 t d := ⟨y 0, y 1, by
      funext a; match a with | 0 => rfl | 1 => rfl⟩
    exact ref _ _ t d

end Cert.Merged

end
-- ==== Proof.OutWeights.lean ====
/- The gradient of the output projection's weights: the merged branches' transpose against the gradient of the mixed output,
   summed over all tokens. The kernel runs through the tokens in eight blocks and keeps a running sum; over the extended reals it
   ends with the reference's array, whatever the arguments. -/
module

public import proofs.«01_k».proof.Defs
public import proofs.«01_k».proof.Proof.Gen.Kernel11Ideal.Value
public import proofs.«01_k».proof.Proof.Gen.Reference11Ideal.Read
public import proofs.«01_k».proof.Proof.Gen.Reference11Ideal.Run
public import Idealize.ShloMosaic.Lib.Pipeline.ValueKit
public import Idealize.ShloMosaic.Lib.Pipeline.ReadBack
public import Idealize.ShloMosaic.Lib.Pointwise

@[expose] public section

noncomputable section

namespace Cert.OutWeights

open Idealize.ShloMosaic Idealize.ShloMosaic.TcCoe
open Idealize.ShloMosaic.Pipeline (Dat)

/-- The gradient of one weight: the sum over the tokens. -/
def gw (f : Cert.Kernel11Ideal.S8192x1024.Idx → EReal) (g : Cert.Kernel11Ideal.S8192x1024.Idx → EReal) (i : Fin 1024) (j : Fin 1024) : EReal :=
  ∑ l : Fin 8192, f (ix2 l i) * g (ix2 l j)

section Kernel

open Cert.Kernel11Ideal Cert.Kernel11Ideal.Gen

/-- Where each window's block lies at a point of the grid. -/
theorem idx : ∀ t : Fin cfg0.N, win0_0.index t = ![t.val % 8, 0] ∧ win0_1.index t = ![t.val % 8, 0] ∧ win0_2.index t = ![0, 0] :=
  (by decide +kernel : ∀ t : Fin grid0.N, _)

variable (m : (ℓ : Loc nD τ sig) → Buf (Elt Ideal) ℓ) (c : Dev nD)

/-- The array that the kernel writes. -/
def arr : S1024x1024.Idx → EReal := fun i =>
  gw (m ((c : Thread nD τ).loc main_arg0)) (m ((c : Thread nD τ).loc main_arg1)) (i 0) (i 1)

/-- A product of two blocks over their rows, at one place. -/
def rows (a : Vec Ideal S1024x1024 .bf16) (b : Vec Ideal S1024x1024 .bf16) (i : Fin 1024) (j : Fin 1024) : EReal :=
  ∑ k : Fin 1024, a (ix2 k i) * b (ix2 k j)

/-- What a point adds at one place of its block. -/
def term (t : Fin cfg0.N) (i : Fin 1024) (j : Fin 1024) : EReal := rows (iblk m c 0 t) (iblk m c 1 t) i j

/-- The step's arithmetic at one place. -/
theorem step_apply (acc : Vec Ideal S1024x1024 .f32) (a : Vec Ideal S1024x1024 .bf16) (b : Vec Ideal S1024x1024 .bf16) (i : Fin 1024) (j : Fin 1024) :
    k0_pay2 (F := Ideal) acc a b (ix2 i j) = acc (ix2 i j) + rows a b i j := by
  pointwise [k0_pay2]
  rfl

/-- The reset's value is zero. -/
theorem reset_apply (i : Fin 1024) (j : Fin 1024) : k0_pay1 (F := Ideal) (ix2 i j) = 0 := by
  pointwise [k0_pay1]

/-- The first point of a run starts from zero. -/
theorem first (t : Fin cfg0.N) (h : t.val % 8 = 0) (i : Fin 1024) (j : Fin 1024) : outsAt0 m c t.val t.isLt (ix2 i j) = 0 + term m c t i j := by
  rw [outsAt0_A m c t h, Cert.Kernel11Ideal.Value.out_A_2_eq, step_apply, reset_apply]
  rfl

/-- A later point adds to what the point before left. -/
theorem later (t : Fin cfg0.N) (h : ¬t.val % 8 = 0) (i : Fin 1024) (j : Fin 1024) : outsAt0 m c t.val t.isLt (ix2 i j)
    = outsAt0 m c (t.val - 1) (by omega) (ix2 i j) + term m c t i j := by
  rw [outsAt0_B m c t h, Cert.Kernel11Ideal.Value.out_B_2_eq, step_apply]
  rfl

/-- The output array. -/
theorem arr2 : (dats m 0 c).arrAt 2 cfg0.N = arr m c := by
  refine (dats m 0 c).arrAt_eq_of_covers 2 _ (by decide +kernel) fun t hf y => ?_
  have hr := (flush0_2 t).mp hf
  have ht : t.val < 8 := t.isLt
  obtain ⟨i, j, rfl⟩ : ∃ (i : Fin 1024) (j : Fin 1024), y = ix2 i j := ⟨y 0, y 1, by
    funext a; match a with | 0 => rfl | 1 => rfl⟩
  blk_simp
  rw [after0_2]
  have E := Pipeline.eq_sum_fin_of_reset_step_apply_of_flush (fun n h (i : Fin 1024 × Fin 1024) => outsAt0 m c n h (ix2 i.1 i.2)) 8 (fun _ => 0)
    (fun p i => term m c p i.1 i.2) (fun p h i => first m c p h i.1 i.2) (fun p h i => later m c p h i.1 i.2) t hr (i, j)
  refine E.trans ?_
  have e : (win0_2.blk t).view.emb (ix2 i j) = ix2 i j := by
    blk_ext [idx t]
  refine Eq.trans ?_ (congrArg (arr m c) e).symm
  rw [zero_add]
  unfold arr gw term rows
  refine Eq.trans ?_ (Fin.sum_mul_add_fin 8 1024 _)
  refine Finset.sum_congr rfl fun s _ => Finset.sum_congr rfl fun k _ => ?_
  have hs : (8 * (t.val / 8) + s.val) % 8 = s.val := by omega
  refine congrArg₂ (· * ·) ?_ ?_
  · blk_ext [iblk, V, idx ⟨8 * (t.val / 8) + s.val, Pipeline.run_point_lt_of_flush t hr s⟩, hs]
  · blk_ext [iblk, V, idx ⟨8 * (t.val / 8) + s.val, Pipeline.run_point_lt_of_flush t hr s⟩, hs]

end Kernel

section Reference

open Cert.Reference11Ideal Cert.Reference11Ideal.Gen Cert.Reference11Ideal.Read

variable (f : Vec Ideal S8192x1024 .bf16) (g : Vec Ideal S8192x1024 .bf16)

/-- The reference at one entry. -/
theorem ref (i : Fin 1024) (j : Fin 1024) : val_main_v5 (F := Ideal) f g (ix2 i j) = gw f g i j := by
  pointwise [val_main_v5, val_main_v4, val_main_v3, val_main_v0]
  unfold gw
  exact Finset.sum_congr rfl fun l _ => mul_comm _ _

end Reference

/-- The reference leaves its arguments as they were and declares no semaphore. -/
theorem reference_frame : Cert.quiescent_Reference11Ideal := fun m ρ _ =>
  (θ_run Cert.Reference11Ideal.defs _ _).mono (fun r h => ⟨fun c => (h c).2,
    sem_eq_zero_of_no_sems (by decide) r.2⟩) (Cert.Reference11Ideal.Value.run (F := Ideal) m ρ)

/-- The kernel and the reference end with the same gradient. -/
theorem algebraic : Cert.algebraic_Kernel11Ideal_Reference11Ideal := by
  intro m ρ m' ρ' hpre hargs
  refine ⟨fun c => arr m c, (θ_run Cert.Kernel11Ideal.defs _ _).mono (fun r h c => ?_) (Cert.Kernel11Ideal.Value.run_blocks (F := Ideal) m ρ),
    (θ_run Cert.Reference11Ideal.defs _ _).mono (fun r h c => ?_) (Cert.Reference11Ideal.Value.run (F := Ideal) m' ρ')⟩
  · exact ⟨(h c).1.trans (arr2 m c), (h c).2⟩
  · refine ⟨(h c).1.trans ((Cert.Reference11Ideal.Read.val_main_v5_eq _ _).trans ?_), (h c).2⟩
    rw [(hargs c).1, (hargs c).2]
    funext y
    obtain ⟨i, j, rfl⟩ : ∃ (i : Fin 1024) (j : Fin 1024), y = ix2 i j := ⟨y 0, y 1, by
      funext a; match a with | 0 => rfl | 1 => rfl⟩
    exact ref _ _ i j

end Cert.OutWeights

end
-- ==== Proof.FfnForward.lean ====
/- The feed-forward's first product and its gated activation `g · σ(g) · u` of the forward pass. The weights come in four
   shards, two for the gated half and two for the other. Over the extended reals the kernel and the reference end with the
   same arrays, whatever the arguments. -/
module

public import proofs.«01_k».proof.Defs
public import proofs.«01_k».proof.Proof.Gen.Kernel12Ideal.Value
public import proofs.«01_k».proof.Proof.Gen.Reference12Ideal.Read
public import proofs.«01_k».proof.Proof.Gen.Reference12Ideal.Run
public import Idealize.ShloMosaic.Lib.Pipeline.ValueKit
public import Idealize.ShloMosaic.Lib.Pipeline.ReadBack
public import Idealize.ShloMosaic.Lib.Pointwise
public import proofs.«01_k».proof.Proof.Sigmoid

@[expose] public section

noncomputable section

namespace Cert.FfnForward

open Idealize.ShloMosaic Idealize.ShloMosaic.TcCoe
open Idealize.ShloMosaic.Pipeline (Dat)
open Cert.Sigmoid

/-- One entry of the product with a shard of the weights: the sum over the input's channels. -/
def col (h : Cert.Kernel12Ideal.S8192x1024.Idx → EReal) (w : Cert.Kernel12Ideal.S4x1024x1408.Idx → EReal) (s : Fin 4) (t : Fin 8192) (j : Fin 1408) : EReal :=
  ∑ k : Fin 1024, h (ix2 t k) * w (ix3 s k j)

/-- One entry of a half of the product: its two shards, from shard `o` on, side by side. -/
def half (h : Cert.Kernel12Ideal.S8192x1024.Idx → EReal) (w : Cert.Kernel12Ideal.S4x1024x1408.Idx → EReal) (o : ℕ) (ho : o ≤ 2) (t : Fin 8192) (f : Fin 2816) : EReal :=
  col h w ⟨o + f.val / 1408, by omega⟩ t ⟨f.val % 1408, by omega⟩

/-- A half's entry, by its shard and the column in it. -/
theorem half_at (h : Cert.Kernel12Ideal.S8192x1024.Idx → EReal) (w : Cert.Kernel12Ideal.S4x1024x1408.Idx → EReal) (o : ℕ) (ho : o ≤ 2) (t : Fin 8192) (s : Fin 2) (j : Fin 1408) :
    half h w o ho t ⟨s.val * 1408 + j.val, by omega⟩ = col h w ⟨o + s.val, by omega⟩ t j :=
  congrArg₂ (fun a b => col h w a t b) (Fin.ext (by show o + (s.val * 1408 + j.val) / 1408 = o + s.val; omega))
    (Fin.ext (by show (s.val * 1408 + j.val) % 1408 = j.val; omega))

/-- The activation as the kernel writes it. -/
def act (h : Cert.Kernel12Ideal.S8192x1024.Idx → EReal) (w : Cert.Kernel12Ideal.S4x1024x1408.Idx → EReal) (t : Fin 8192) (f : Fin 2816) : EReal :=
  half h w 0 (by omega) t f * viaTanh (half h w 0 (by omega) t f) * half h w 2 (by omega) t f

section Kernel

open Cert.Kernel12Ideal Cert.Kernel12Ideal.Gen

/-- Where each window's block lies at a point of the grid. -/
theorem idx : ∀ t : Fin cfg0.N, win0_0.index t = ![t.val % 16, 0] ∧ win0_1.index t = ![t.val / 16, 0, 0] ∧ win0_2.index t = ![t.val / 16 + 2, 0, 0]
    ∧ win0_3.index t = ![t.val % 16, t.val / 16] ∧ win0_4.index t = ![t.val % 16, t.val / 16] ∧ win0_5.index t = ![t.val % 16, t.val / 16] :=
  (by decide +kernel : ∀ t : Fin grid0.N, _)

variable (m : (ℓ : Loc nD τ sig) → Buf (Elt Ideal) ℓ) (c : Dev nD)

/-- The gated half that the kernel writes. -/
def arrG : S8192x2816.Idx → EReal := fun i =>
  half (m ((c : Thread nD τ).loc main_arg0)) (m ((c : Thread nD τ).loc main_arg1)) 0 (by omega) (i 0) (i 1)

/-- The other half that the kernel writes. -/
def arrU : S8192x2816.Idx → EReal := fun i =>
  half (m ((c : Thread nD τ).loc main_arg0)) (m ((c : Thread nD τ).loc main_arg1)) 2 (by omega) (i 0) (i 1)

/-- The activation that the kernel writes. -/
def arrF : S8192x2816.Idx → EReal := fun i =>
  act (m ((c : Thread nD τ).loc main_arg0)) (m ((c : Thread nD τ).loc main_arg1)) (i 0) (i 1)

/-- The gated half's block at one place. -/
theorem gate_block (t : Fin cfg0.N) (ht : t.val < 32) (r : Fin 512) (j : Fin 1408) : k0_pay1 (F := Ideal) (iblk m c 0 t) (iblk m c 1 t) (ix2 r j)
    = arrG m c (ix2 ⟨t.val % 16 * 512 + r.val, by omega⟩ ⟨t.val / 16 * 1408 + j.val, by omega⟩) := by
  refine Eq.trans ?_ (half_at _ _ 0 (by omega) ⟨t.val % 16 * 512 + r.val, by omega⟩ ⟨t.val / 16, by omega⟩ j).symm
  pointwise [k0_pay1]
  unfold col
  blk_point [iblk, V, idx t]

/-- The other half's block at one place. -/
theorem up_block (t : Fin cfg0.N) (ht : t.val < 32) (r : Fin 512) (j : Fin 1408) : k0_pay2 (F := Ideal) (iblk m c 0 t) (iblk m c 2 t) (ix2 r j)
    = arrU m c (ix2 ⟨t.val % 16 * 512 + r.val, by omega⟩ ⟨t.val / 16 * 1408 + j.val, by omega⟩) := by
  refine Eq.trans ?_ (half_at _ _ 2 (by omega) ⟨t.val % 16 * 512 + r.val, by omega⟩ ⟨t.val / 16, by omega⟩ j).symm
  pointwise [k0_pay2]
  unfold col
  blk_point [iblk, V, idx t]

/-- The gated half's array. -/
theorem arr3 : (dats m 0 c).arrAt 3 cfg0.N = arrG m c := by
  refine (dats m 0 c).arrAt_eq_of_covers 3 _ (by decide +kernel) fun t hf y => ?_
  have ht : t.val < 32 := t.isLt
  obtain ⟨r, j, rfl⟩ : ∃ (r : Fin 512) (j : Fin 1408), y = ix2 r j := ⟨y 0, y 1, by
    funext a; match a with | 0 => rfl | 1 => rfl⟩
  blk_simp
  rw [after0_3]
  have e : (win0_3.blk t).view.emb (ix2 r j) = ix2 ⟨t.val % 16 * 512 + r.val, by omega⟩ ⟨t.val / 16 * 1408 + j.val, by omega⟩ := by
    blk_ext [idx t]
  refine Eq.trans ?_ (congrArg (arrG m c) e).symm
  frame_out
  pointwise [k0_pay3]
  exact gate_block m c t ht r j

/-- The other half's array. -/
theorem arr4 : (dats m 0 c).arrAt 4 cfg0.N = arrU m c := by
  refine (dats m 0 c).arrAt_eq_of_covers 4 _ (by decide +kernel) fun t hf y => ?_
  have ht : t.val < 32 := t.isLt
  obtain ⟨r, j, rfl⟩ : ∃ (r : Fin 512) (j : Fin 1408), y = ix2 r j := ⟨y 0, y 1, by
    funext a; match a with | 0 => rfl | 1 => rfl⟩
  blk_simp
  rw [after0_4]
  have e : (win0_4.blk t).view.emb (ix2 r j) = ix2 ⟨t.val % 16 * 512 + r.val, by omega⟩ ⟨t.val / 16 * 1408 + j.val, by omega⟩ := by
    blk_ext [idx t]
  refine Eq.trans ?_ (congrArg (arrU m c) e).symm
  frame_out
  pointwise [k0_pay4]
  exact up_block m c t ht r j

/-- The activation's array. -/
theorem arr5 : (dats m 0 c).arrAt 5 cfg0.N = arrF m c := by
  refine (dats m 0 c).arrAt_eq_of_covers 5 _ (by decide +kernel) fun t hf y => ?_
  have ht : t.val < 32 := t.isLt
  obtain ⟨r, j, rfl⟩ : ∃ (r : Fin 512) (j : Fin 1408), y = ix2 r j := ⟨y 0, y 1, by
    funext a; match a with | 0 => rfl | 1 => rfl⟩
  blk_simp
  rw [after0_5]
  have e : (win0_5.blk t).view.emb (ix2 r j) = ix2 ⟨t.val % 16 * 512 + r.val, by omega⟩ ⟨t.val / 16 * 1408 + j.val, by omega⟩ := by
    blk_ext [idx t]
  refine Eq.trans ?_ (congrArg (arrF m c) e).symm
  frame_out
  pointwise [k0_pay5]
  simp only [half_f32]
  rw [gate_block m c t ht, up_block m c t ht]
  rfl

end Kernel

section Reference

open Cert.Reference12Ideal Cert.Reference12Ideal.Gen Cert.Reference12Ideal.Read

variable (h : Vec Ideal S8192x1024 .bf16) (w : Vec Ideal S4x1024x1408 .bf16)

/-- A column, by its shard and its place in it. -/
theorem split (f : Fin 2816) : ∃ (s : Fin 2) (j : Fin 1408), f = ⟨s.val * 1408 + j.val, by omega⟩ :=
  ⟨⟨f.val / 1408, by omega⟩, ⟨f.val % 1408, by omega⟩, Fin.ext (by show f.val = f.val / 1408 * 1408 + f.val % 1408; omega)⟩

/-- The reference's gated half at one entry. -/
theorem ref_gate (t : Fin 8192) (f : Fin 2816) : val_main_v14 (F := Ideal) h w (ix2 t f) = half h w 0 (by omega) t f := by
  obtain ⟨s, j, rfl⟩ := split f
  rw [half_at]
  unfold col
  match s with
  | 0 =>
    pointwise [val_main_v18, val_main_v17, val_main_v16, val_main_call0_v5, val_main_call0_v4, val_main_call0_cst_0, val_main_call0_v3, val_main_call0_v2,
      val_main_call0_cst, val_main_call0_v1, val_main_call0_v0, val_main_v15, val_main_v14, val_main_v13, val_main_v12, val_main_v11, val_main_v10,
      val_main_v9, val_main_v8, val_main_v7, val_main_v6, val_main_v5, val_main_v4, val_main_v3, val_main_v2, val_main_v1, val_main_v0]
  | 1 =>
    pointwise [val_main_v18, val_main_v17, val_main_v16, val_main_call0_v5, val_main_call0_v4, val_main_call0_cst_0, val_main_call0_v3, val_main_call0_v2,
      val_main_call0_cst, val_main_call0_v1, val_main_call0_v0, val_main_v15, val_main_v14, val_main_v13, val_main_v12, val_main_v11, val_main_v10,
      val_main_v9, val_main_v8, val_main_v7, val_main_v6, val_main_v5, val_main_v4, val_main_v3, val_main_v2, val_main_v1, val_main_v0]

/-- The reference's other half at one entry. -/
theorem ref_up (t : Fin 8192) (f : Fin 2816) : val_main_v15 (F := Ideal) h w (ix2 t f) = half h w 2 (by omega) t f := by
  obtain ⟨s, j, rfl⟩ := split f
  rw [half_at]
  unfold col
  match s with
  | 0 =>
    pointwise [val_main_v18, val_main_v17, val_main_v16, val_main_call0_v5, val_main_call0_v4, val_main_call0_cst_0, val_main_call0_v3, val_main_call0_v2,
      val_main_call0_cst, val_main_call0_v1, val_main_call0_v0, val_main_v15, val_main_v14, val_main_v13, val_main_v12, val_main_v11, val_main_v10,
      val_main_v9, val_main_v8, val_main_v7, val_main_v6, val_main_v5, val_main_v4, val_main_v3, val_main_v2, val_main_v1, val_main_v0]
    refine Finset.sum_congr rfl fun l _ => congrArg (h (ix2 t l) * ·) ?_
    rw [dif_neg (by omega), dif_neg (by omega), dif_pos (by omega)]
    exact congrArg (fun a => w (ix3 2 l a)) (Fin.ext (by show 2816 + j.val - 1408 - 1408 = j.val; omega))
  | 1 =>
    pointwise [val_main_v18, val_main_v17, val_main_v16, val_main_call0_v5, val_main_call0_v4, val_main_call0_cst_0, val_main_call0_v3, val_main_call0_v2,
      val_main_call0_cst, val_main_call0_v1, val_main_call0_v0, val_main_v15, val_main_v14, val_main_v13, val_main_v12, val_main_v11, val_main_v10,
      val_main_v9, val_main_v8, val_main_v7, val_main_v6, val_main_v5, val_main_v4, val_main_v3, val_main_v2, val_main_v1, val_main_v0]
    refine Finset.sum_congr rfl fun l _ => congrArg (h (ix2 t l) * ·) ?_
    rw [dif_neg (by omega), dif_neg (by omega), dif_neg (by omega)]
    exact congrArg (fun a => w (ix3 3 l a)) (Fin.ext (by show 2816 + (1408 + j.val) - 1408 - 1408 - 1408 = j.val; omega))

/-- The reference's activation at one entry: its logistic function goes by the exponential, the kernel's by the hyperbolic
tangent. -/
theorem ref_act (t : Fin 8192) (f : Fin 2816) : val_main_v18 (F := Ideal) h w (ix2 t f) = act h w t f := by
  have e : val_main_v18 (F := Ideal) h w (ix2 t f) = val_main_v14 (F := Ideal) h w (ix2 t f) * viaExp (val_main_v14 (F := Ideal) h w (ix2 t f))
      * val_main_v15 (F := Ideal) h w (ix2 t f) := by
    unfold viaExp
    pointwise [val_main_v18, val_main_v17, val_main_v16, val_main_call0_v5, val_main_call0_v4, val_main_call0_v3, val_main_call0_v2, val_main_call0_v1, val_main_call0_v0,
      val_main_call0_cst, val_main_call0_cst_0, val_main_v15, val_main_v14]
  rw [e, ref_gate, ref_up]
  unfold act
  rw [viaTanh_eq]

end Reference

/-- The reference leaves its arguments as they were and declares no semaphore. -/
theorem reference_frame : Cert.quiescent_Reference12Ideal := fun m ρ _ =>
  (θ_run Cert.Reference12Ideal.defs _ _).mono (fun r h => ⟨fun c => (h c).2.2.2,
    sem_eq_zero_of_no_sems (by decide) r.2⟩) (Cert.Reference12Ideal.Value.run (F := Ideal) m ρ)

/-- The kernel and the reference end with the same halves and the same activation. -/
theorem algebraic : Cert.algebraic_Kernel12Ideal_Reference12Ideal := by
  intro m ρ m' ρ' hpre hargs
  refine ⟨fun c => arrG m c, fun c => arrU m c, fun c => arrF m c, (θ_run Cert.Kernel12Ideal.defs _ _).mono (fun r h c => ?_) (Cert.Kernel12Ideal.Value.run_blocks (F := Ideal) m ρ),
    (θ_run Cert.Reference12Ideal.defs _ _).mono (fun r h c => ?_) (Cert.Reference12Ideal.Value.run (F := Ideal) m' ρ')⟩
  · exact ⟨(h c).1.trans (arr3 m c), (h c).2.1.trans (arr4 m c), (h c).2.2.1.trans (arr5 m c), (h c).2.2.2⟩
  · refine ⟨(h c).1.trans ((Cert.Reference12Ideal.Read.val_main_v14_eq _ _).trans ?_), (h c).2.1.trans ((Cert.Reference12Ideal.Read.val_main_v15_eq _ _).trans ?_),
      (h c).2.2.1.trans ((Cert.Reference12Ideal.Read.val_main_v18_eq m' c).trans ?_), (h c).2.2.2⟩
    all_goals
      rw [(hargs c).1, (hargs c).2]
      funext i
      obtain ⟨t, f, rfl⟩ : ∃ (t : Fin 8192) (f : Fin 2816), i = ix2 t f := ⟨i 0, i 1, by
        funext a; match a with | 0 => rfl | 1 => rfl⟩
    · exact ref_gate _ _ t f
    · exact ref_up _ _ t f
    · exact ref_act _ _ t f

end Cert.FfnForward

end
-- ==== Proof.Proj.lean ====
/- The combined projection of the forward pass: the normalised input against the weights of all mixers. Over the extended
   reals the kernel and the reference end with the same array, whatever the arguments. -/
module

public import proofs.«01_k».proof.Defs
public import proofs.«01_k».proof.Proof.Gen.Kernel13Ideal.Value
public import proofs.«01_k».proof.Proof.Gen.Reference13Ideal.Read
public import proofs.«01_k».proof.Proof.Gen.Reference13Ideal.Run
public import Idealize.ShloMosaic.Lib.Pipeline.ValueKit
public import Idealize.ShloMosaic.Lib.Pipeline.ReadBack
public import Idealize.ShloMosaic.Lib.Pointwise

@[expose] public section

noncomputable section

namespace Cert.Proj

open Idealize.ShloMosaic Idealize.ShloMosaic.TcCoe
open Idealize.ShloMosaic.Pipeline (Dat)

/-- One entry of the product: the sum over the input's channels. -/
def prod (a : Cert.Kernel13Ideal.S8192x1024.Idx → EReal) (w : Cert.Kernel13Ideal.S1024x4352.Idx → EReal) (t : Fin 8192) (d : Fin 4352) : EReal :=
  ∑ k : Fin 1024, a (ix2 t k) * w (ix2 k d)

section Kernel

open Cert.Kernel13Ideal Cert.Kernel13Ideal.Gen

/-- Where each window's block lies at a point of the grid. -/
theorem idx : ∀ t : Fin cfg0.N, win0_0.index t = ![t.val % 8, 0] ∧ win0_1.index t = ![0, t.val / 8] ∧ win0_2.index t = ![t.val % 8, t.val / 8] :=
  (by decide +kernel : ∀ t : Fin grid0.N, _)

variable (m : (ℓ : Loc nD τ sig) → Buf (Elt Ideal) ℓ) (c : Dev nD)

/-- The array that the kernel writes. -/
def arr : S8192x4352.Idx → EReal := fun i =>
  prod (m ((c : Thread nD τ).loc main_arg0)) (m ((c : Thread nD τ).loc main_arg1)) (i 0) (i 1)

/-- The output array. -/
theorem arr2 : (dats m 0 c).arrAt 2 cfg0.N = arr m c := by
  refine (dats m 0 c).arrAt_eq_of_covers 2 _ (by decide +kernel) fun t hf y => ?_
  have ht : t.val < 16 := t.isLt
  obtain ⟨r, d, rfl⟩ : ∃ (r : Fin 1024) (d : Fin 2176), y = ix2 r d := ⟨y 0, y 1, by
    funext a; match a with | 0 => rfl | 1 => rfl⟩
  blk_simp
  rw [after0_2]
  have e : (win0_2.blk t).view.emb (ix2 r d) = ix2 ⟨t.val % 8 * 1024 + r.val, by omega⟩ ⟨t.val / 8 * 2176 + d.val, by omega⟩ := by
    blk_ext [idx t]
  refine Eq.trans ?_ (congrArg (arr m c) e).symm
  frame_out
  pointwise [k0_pay1]
  unfold arr prod
  blk_point [iblk, V, idx t]

end Kernel

section Reference

open Cert.Reference13Ideal Cert.Reference13Ideal.Gen Cert.Reference13Ideal.Read

/-- The reference at one entry. -/
theorem ref (a : Vec Ideal S8192x1024 .bf16) (w : Vec Ideal S1024x4352 .bf16) (t : Fin 8192) (d : Fin 4352) : val_main_v3 (F := Ideal) a w (ix2 t d) = prod a w t d := by
  pointwise [val_main_v3, val_main_v2, val_main_v1, val_main_v0]
  rfl

end Reference

/-- The reference leaves its arguments as they were and declares no semaphore. -/
theorem reference_frame : Cert.quiescent_Reference13Ideal := fun m ρ _ =>
  (θ_run Cert.Reference13Ideal.defs _ _).mono (fun r h => ⟨fun c => (h c).2,
    sem_eq_zero_of_no_sems (by decide) r.2⟩) (Cert.Reference13Ideal.Value.run (F := Ideal) m ρ)

/-- The kernel and the reference end with the same product. -/
theorem algebraic : Cert.algebraic_Kernel13Ideal_Reference13Ideal := by
  intro m ρ m' ρ' hpre hargs
  refine ⟨fun c => arr m c, (θ_run Cert.Kernel13Ideal.defs _ _).mono (fun r h c => ?_) (Cert.Kernel13Ideal.Value.run_blocks (F := Ideal) m ρ),
    (θ_run Cert.Reference13Ideal.defs _ _).mono (fun r h c => ?_) (Cert.Reference13Ideal.Value.run (F := Ideal) m' ρ')⟩
  · exact ⟨(h c).1.trans (arr2 m c), (h c).2⟩
  · refine ⟨(h c).1.trans ((Cert.Reference13Ideal.Read.val_main_v3_eq _ _).trans ?_), (h c).2⟩
    rw [(hargs c).1, (hargs c).2]
    funext y
    obtain ⟨t, d, rfl⟩ : ∃ (t : Fin 8192) (d : Fin 4352), y = ix2 t d := ⟨y 0, y 1, by
      funext a; match a with | 0 => rfl | 1 => rfl⟩
    exact ref _ _ t d

end Cert.Proj

end
-- ==== Proof.Gates.lean ====
/- The gates of the forward pass: the logistic function of the input times the weights, in four shards, plus the bias. Over
   the extended reals the kernel and the reference end with the same array, whatever the arguments. -/
module

public import proofs.«01_k».proof.Defs
public import proofs.«01_k».proof.Proof.Gen.Kernel14Ideal.Value
public import proofs.«01_k».proof.Proof.Gen.Reference14Ideal.Read
public import proofs.«01_k».proof.Proof.Gen.Reference14Ideal.Run
public import Idealize.ShloMosaic.Lib.Pipeline.ValueKit
public import Idealize.ShloMosaic.Lib.Pipeline.ReadBack
public import Idealize.ShloMosaic.Lib.Pointwise
public import proofs.«01_k».proof.Proof.Sigmoid

@[expose] public section

noncomputable section

namespace Cert.Gates

open Idealize.ShloMosaic Idealize.ShloMosaic.TcCoe
open Idealize.ShloMosaic.Pipeline (Dat)
open Cert.Sigmoid

/-- The gate's argument at one entry of a shard: the sum over the input's channels, plus the bias. -/
def pre (h : Cert.Kernel14Ideal.S8192x1024.Idx → EReal) (w : Cert.Kernel14Ideal.S4x1024x768.Idx → EReal) (b : Cert.Kernel14Ideal.S1x3072.Idx → EReal) (s : Fin 4) (t : Fin 8192) (j : Fin 768) : EReal :=
  ∑ k : Fin 1024, h (ix2 t k) * w (ix3 s k j) + b (ix2 0 ⟨s.val * 768 + j.val, by omega⟩)

/-- The gate at one entry, as the kernel writes it. -/
def gate (h : Cert.Kernel14Ideal.S8192x1024.Idx → EReal) (w : Cert.Kernel14Ideal.S4x1024x768.Idx → EReal) (b : Cert.Kernel14Ideal.S1x3072.Idx → EReal) (t : Fin 8192) (f : Fin 3072) : EReal :=
  viaTanh (pre h w b ⟨f.val / 768, by omega⟩ t ⟨f.val % 768, by omega⟩)

/-- A gate, by its shard and the column in it. -/
theorem gate_at (h : Cert.Kernel14Ideal.S8192x1024.Idx → EReal) (w : Cert.Kernel14Ideal.S4x1024x768.Idx → EReal) (b : Cert.Kernel14Ideal.S1x3072.Idx → EReal) (t : Fin 8192) (s : Fin 4) (j : Fin 768) :
    gate h w b t ⟨s.val * 768 + j.val, by omega⟩ = viaTanh (pre h w b s t j) :=
  congrArg₂ (fun a l => viaTanh (pre h w b a t l)) (Fin.ext (by show (s.val * 768 + j.val) / 768 = s.val; omega))
    (Fin.ext (by show (s.val * 768 + j.val) % 768 = j.val; omega))

section Kernel

open Cert.Kernel14Ideal Cert.Kernel14Ideal.Gen

/-- Where each window's block lies at a point of the grid. -/
theorem idx : ∀ t : Fin cfg0.N, win0_0.index t = ![t.val % 8, 0] ∧ win0_1.index t = ![t.val / 8, 0, 0] ∧ win0_2.index t = ![0, t.val / 8]
    ∧ win0_3.index t = ![t.val % 8, t.val / 8] :=
  (by decide +kernel : ∀ t : Fin grid0.N, _)

variable (m : (ℓ : Loc nD τ sig) → Buf (Elt Ideal) ℓ) (c : Dev nD)

/-- The array that the kernel writes. -/
def arr : S8192x3072.Idx → EReal := fun i =>
  gate (m ((c : Thread nD τ).loc main_arg0)) (m ((c : Thread nD τ).loc main_arg1)) (m ((c : Thread nD τ).loc main_arg2)) (i 0) (i 1)

/-- The output array. -/
theorem arr3 : (dats m 0 c).arrAt 3 cfg0.N = arr m c := by
  refine (dats m 0 c).arrAt_eq_of_covers 3 _ (by decide +kernel) fun t hf y => ?_
  have ht : t.val < 32 := t.isLt
  obtain ⟨r, j, rfl⟩ : ∃ (r : Fin 1024) (j : Fin 768), y = ix2 r j := ⟨y 0, y 1, by
    funext a; match a with | 0 => rfl | 1 => rfl⟩
  blk_simp
  rw [after0_3]
  have e : (win0_3.blk t).view.emb (ix2 r j) = ix2 ⟨t.val % 8 * 1024 + r.val, by omega⟩ ⟨t.val / 8 * 768 + j.val, by omega⟩ := by
    blk_ext [idx t]
  refine Eq.trans ?_ (congrArg (arr m c) e).symm
  refine Eq.trans ?_ (gate_at _ _ _ ⟨t.val % 8 * 1024 + r.val, by omega⟩ ⟨t.val / 8, by omega⟩ j).symm
  frame_out
  pointwise [k0_pay1]
  simp only [half_f32]
  unfold viaTanh pre
  blk_point [iblk, V, idx t]

end Kernel

section Reference

open Cert.Reference14Ideal Cert.Reference14Ideal.Gen Cert.Reference14Ideal.Read

variable (h : Vec Ideal S8192x1024 .bf16) (w : Vec Ideal S4x1024x768 .bf16) (b : Vec Ideal S1x3072 .f32)

/-- The reference at one entry of a shard. -/
theorem ref_at (t : Fin 8192) (s : Fin 4) (j : Fin 768) : val_main_v20 (F := Ideal) h w b (ix2 t ⟨s.val * 768 + j.val, by omega⟩) = viaTanh (pre h w b s t j) := by
  rw [viaTanh_eq]
  unfold viaExp pre
  match s with
  | 0 =>
    pointwise [val_main_v20, val_main_v19, val_main_v18, val_main_cst_0, val_main_v17, val_main_v16, val_main_cst, val_main_v15, val_main_v14, val_main_v13,
      val_main_v12, val_main_v11, val_main_v10, val_main_v9, val_main_v8, val_main_v7, val_main_v6, val_main_v5, val_main_v4, val_main_v3, val_main_v2,
      val_main_v1, val_main_v0]
  | 1 =>
    pointwise [val_main_v20, val_main_v19, val_main_v18, val_main_cst_0, val_main_v17, val_main_v16, val_main_cst, val_main_v15, val_main_v14, val_main_v13,
      val_main_v12, val_main_v11, val_main_v10, val_main_v9, val_main_v8, val_main_v7, val_main_v6, val_main_v5, val_main_v4, val_main_v3, val_main_v2,
      val_main_v1, val_main_v0]
  | 2 =>
    pointwise [val_main_v20, val_main_v19, val_main_v18, val_main_cst_0, val_main_v17, val_main_v16, val_main_cst, val_main_v15, val_main_v14, val_main_v13,
      val_main_v12, val_main_v11, val_main_v10, val_main_v9, val_main_v8, val_main_v7, val_main_v6, val_main_v5, val_main_v4, val_main_v3, val_main_v2,
      val_main_v1, val_main_v0]
    refine congrArg (fun x => Ideal.div 1 (1 + Ideal.exp (-(x + b (ix2 0 ⟨1536 + j.val, by omega⟩))))) ?_
    refine Finset.sum_congr rfl fun l _ => congrArg (h (ix2 t l) * ·) ?_
    rw [dif_neg (by omega), dif_neg (by omega), dif_pos (by omega)]
    exact congrArg (fun a => w (ix3 2 l a)) (Fin.ext (by show 1536 + j.val - 768 - 768 = j.val; omega))
  | 3 =>
    pointwise [val_main_v20, val_main_v19, val_main_v18, val_main_cst_0, val_main_v17, val_main_v16, val_main_cst, val_main_v15, val_main_v14, val_main_v13,
      val_main_v12, val_main_v11, val_main_v10, val_main_v9, val_main_v8, val_main_v7, val_main_v6, val_main_v5, val_main_v4, val_main_v3, val_main_v2,
      val_main_v1, val_main_v0]
    refine congrArg (fun x => Ideal.div 1 (1 + Ideal.exp (-(x + b (ix2 0 ⟨2304 + j.val, by omega⟩))))) ?_
    refine Finset.sum_congr rfl fun l _ => congrArg (h (ix2 t l) * ·) ?_
    rw [dif_neg (by omega), dif_neg (by omega), dif_neg (by omega)]
    exact congrArg (fun a => w (ix3 3 l a)) (Fin.ext (by show 2304 + j.val - 768 - 768 - 768 = j.val; omega))

/-- The reference at one entry. -/
theorem ref (t : Fin 8192) (f : Fin 3072) : val_main_v20 (F := Ideal) h w b (ix2 t f) = gate h w b t f := by
  obtain ⟨s, j, rfl⟩ : ∃ (s : Fin 4) (j : Fin 768), f = ⟨s.val * 768 + j.val, by omega⟩ :=
    ⟨⟨f.val / 768, by omega⟩, ⟨f.val % 768, by omega⟩, Fin.ext (by show f.val = f.val / 768 * 768 + f.val % 768; omega)⟩
  exact (ref_at h w b t s j).trans (gate_at h w b t s j).symm

end Reference

/-- The reference leaves its arguments as they were and declares no semaphore. -/
theorem reference_frame : Cert.quiescent_Reference14Ideal := fun m ρ _ =>
  (θ_run Cert.Reference14Ideal.defs _ _).mono (fun r h => ⟨fun c => (h c).2,
    sem_eq_zero_of_no_sems (by decide) r.2⟩) (Cert.Reference14Ideal.Value.run (F := Ideal) m ρ)

/-- The kernel and the reference end with the same gates. -/
theorem algebraic : Cert.algebraic_Kernel14Ideal_Reference14Ideal := by
  intro m ρ m' ρ' hpre hargs
  refine ⟨fun c => arr m c, (θ_run Cert.Kernel14Ideal.defs _ _).mono (fun r h c => ?_) (Cert.Kernel14Ideal.Value.run_blocks (F := Ideal) m ρ),
    (θ_run Cert.Reference14Ideal.defs _ _).mono (fun r h c => ?_) (Cert.Reference14Ideal.Value.run (F := Ideal) m' ρ')⟩
  · exact ⟨(h c).1.trans (arr3 m c), (h c).2⟩
  · refine ⟨(h c).1.trans ((Cert.Reference14Ideal.Read.val_main_v20_eq _ _ _).trans ?_), (h c).2⟩
    rw [(hargs c).1, (hargs c).2.1, (hargs c).2.2]
    funext y
    obtain ⟨t, d, rfl⟩ : ∃ (t : Fin 8192) (d : Fin 3072), y = ix2 t d := ⟨y 0, y 1, by
      funext a; match a with | 0 => rfl | 1 => rfl⟩
    exact ref _ _ _ t d

end Cert.Gates

end
-- ==== Proof.FfnOut.lean ====
/- The feed-forward's second product of the forward pass. Over the extended reals the kernel and the reference end with the
   same array, whatever the arguments. -/
module

public import proofs.«01_k».proof.Defs
public import proofs.«01_k».proof.Proof.Gen.Kernel15Ideal.Value
public import proofs.«01_k».proof.Proof.Gen.Reference15Ideal.Read
public import proofs.«01_k».proof.Proof.Gen.Reference15Ideal.Run
public import Idealize.ShloMosaic.Lib.Pipeline.ValueKit
public import Idealize.ShloMosaic.Lib.Pipeline.ReadBack
public import Idealize.ShloMosaic.Lib.Pointwise

@[expose] public section

noncomputable section

namespace Cert.FfnOut

open Idealize.ShloMosaic Idealize.ShloMosaic.TcCoe
open Idealize.ShloMosaic.Pipeline (Dat)

/-- One entry of the product: the sum over the input's channels. -/
def prod (a : Cert.Kernel15Ideal.S8192x2816.Idx → EReal) (w : Cert.Kernel15Ideal.S2816x1024.Idx → EReal) (t : Fin 8192) (d : Fin 1024) : EReal :=
  ∑ k : Fin 2816, a (ix2 t k) * w (ix2 k d)

section Kernel

open Cert.Kernel15Ideal Cert.Kernel15Ideal.Gen

/-- Where each window's block lies at a point of the grid. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array that the kernel writes. -/
def arr : S8192x1024.Idx → EReal := fun i =>
  prod (m ((c : Thread nD τ).loc main_arg0)) (m ((c : Thread nD τ).loc main_arg1)) (i 0) (i 1)

/-- The output array. -/
theorem arr2 : (dats m 0 c).arrAt 2 cfg0.N = arr m c := by
  refine (dats m 0 c).arrAt_eq_of_covers 2 _ (by decide +kernel) fun t hf y => ?_
  have ht : t.val < 8 := t.isLt
  obtain ⟨r, d, rfl⟩ : ∃ (r : Fin 1024) (d : Fin 1024), y = ix2 r d := ⟨y 0, y 1, by
    funext a; match a with | 0 => rfl | 1 => rfl⟩
  blk_simp
  rw [after0_2]
  have e : (win0_2.blk t).view.emb (ix2 r d) = ix2 ⟨t.val * 1024 + r.val, by omega⟩ d := by
    blk_ext [idx t]
  refine Eq.trans ?_ (congrArg (arr m c) e).symm
  frame_out
  pointwise [k0_pay1]
  unfold arr prod
  blk_point [iblk, V, idx t]

end Kernel

section Reference

open Cert.Reference15Ideal Cert.Reference15Ideal.Gen Cert.Reference15Ideal.Read

/-- The reference at one entry. -/
theorem ref (a : Vec Ideal S8192x2816 .bf16) (w : Vec Ideal S2816x1024 .bf16) (t : Fin 8192) (d : Fin 1024) : val_main_v2 (F := Ideal) a w (ix2 t d) = prod a w t d := by
  pointwise [val_main_v2, val_main_v1, val_main_v0]
  rfl

end Reference

/-- The reference leaves its arguments as they were and declares no semaphore. -/
theorem reference_frame : Cert.quiescent_Reference15Ideal := fun m ρ _ =>
  (θ_run Cert.Reference15Ideal.defs _ _).mono (fun r h => ⟨fun c => (h c).2,
    sem_eq_zero_of_no_sems (by decide) r.2⟩) (Cert.Reference15Ideal.Value.run (F := Ideal) m ρ)

/-- The kernel and the reference end with the same product. -/
theorem algebraic : Cert.algebraic_Kernel15Ideal_Reference15Ideal := by
  intro m ρ m' ρ' hpre hargs
  refine ⟨fun c => arr m c, (θ_run Cert.Kernel15Ideal.defs _ _).mono (fun r h c => ?_) (Cert.Kernel15Ideal.Value.run_blocks (F := Ideal) m ρ),
    (θ_run Cert.Reference15Ideal.defs _ _).mono (fun r h c => ?_) (Cert.Reference15Ideal.Value.run (F := Ideal) m' ρ')⟩
  · exact ⟨(h c).1.trans (arr2 m c), (h c).2⟩
  · refine ⟨(h c).1.trans ((Cert.Reference15Ideal.Read.val_main_v2_eq _ _).trans ?_), (h c).2⟩
    rw [(hargs c).1, (hargs c).2]
    funext y
    obtain ⟨t, d, rfl⟩ : ∃ (t : Fin 8192) (d : Fin 1024), y = ix2 t d := ⟨y 0, y 1, by
      funext a; match a with | 0 => rfl | 1 => rfl⟩
    exact ref _ _ t d

end Cert.FfnOut

end
-- ==== Proof.Mix.lean ====
/- The output projection of the forward pass. Over the extended reals the kernel and the reference end with the same array,
   whatever the arguments. -/
module

public import proofs.«01_k».proof.Defs
public import proofs.«01_k».proof.Proof.Gen.Kernel16Ideal.Value
public import proofs.«01_k».proof.Proof.Gen.Reference16Ideal.Read
public import proofs.«01_k».proof.Proof.Gen.Reference16Ideal.Run
public import Idealize.ShloMosaic.Lib.Pipeline.ValueKit
public import Idealize.ShloMosaic.Lib.Pipeline.ReadBack
public import Idealize.ShloMosaic.Lib.Pointwise

@[expose] public section

noncomputable section

namespace Cert.Mix

open Idealize.ShloMosaic Idealize.ShloMosaic.TcCoe
open Idealize.ShloMosaic.Pipeline (Dat)

/-- One entry of the product: the sum over the input's channels. -/
def prod (a : Cert.Kernel16Ideal.S8192x1024.Idx → EReal) (w : Cert.Kernel16Ideal.S1024x1024.Idx → EReal) (t : Fin 8192) (d : Fin 1024) : EReal :=
  ∑ k : Fin 1024, a (ix2 t k) * w (ix2 k d)

section Kernel

open Cert.Kernel16Ideal Cert.Kernel16Ideal.Gen

/-- Where each window's block lies at a point of the grid. -/
theorem idx : ∀ t : Fin cfg0.N, win0_0.index t = ![t.val, 0] ∧ win0_1.index t = ![0, 0] ∧ win0_2.index t = ![t.val, 0] :=
  (by decide +kernel : ∀ t : Fin grid0.N, _)

variable (m : (ℓ : Loc nD τ sig) → Buf (Elt Ideal) ℓ) (c : Dev nD)

/-- The array that the kernel writes. -/
def arr : S8192x1024.Idx → EReal := fun i =>
  prod (m ((c : Thread nD τ).loc main_arg0)) (m ((c : Thread nD τ).loc main_arg1)) (i 0) (i 1)

/-- The output array. -/
theorem arr2 : (dats m 0 c).arrAt 2 cfg0.N = arr m c := by
  refine (dats m 0 c).arrAt_eq_of_covers 2 _ (by decide +kernel) fun t hf y => ?_
  have ht : t.val < 8 := t.isLt
  obtain ⟨r, d, rfl⟩ : ∃ (r : Fin 1024) (d : Fin 1024), y = ix2 r d := ⟨y 0, y 1, by
    funext a; match a with | 0 => rfl | 1 => rfl⟩
  blk_simp
  rw [after0_2]
  have e : (win0_2.blk t).view.emb (ix2 r d) = ix2 ⟨t.val * 1024 + r.val, by omega⟩ d := by
    blk_ext [idx t]
  refine Eq.trans ?_ (congrArg (arr m c) e).symm
  frame_out
  pointwise [k0_pay1]
  unfold arr prod
  blk_point [iblk, V, idx t]

end Kernel

section Reference

open Cert.Reference16Ideal Cert.Reference16Ideal.Gen Cert.Reference16Ideal.Read

/-- The reference at one entry. -/
theorem ref (a : Vec Ideal S8192x1024 .bf16) (w : Vec Ideal S1024x1024 .bf16) (t : Fin 8192) (d : Fin 1024) : val_main_v2 (F := Ideal) a w (ix2 t d) = prod a w t d := by
  pointwise [val_main_v2, val_main_v1, val_main_v0]
  rfl

end Reference

/-- The reference leaves its arguments as they were and declares no semaphore. -/
theorem reference_frame : Cert.quiescent_Reference16Ideal := fun m ρ _ =>
  (θ_run Cert.Reference16Ideal.defs _ _).mono (fun r h => ⟨fun c => (h c).2,
    sem_eq_zero_of_no_sems (by decide) r.2⟩) (Cert.Reference16Ideal.Value.run (F := Ideal) m ρ)

/-- The kernel and the reference end with the same product. -/
theorem algebraic : Cert.algebraic_Kernel16Ideal_Reference16Ideal := by
  intro m ρ m' ρ' hpre hargs
  refine ⟨fun c => arr m c, (θ_run Cert.Kernel16Ideal.defs _ _).mono (fun r h c => ?_) (Cert.Kernel16Ideal.Value.run_blocks (F := Ideal) m ρ),
    (θ_run Cert.Reference16Ideal.defs _ _).mono (fun r h c => ?_) (Cert.Reference16Ideal.Value.run (F := Ideal) m' ρ')⟩
  · exact ⟨(h c).1.trans (arr2 m c), (h c).2⟩
  · refine ⟨(h c).1.trans ((Cert.Reference16Ideal.Read.val_main_v2_eq _ _).trans ?_), (h c).2⟩
    rw [(hargs c).1, (hargs c).2]
    funext y
    obtain ⟨t, d, rfl⟩ : ∃ (t : Fin 8192) (d : Fin 1024), y = ix2 t d := ⟨y 0, y 1, by
      funext a; match a with | 0 => rfl | 1 => rfl⟩
    exact ref _ _ t d

end Cert.Mix

end
-- ==== Proof.BranchMerge.lean ====
/- The merge of the three branches in the forward pass: each branch's product with its weights, in four shards, and the sum of
   the three products, each times its gates. Over the extended reals the kernel and the reference end with the same four
   arrays, whatever the arguments. -/
module

public import proofs.«01_k».proof.Defs
public import proofs.«01_k».proof.Proof.Gen.Kernel17Ideal.Value
public import proofs.«01_k».proof.Proof.Gen.Reference17Ideal.Read
public import proofs.«01_k».proof.Proof.Gen.Reference17Ideal.Run
public import Idealize.ShloMosaic.Lib.Pipeline.ValueKit
public import Idealize.ShloMosaic.Lib.Pipeline.ReadBack
public import Idealize.ShloMosaic.Lib.Pointwise

@[expose] public section

noncomputable section

namespace Cert.BranchMerge

open Idealize.ShloMosaic Idealize.ShloMosaic.TcCoe
open Idealize.ShloMosaic.Pipeline (Dat)

/-- One entry of a branch's product with a shard of its weights: the sum over the branch's 512 channels. -/
def wide (a : Cert.Kernel17Ideal.S8192x512.Idx → EReal) (w : Cert.Kernel17Ideal.S4x512x256.Idx → EReal) (s : Fin 4) (t : Fin 8192) (j : Fin 256) : EReal :=
  ∑ k : Fin 512, a (ix2 t k) * w (ix3 s k j)

/-- One entry of a branch's product: its four shards side by side. -/
def wides (a : Cert.Kernel17Ideal.S8192x512.Idx → EReal) (w : Cert.Kernel17Ideal.S4x512x256.Idx → EReal) (t : Fin 8192) (f : Fin 1024) : EReal :=
  wide a w ⟨f.val / 256, by omega⟩ t ⟨f.val % 256, by omega⟩

/-- A branch's entry, by its shard and the column in it. -/
theorem wides_at (a : Cert.Kernel17Ideal.S8192x512.Idx → EReal) (w : Cert.Kernel17Ideal.S4x512x256.Idx → EReal) (t : Fin 8192) (s : Fin 4) (j : Fin 256) :
    wides a w t ⟨s.val * 256 + j.val, by omega⟩ = wide a w s t j :=
  congrArg₂ (fun b l => wide a w b t l) (Fin.ext (by show (s.val * 256 + j.val) / 256 = s.val; omega))
    (Fin.ext (by show (s.val * 256 + j.val) % 256 = j.val; omega))

/-- One entry of a branch's product with a shard of its weights: the sum over the branch's 256 channels. -/
def narrow (a : Cert.Kernel17Ideal.S8192x256.Idx → EReal) (w : Cert.Kernel17Ideal.S4x256x256.Idx → EReal) (s : Fin 4) (t : Fin 8192) (j : Fin 256) : EReal :=
  ∑ k : Fin 256, a (ix2 t k) * w (ix3 s k j)

/-- One entry of a branch's product: its four shards side by side. -/
def narrows (a : Cert.Kernel17Ideal.S8192x256.Idx → EReal) (w : Cert.Kernel17Ideal.S4x256x256.Idx → EReal) (t : Fin 8192) (f : Fin 1024) : EReal :=
  narrow a w ⟨f.val / 256, by omega⟩ t ⟨f.val % 256, by omega⟩

/-- A branch's entry, by its shard and the column in it. -/
theorem narrows_at (a : Cert.Kernel17Ideal.S8192x256.Idx → EReal) (w : Cert.Kernel17Ideal.S4x256x256.Idx → EReal) (t : Fin 8192) (s : Fin 4) (j : Fin 256) :
    narrows a w t ⟨s.val * 256 + j.val, by omega⟩ = narrow a w s t j :=
  congrArg₂ (fun b l => narrow a w b t l) (Fin.ext (by show (s.val * 256 + j.val) / 256 = s.val; omega))
    (Fin.ext (by show (s.val * 256 + j.val) % 256 = j.val; omega))

/-- One entry of the merged branches. -/
def merged (a : Cert.Kernel17Ideal.S8192x512.Idx → EReal) (b : Cert.Kernel17Ideal.S8192x256.Idx → EReal) (d : Cert.Kernel17Ideal.S8192x512.Idx → EReal) (wa : Cert.Kernel17Ideal.S4x512x256.Idx → EReal) (wb : Cert.Kernel17Ideal.S4x256x256.Idx → EReal)
    (wd : Cert.Kernel17Ideal.S4x512x256.Idx → EReal) (g : Cert.Kernel17Ideal.S8192x3072.Idx → EReal) (t : Fin 8192) (f : Fin 1024) : EReal :=
  g (ix2 t ⟨f.val, by omega⟩) * wides a wa t f + g (ix2 t ⟨1024 + f.val, by omega⟩) * narrows b wb t f + g (ix2 t ⟨2048 + f.val, by omega⟩) * wides d wd t f

/-- A column, by its shard and its place in it. -/
theorem split (f : Fin 1024) : ∃ (s : Fin 4) (j : Fin 256), f = ⟨s.val * 256 + j.val, by omega⟩ :=
  ⟨⟨f.val / 256, by omega⟩, ⟨f.val % 256, by omega⟩, Fin.ext (by show f.val = f.val / 256 * 256 + f.val % 256; omega)⟩

section Kernel

open Cert.Kernel17Ideal Cert.Kernel17Ideal.Gen

/-- Where each window's block lies at a point of the grid. -/
theorem idx : ∀ t : Fin cfg0.N, win0_0.index t = ![t.val, 0] ∧ win0_1.index t = ![t.val, 0] ∧ win0_2.index t = ![t.val, 0]
    ∧ win0_3.index t = ![0, 0, 0] ∧ win0_4.index t = ![0, 0, 0] ∧ win0_5.index t = ![0, 0, 0] ∧ win0_6.index t = ![t.val, 0]
    ∧ win0_7.index t = ![t.val, 0] ∧ win0_8.index t = ![t.val, 0] ∧ win0_9.index t = ![t.val, 0] ∧ win0_10.index t = ![t.val, 0] :=
  (by decide +kernel : ∀ t : Fin grid0.N, _)

variable (x0 : Vec Ideal S512x512 .bf16) (x1 : Vec Ideal S512x256 .bf16) (x2 : Vec Ideal S512x512 .bf16) (x3 : Vec Ideal S4x512x256 .bf16) (x4 : Vec Ideal S4x256x256 .bf16) (x5 : Vec Ideal S4x512x256 .bf16) (x6 : Vec Ideal S512x3072 .bf16)

/-- The first branch's product on a block of rows. -/
theorem first_block  (r : Fin 512) (s : Fin 4) (j : Fin 256) :
    k0_pay14 (F := Ideal) x0 x1 x2 x3 x4 x5 x6 (ix2 r ⟨s.val * 256 + j.val, by omega⟩) = ∑ k : Fin 512, x0 (ix2 r k) * x3 (ix3 s k j) := by
  match s with
  | 0 =>
    pointwise [k0_pay14, k0_pay2, r0_0, r0_1, r0_2, r0_3, r0_4]
  | 1 =>
    pointwise [k0_pay14, k0_pay2, r0_0, r0_1, r0_2, r0_3, r0_4]
  | 2 =>
    pointwise [k0_pay14, k0_pay2, r0_0, r0_1, r0_2, r0_3, r0_4]
    rw [dif_neg (by omega), dif_neg (by omega), dif_pos (by omega)]
    refine Finset.sum_congr rfl fun k _ => congrArg (fun b => x0 (ix2 r k) * x3 (ix3 2 k b)) ?_
    exact Fin.ext (by show 512 + j.val - 256 - 256 = j.val; omega)
  | 3 =>
    pointwise [k0_pay14, k0_pay2, r0_0, r0_1, r0_2, r0_3, r0_4]
    rw [dif_neg (by omega), dif_neg (by omega), dif_neg (by omega)]
    refine Finset.sum_congr rfl fun k _ => congrArg (fun b => x0 (ix2 r k) * x3 (ix3 3 k b)) ?_
    exact Fin.ext (by show 768 + j.val - 256 - 256 - 256 = j.val; omega)

/-- The second branch's product on a block of rows. -/
theorem second_block  (r : Fin 512) (s : Fin 4) (j : Fin 256) :
    k0_pay6 (F := Ideal) x1 (k0_pay15 x0 x1 x2 x3 x4 x5 x6) (k0_pay16 x0 x1 x2 x3 x4 x5 x6) (k0_pay17 x0 x1 x2 x3 x4 x5 x6) (View.ld x4 r0_9) (ix2 r ⟨s.val * 256 + j.val, by omega⟩) = ∑ k : Fin 256, x1 (ix2 r k) * x4 (ix3 s k j) := by
  match s with
  | 0 =>
    pointwise [k0_pay6, k0_pay15, k0_pay16, k0_pay17, k0_pay5, k0_pay4, k0_pay3, r0_5, r0_6, r0_7, r0_8, r0_9]
  | 1 =>
    pointwise [k0_pay6, k0_pay15, k0_pay16, k0_pay17, k0_pay5, k0_pay4, k0_pay3, r0_5, r0_6, r0_7, r0_8, r0_9]
  | 2 =>
    pointwise [k0_pay6, k0_pay15, k0_pay16, k0_pay17, k0_pay5, k0_pay4, k0_pay3, r0_5, r0_6, r0_7, r0_8, r0_9]
    rw [dif_neg (by omega), dif_neg (by omega), dif_pos (by omega)]
    refine Finset.sum_congr rfl fun k _ => congrArg (fun b => x1 (ix2 r k) * x4 (ix3 2 k b)) ?_
    exact Fin.ext (by show 512 + j.val - 256 - 256 = j.val; omega)
  | 3 =>
    pointwise [k0_pay6, k0_pay15, k0_pay16, k0_pay17, k0_pay5, k0_pay4, k0_pay3, r0_5, r0_6, r0_7, r0_8, r0_9]
    rw [dif_neg (by omega), dif_neg (by omega), dif_neg (by omega)]
    refine Finset.sum_congr rfl fun k _ => congrArg (fun b => x1 (ix2 r k) * x4 (ix3 3 k b)) ?_
    exact Fin.ext (by show 768 + j.val - 256 - 256 - 256 = j.val; omega)

/-- The third branch's product on a block of rows. -/
theorem third_block  (r : Fin 512) (s : Fin 4) (j : Fin 256) :
    k0_pay7 (F := Ideal) x2 (View.ld x5 r0_1) (View.ld x5 r0_2) (View.ld x5 r0_3) (View.ld x5 r0_4) (ix2 r ⟨s.val * 256 + j.val, by omega⟩) = ∑ k : Fin 512, x2 (ix2 r k) * x5 (ix3 s k j) := by
  match s with
  | 0 =>
    pointwise [k0_pay7, r0_0, r0_1, r0_2, r0_3, r0_4]
  | 1 =>
    pointwise [k0_pay7, r0_0, r0_1, r0_2, r0_3, r0_4]
  | 2 =>
    pointwise [k0_pay7, r0_0, r0_1, r0_2, r0_3, r0_4]
    rw [dif_neg (by omega), dif_neg (by omega), dif_pos (by omega)]
    refine Finset.sum_congr rfl fun k _ => congrArg (fun b => x2 (ix2 r k) * x5 (ix3 2 k b)) ?_
    exact Fin.ext (by show 512 + j.val - 256 - 256 = j.val; omega)
  | 3 =>
    pointwise [k0_pay7, r0_0, r0_1, r0_2, r0_3, r0_4]
    rw [dif_neg (by omega), dif_neg (by omega), dif_neg (by omega)]
    refine Finset.sum_congr rfl fun k _ => congrArg (fun b => x2 (ix2 r k) * x5 (ix3 3 k b)) ?_
    exact Fin.ext (by show 768 + j.val - 256 - 256 - 256 = j.val; omega)

variable (m : (ℓ : Loc nD τ sig) → Buf (Elt Ideal) ℓ) (c : Dev nD)

/-- The first branch's product that the kernel writes. -/
def arrA : S8192x1024.Idx → EReal := fun i => wides (m ((c : Thread nD τ).loc main_arg0)) (m ((c : Thread nD τ).loc main_arg3)) (i 0) (i 1)

/-- The second branch's product that the kernel writes. -/
def arrB : S8192x1024.Idx → EReal := fun i => narrows (m ((c : Thread nD τ).loc main_arg1)) (m ((c : Thread nD τ).loc main_arg4)) (i 0) (i 1)

/-- The third branch's product that the kernel writes. -/
def arrD : S8192x1024.Idx → EReal := fun i => wides (m ((c : Thread nD τ).loc main_arg2)) (m ((c : Thread nD τ).loc main_arg5)) (i 0) (i 1)

/-- The merged branches that the kernel writes. -/
def arrM : S8192x1024.Idx → EReal := fun i => merged (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6)) (i 0) (i 1)

/-- The first branch's product at one place of a block. -/
theorem first_at (t : Fin cfg0.N) (ht : t.val < 16) (r : Fin 512) (f : Fin 1024) :
    k0_pay14 (F := Ideal) (iblk m c 0 t) (iblk m c 1 t) (iblk m c 2 t) (iblk m c 3 t) (iblk m c 4 t) (iblk m c 5 t) (iblk m c 6 t) (ix2 r f) = arrA m c (ix2 ⟨t.val * 512 + r.val, by omega⟩ f) := by
  obtain ⟨s, j, rfl⟩ := split f
  refine (first_block _ _ _ _ _ _ _ r s j).trans ?_
  refine Eq.trans ?_ (wides_at _ _ ⟨t.val * 512 + r.val, by omega⟩ s j).symm
  unfold wide
  blk_point [iblk, V, idx t]

/-- The second branch's product at one place of a block. -/
theorem second_at (t : Fin cfg0.N) (ht : t.val < 16) (r : Fin 512) (f : Fin 1024) :
    k0_pay6 (F := Ideal) (iblk m c 1 t) (k0_pay15 (iblk m c 0 t) (iblk m c 1 t) (iblk m c 2 t) (iblk m c 3 t) (iblk m c 4 t) (iblk m c 5 t) (iblk m c 6 t)) (k0_pay16 (iblk m c 0 t) (iblk m c 1 t) (iblk m c 2 t) (iblk m c 3 t) (iblk m c 4 t) (iblk m c 5 t) (iblk m c 6 t)) (k0_pay17 (iblk m c 0 t) (iblk m c 1 t) (iblk m c 2 t) (iblk m c 3 t) (iblk m c 4 t) (iblk m c 5 t) (iblk m c 6 t)) (View.ld (iblk m c 4 t) r0_9) (ix2 r f) = arrB m c (ix2 ⟨t.val * 512 + r.val, by omega⟩ f) := by
  obtain ⟨s, j, rfl⟩ := split f
  refine (second_block _ _ _ _ _ _ _ r s j).trans ?_
  refine Eq.trans ?_ (narrows_at _ _ ⟨t.val * 512 + r.val, by omega⟩ s j).symm
  unfold narrow
  blk_point [iblk, V, idx t]

/-- The third branch's product at one place of a block. -/
theorem third_at (t : Fin cfg0.N) (ht : t.val < 16) (r : Fin 512) (f : Fin 1024) :
    k0_pay7 (F := Ideal) (iblk m c 2 t) (View.ld (iblk m c 5 t) r0_1) (View.ld (iblk m c 5 t) r0_2) (View.ld (iblk m c 5 t) r0_3) (View.ld (iblk m c 5 t) r0_4) (ix2 r f) = arrD m c (ix2 ⟨t.val * 512 + r.val, by omega⟩ f) := by
  obtain ⟨s, j, rfl⟩ := split f
  refine (third_block _ _ r s j).trans ?_
  refine Eq.trans ?_ (wides_at _ _ ⟨t.val * 512 + r.val, by omega⟩ s j).symm
  unfold wide
  blk_point [iblk, V, idx t]

/-- The gates at one place of a block. -/
theorem gate_at (t : Fin cfg0.N) (ht : t.val < 16) (r : Fin 512) (f : Fin 3072) :
    iblk m c 6 t (ix2 r f) = m ((c : Thread nD τ).loc main_arg6) (ix2 ⟨t.val * 512 + r.val, by omega⟩ f) := by
  blk_point [iblk, V, idx t]

/-- The first branch's product's array. -/
theorem arr7 : (dats m 0 c).arrAt 7 cfg0.N = arrA m c := by
  refine (dats m 0 c).arrAt_eq_of_covers 7 _ (by decide +kernel) fun t hf y => ?_
  have ht : t.val < 16 := t.isLt
  obtain ⟨r, f, rfl⟩ : ∃ (r : Fin 512) (f : Fin 1024), y = ix2 r f := ⟨y 0, y 1, by
    funext a; match a with | 0 => rfl | 1 => rfl⟩
  blk_simp
  rw [after0_7]
  have e : (win0_7.blk t).view.emb (ix2 r f) = ix2 ⟨t.val * 512 + r.val, by omega⟩ f := by
    blk_ext [idx t]
  refine Eq.trans ?_ (congrArg (arrA m c) e).symm
  frame_out
  pointwise [k0_pay9]
  exact first_at m c t ht r f

/-- The second branch's product's array. -/
theorem arr8 : (dats m 0 c).arrAt 8 cfg0.N = arrB m c := by
  refine (dats m 0 c).arrAt_eq_of_covers 8 _ (by decide +kernel) fun t hf y => ?_
  have ht : t.val < 16 := t.isLt
  obtain ⟨r, f, rfl⟩ : ∃ (r : Fin 512) (f : Fin 1024), y = ix2 r f := ⟨y 0, y 1, by
    funext a; match a with | 0 => rfl | 1 => rfl⟩
  blk_simp
  rw [after0_8]
  have e : (win0_8.blk t).view.emb (ix2 r f) = ix2 ⟨t.val * 512 + r.val, by omega⟩ f := by
    blk_ext [idx t]
  refine Eq.trans ?_ (congrArg (arrB m c) e).symm
  frame_out
  pointwise [k0_pay10]
  exact second_at m c t ht r f

/-- The third branch's product's array. -/
theorem arr9 : (dats m 0 c).arrAt 9 cfg0.N = arrD m c := by
  refine (dats m 0 c).arrAt_eq_of_covers 9 _ (by decide +kernel) fun t hf y => ?_
  have ht : t.val < 16 := t.isLt
  obtain ⟨r, f, rfl⟩ : ∃ (r : Fin 512) (f : Fin 1024), y = ix2 r f := ⟨y 0, y 1, by
    funext a; match a with | 0 => rfl | 1 => rfl⟩
  blk_simp
  rw [after0_9]
  have e : (win0_9.blk t).view.emb (ix2 r f) = ix2 ⟨t.val * 512 + r.val, by omega⟩ f := by
    blk_ext [idx t]
  refine Eq.trans ?_ (congrArg (arrD m c) e).symm
  frame_out
  pointwise [k0_pay11]
  exact third_at m c t ht r f

/-- The merged branches' array. -/
theorem arr10 : (dats m 0 c).arrAt 10 cfg0.N = arrM m c := by
  refine (dats m 0 c).arrAt_eq_of_covers 10 _ (by decide +kernel) fun t hf y => ?_
  have ht : t.val < 16 := t.isLt
  obtain ⟨r, f, rfl⟩ : ∃ (r : Fin 512) (f : Fin 1024), y = ix2 r f := ⟨y 0, y 1, by
    funext a; match a with | 0 => rfl | 1 => rfl⟩
  blk_simp
  rw [after0_10]
  have e : (win0_10.blk t).view.emb (ix2 r f) = ix2 ⟨t.val * 512 + r.val, by omega⟩ f := by
    blk_ext [idx t]
  refine Eq.trans ?_ (congrArg (arrM m c) e).symm
  frame_out
  pointwise [k0_pay1, k0_pay12, k0_pay13, k0_pay8]
  exact congrArg₂ (· + ·) (congrArg₂ (· + ·) (congrArg₂ (· * ·) (gate_at m c t ht r ⟨f.val, by omega⟩) (first_at m c t ht r f)) (congrArg₂ (· * ·) (gate_at m c t ht r ⟨1024 + f.val, by omega⟩) (second_at m c t ht r f)))
    (congrArg₂ (· * ·) (gate_at m c t ht r ⟨2048 + f.val, by omega⟩) (third_at m c t ht r f))

end Kernel

section Reference

open Cert.Reference17Ideal Cert.Reference17Ideal.Gen Cert.Reference17Ideal.Read

/-- The reference's product of the first branch at one entry. -/
theorem ref_first (a : Vec Ideal S8192x512 .bf16) (w : Vec Ideal S4x512x256 .bf16) (t : Fin 8192) (f : Fin 1024) : val_main_v13 (F := Ideal) a w (ix2 t f) = wides a w t f := by
  obtain ⟨s, j, rfl⟩ := split f
  rw [wides_at]
  unfold wide
  match s with
  | 0 =>
    pointwise [val_main_v13, val_main_v12, val_main_v11, val_main_v10, val_main_v9, val_main_v8, val_main_v7, val_main_v6, val_main_v5, val_main_v4, val_main_v3, val_main_v2]
  | 1 =>
    pointwise [val_main_v13, val_main_v12, val_main_v11, val_main_v10, val_main_v9, val_main_v8, val_main_v7, val_main_v6, val_main_v5, val_main_v4, val_main_v3, val_main_v2]
  | 2 =>
    pointwise [val_main_v13, val_main_v12, val_main_v11, val_main_v10, val_main_v9, val_main_v8, val_main_v7, val_main_v6, val_main_v5, val_main_v4, val_main_v3, val_main_v2]
    refine Finset.sum_congr rfl fun k _ => congrArg (a (ix2 t k) * ·) ?_
    rw [dif_neg (by omega), dif_neg (by omega), dif_pos (by omega)]
    exact congrArg (fun b => w (ix3 2 k b)) (Fin.ext (by show 512 + j.val - 256 - 256 = j.val; omega))
  | 3 =>
    pointwise [val_main_v13, val_main_v12, val_main_v11, val_main_v10, val_main_v9, val_main_v8, val_main_v7, val_main_v6, val_main_v5, val_main_v4, val_main_v3, val_main_v2]
    refine Finset.sum_congr rfl fun k _ => congrArg (a (ix2 t k) * ·) ?_
    rw [dif_neg (by omega), dif_neg (by omega), dif_neg (by omega)]
    exact congrArg (fun b => w (ix3 3 k b)) (Fin.ext (by show 768 + j.val - 256 - 256 - 256 = j.val; omega))

/-- The reference's product of the second branch at one entry. -/
theorem ref_second (a : Vec Ideal S8192x256 .bf16) (w : Vec Ideal S4x256x256 .bf16) (t : Fin 8192) (f : Fin 1024) : val_main_v25 (F := Ideal) a w (ix2 t f) = narrows a w t f := by
  obtain ⟨s, j, rfl⟩ := split f
  rw [narrows_at]
  unfold narrow
  match s with
  | 0 =>
    pointwise [val_main_v25, val_main_v24, val_main_v23, val_main_v22, val_main_v21, val_main_v20, val_main_v19, val_main_v18, val_main_v17, val_main_v16, val_main_v15, val_main_v14]
  | 1 =>
    pointwise [val_main_v25, val_main_v24, val_main_v23, val_main_v22, val_main_v21, val_main_v20, val_main_v19, val_main_v18, val_main_v17, val_main_v16, val_main_v15, val_main_v14]
  | 2 =>
    pointwise [val_main_v25, val_main_v24, val_main_v23, val_main_v22, val_main_v21, val_main_v20, val_main_v19, val_main_v18, val_main_v17, val_main_v16, val_main_v15, val_main_v14]
    refine Finset.sum_congr rfl fun k _ => congrArg (a (ix2 t k) * ·) ?_
    rw [dif_neg (by omega), dif_neg (by omega), dif_pos (by omega)]
    exact congrArg (fun b => w (ix3 2 k b)) (Fin.ext (by show 512 + j.val - 256 - 256 = j.val; omega))
  | 3 =>
    pointwise [val_main_v25, val_main_v24, val_main_v23, val_main_v22, val_main_v21, val_main_v20, val_main_v19, val_main_v18, val_main_v17, val_main_v16, val_main_v15, val_main_v14]
    refine Finset.sum_congr rfl fun k _ => congrArg (a (ix2 t k) * ·) ?_
    rw [dif_neg (by omega), dif_neg (by omega), dif_neg (by omega)]
    exact congrArg (fun b => w (ix3 3 k b)) (Fin.ext (by show 768 + j.val - 256 - 256 - 256 = j.val; omega))

/-- The reference's product of the third branch at one entry. -/
theorem ref_third (a : Vec Ideal S8192x512 .bf16) (w : Vec Ideal S4x512x256 .bf16) (t : Fin 8192) (f : Fin 1024) : val_main_v37 (F := Ideal) a w (ix2 t f) = wides a w t f := by
  obtain ⟨s, j, rfl⟩ := split f
  rw [wides_at]
  unfold wide
  match s with
  | 0 =>
    pointwise [val_main_v37, val_main_v36, val_main_v35, val_main_v34, val_main_v33, val_main_v32, val_main_v31, val_main_v30, val_main_v29, val_main_v28, val_main_v27, val_main_v26]
  | 1 =>
    pointwise [val_main_v37, val_main_v36, val_main_v35, val_main_v34, val_main_v33, val_main_v32, val_main_v31, val_main_v30, val_main_v29, val_main_v28, val_main_v27, val_main_v26]
  | 2 =>
    pointwise [val_main_v37, val_main_v36, val_main_v35, val_main_v34, val_main_v33, val_main_v32, val_main_v31, val_main_v30, val_main_v29, val_main_v28, val_main_v27, val_main_v26]
    refine Finset.sum_congr rfl fun k _ => congrArg (a (ix2 t k) * ·) ?_
    rw [dif_neg (by omega), dif_neg (by omega), dif_pos (by omega)]
    exact congrArg (fun b => w (ix3 2 k b)) (Fin.ext (by show 512 + j.val - 256 - 256 = j.val; omega))
  | 3 =>
    pointwise [val_main_v37, val_main_v36, val_main_v35, val_main_v34, val_main_v33, val_main_v32, val_main_v31, val_main_v30, val_main_v29, val_main_v28, val_main_v27, val_main_v26]
    refine Finset.sum_congr rfl fun k _ => congrArg (a (ix2 t k) * ·) ?_
    rw [dif_neg (by omega), dif_neg (by omega), dif_neg (by omega)]
    exact congrArg (fun b => w (ix3 3 k b)) (Fin.ext (by show 768 + j.val - 256 - 256 - 256 = j.val; omega))

/-- The reference's merged branches at one entry. -/
theorem ref_merged (a : Vec Ideal S8192x512 .bf16) (b : Vec Ideal S8192x256 .bf16) (d : Vec Ideal S8192x512 .bf16) (wa : Vec Ideal S4x512x256 .bf16) (wb : Vec Ideal S4x256x256 .bf16)
    (wd : Vec Ideal S4x512x256 .bf16) (g : Vec Ideal S8192x3072 .bf16) (t : Fin 8192) (f : Fin 1024) : val_main_v52 (F := Ideal) a b d wa wb wd g (ix2 t f) = merged a b d wa wb wd g t f := by
  unfold merged
  rw [← ref_first, ← ref_second, ← ref_third]
  pointwise [val_main_v52, val_main_v48, val_main_v47, val_main_v46, val_main_v45, val_main_v44, val_main_v43, val_main_v42, val_main_v41, val_main_v40, val_main_v39, val_main_v38, val_main_v1, val_main_v0]

end Reference

/-- The reference leaves its arguments as they were and declares no semaphore. -/
theorem reference_frame : Cert.quiescent_Reference17Ideal := fun m ρ _ =>
  (θ_run Cert.Reference17Ideal.defs _ _).mono (fun r h => ⟨fun c => (h c).2.2.2.2,
    sem_eq_zero_of_no_sems (by decide) r.2⟩) (Cert.Reference17Ideal.Value.run (F := Ideal) m ρ)

/-- The kernel and the reference end with the same products and the same merged branches. -/
theorem algebraic : Cert.algebraic_Kernel17Ideal_Reference17Ideal := by
  intro m ρ m' ρ' hpre hargs
  refine ⟨fun c => arrA m c, fun c => arrB m c, fun c => arrD m c, fun c => arrM m c, (θ_run Cert.Kernel17Ideal.defs _ _).mono (fun r h c => ?_) (Cert.Kernel17Ideal.Value.run_blocks (F := Ideal) m ρ),
    (θ_run Cert.Reference17Ideal.defs _ _).mono (fun r h c => ?_) (Cert.Reference17Ideal.Value.run (F := Ideal) m' ρ')⟩
  · exact ⟨(h c).1.trans (arr7 m c), (h c).2.1.trans (arr8 m c), (h c).2.2.1.trans (arr9 m c), (h c).2.2.2.1.trans (arr10 m c), (h c).2.2.2.2⟩
  · obtain ⟨h0, h1, h2, h3, h4, h5, h6⟩ := hargs c
    refine ⟨(h c).1.trans ((Cert.Reference17Ideal.Read.val_main_v49_eq _ _).trans ?_), (h c).2.1.trans ((Cert.Reference17Ideal.Read.val_main_v50_eq _ _).trans ?_),
      (h c).2.2.1.trans ((Cert.Reference17Ideal.Read.val_main_v51_eq _ _).trans ?_), (h c).2.2.2.1.trans ((Cert.Reference17Ideal.Read.val_main_v52_eq m' c).trans ?_), (h c).2.2.2.2⟩
    · rw [h0, h3]
      funext i
      obtain ⟨t, f, rfl⟩ : ∃ (t : Fin 8192) (f : Fin 1024), i = ix2 t f := ⟨i 0, i 1, by
        funext a; match a with | 0 => rfl | 1 => rfl⟩
      exact ref_first _ _ t f
    · rw [h1, h4]
      funext i
      obtain ⟨t, f, rfl⟩ : ∃ (t : Fin 8192) (f : Fin 1024), i = ix2 t f := ⟨i 0, i 1, by
        funext a; match a with | 0 => rfl | 1 => rfl⟩
      exact ref_second _ _ t f
    · rw [h2, h5]
      funext i
      obtain ⟨t, f, rfl⟩ : ∃ (t : Fin 8192) (f : Fin 1024), i = ix2 t f := ⟨i 0, i 1, by
        funext a; match a with | 0 => rfl | 1 => rfl⟩
      exact ref_third _ _ t f
    · rw [h0, h1, h2, h3, h4, h5, h6]
      funext i
      obtain ⟨t, f, rfl⟩ : ∃ (t : Fin 8192) (f : Fin 1024), i = ix2 t f := ⟨i 0, i 1, by
        funext a; match a with | 0 => rfl | 1 => rfl⟩
      exact ref_merged _ _ _ _ _ _ _ t f

end Cert.BranchMerge

end
-- ==== Proof.SbBranchWeights.lean ====
/- The gradient of the weights of the stick-breaking branch, in four shards: the branch's transpose against the gradient of its product,
   summed over all tokens. The kernel runs through the tokens in eight blocks and keeps a running sum; over the extended reals
   it ends with the reference's array, whatever the arguments. -/
module

public import proofs.«01_k».proof.Defs
public import proofs.«01_k».proof.Proof.Gen.Kernel18Ideal.Value
public import proofs.«01_k».proof.Proof.Gen.Reference18Ideal.Read
public import proofs.«01_k».proof.Proof.Gen.Reference18Ideal.Run
public import Idealize.ShloMosaic.Lib.Pipeline.ValueKit
public import Idealize.ShloMosaic.Lib.Pipeline.ReadBack
public import Idealize.ShloMosaic.Lib.Pointwise
public import proofs.«01_k».proof.Proof.MemBlock

@[expose] public section

noncomputable section

namespace Cert.SbBranchWeights

open Idealize.ShloMosaic Idealize.ShloMosaic.TcCoe
open Idealize.ShloMosaic.Pipeline (Dat)

/-- The gradient of one weight: the sum over the tokens. -/
def gw (f : Cert.Kernel18Ideal.S8192x512.Idx → EReal) (g : Cert.Kernel18Ideal.S8192x1024.Idx → EReal) (i : Fin 512) (j : Fin 1024) : EReal :=
  ∑ l : Fin 8192, f (ix2 l i) * g (ix2 l j)

section Kernel

open Cert.Kernel18Ideal Cert.Kernel18Ideal.Gen

/-- Where each window's block lies at a point of the grid. -/
theorem idx : ∀ t : Fin cfg0.N, win0_0.index t = ![t.val % 8, 0] ∧ win0_1.index t = ![t.val % 8, 0] ∧ win0_2.index t = ![0, 0, 0] :=
  (by decide +kernel : ∀ t : Fin grid0.N, _)

variable (m : (ℓ : Loc nD τ sig) → Buf (Elt Ideal) ℓ) (c : Dev nD)

/-- The array that the kernel writes: a shard's columns lie one after the other in the gradient. -/
def arr : S4x512x256.Idx → EReal := fun i =>
  gw (m ((c : Thread nD τ).loc main_arg0)) (m ((c : Thread nD τ).loc main_arg1)) (i 1) ⟨(i 0).val * 256 + (i 2).val, by have h0 : (i 0).val < 4 := (i 0).isLt; have h2 : (i 2).val < 256 := (i 2).isLt; omega⟩

/-- A product of a block with the columns of one of four shards, over their rows, at one place. -/
def rows (a : Vec Ideal S1024x512 .bf16) (b : Vec Ideal S1024x1024 .bf16) (q : Fin 4) (i : Fin 512) (j : Fin 256) : EReal :=
  ∑ k : Fin 1024, a (ix2 k i) * b (ix2 k ⟨q.val * 256 + j.val, by omega⟩)

/-- What a point adds at one place of its block. -/
def term (t : Fin cfg0.N) (q : Fin 4) (i : Fin 512) (j : Fin 256) : EReal := rows (iblk m c 0 t) (iblk m c 1 t) q i j

/-- The reset's value is zero. -/
theorem reset_apply (i : S4x512x256.Idx) : k0_pay2 (F := Ideal) i = 0 := by
  pointwise [k0_pay2]

/-- One of the four shards, loaded. -/
theorem ld_one {e : EltTy} (X : Vec Ideal S4x512x256 e) (o : ℕ) (inb : ∀ a, ![o, 0, 0] a + ![1, 512, 256] a ≤ S4x512x256.size a) (ho : o < 4) (i : Fin 512) (j : Fin 256) :
    View.ld X (Rect.unit (s := S4x512x256) ![o, 0, 0] ![1, 512, 256] inb) (ix3 0 i j) = X (ix3 ⟨o, ho⟩ i j) := by
  pointwise

/-- The product at one place. -/
theorem prod_apply (a : Vec Ideal S1024x512 .bf16) (b : Vec Ideal S1024x1024 .bf16) (q : Fin 4) (i : Fin 512) (j : Fin 256) :
    k0_pay3 (F := Ideal) a b (ix2 i ⟨q.val * 256 + j.val, by omega⟩) = rows a b q i j := by
  pointwise [k0_pay3]
  rfl

/-- The arithmetic of the first shard's step at one place. -/
theorem first_apply (a : Vec Ideal S1024x512 .bf16) (b : Vec Ideal S1024x1024 .bf16) (acc : Vec Ideal S1x512x256 .f32) (i : Fin 512) (j : Fin 256) :
    k0_pay4 (F := Ideal) a b acc (ix3 0 i j) = acc (ix3 0 i j) + rows a b 0 i j := by
  rw [← prod_apply]
  pointwise [k0_pay4]

/-- The arithmetic of the second shard's step at one place. -/
theorem second_apply (a : Vec Ideal S1024x512 .bf16) (b : Vec Ideal S1024x1024 .bf16) (acc : Vec Ideal S1x512x256 .f32) (i : Fin 512) (j : Fin 256) :
    k0_pay5 (F := Ideal) a b acc (ix3 0 i j) = acc (ix3 0 i j) + rows a b 1 i j := by
  rw [← prod_apply]
  pointwise [k0_pay5]

/-- The arithmetic of the third shard's step at one place. -/
theorem third_apply (a : Vec Ideal S1024x512 .bf16) (b : Vec Ideal S1024x1024 .bf16) (acc : Vec Ideal S1x512x256 .f32) (i : Fin 512) (j : Fin 256) :
    k0_pay6 (F := Ideal) a b acc (ix3 0 i j) = acc (ix3 0 i j) + rows a b 2 i j := by
  rw [← prod_apply]
  pointwise [k0_pay6]

/-- The arithmetic of the fourth shard's step at one place. -/
theorem fourth_apply (a : Vec Ideal S1024x512 .bf16) (b : Vec Ideal S1024x1024 .bf16) (acc : Vec Ideal S1x512x256 .f32) (i : Fin 512) (j : Fin 256) :
    k0_pay1 (F := Ideal) (k0_pay3 a b) acc (ix3 0 i j) = acc (ix3 0 i j) + rows a b 3 i j := by
  rw [← prod_apply]
  pointwise [k0_pay1]

/-- A place of one shard's block, from its coordinates. -/
theorem place (x : S1x512x256.Idx) (i : Fin 512) (j : Fin 256) (h1 : i.val = (x 1).val) (h2 : j.val = (x 2).val) : x = ix3 0 i j := by
  funext a
  match a with
  | 0 => exact Subsingleton.elim (α := Fin 1) _ _
  | 1 => exact Fin.ext h1.symm
  | 2 => exact Fin.ext h2.symm

/-- The first point of the run starts from zero. -/
theorem first (t : Fin cfg0.N) (h : t.val % 8 = 0) (q : Fin 4) (i : Fin 512) (j : Fin 256) : outsAt0 m c t.val t.isLt (ix3 q i j) = 0 + term m c t q i j := by
  rw [outsAt0_A m c t h]
  frame_open
  simp (disch := decide) only [↓ View.readCov_skip, ↓ View.readCov_cons_toLoadRect, ↓ View.readCov_fill]
  frame_out
  refine (Cert.Mem.canon_covered [_, _, _, _] [_] _ ?_).trans ?_
  · exact View.cover_of_tiledBy _ ![1, 512, 256] (by sl_kernel_rfl) _
  canon_tiles x h
  · obtain rfl : q = ⟨3, by decide⟩ := Fin.ext (h0.trans (by show 3 + (x 0).val = 3; omega))
    obtain rfl := place x i j h1 h2
    rw [fourth_apply, ld_one _ 3 _ (by decide)]
    exact congrArg (· + _) (reset_apply _)
  · obtain rfl : q = ⟨2, by decide⟩ := Fin.ext (h0.trans (by show 2 + (x 0).val = 2; omega))
    obtain rfl := place x i j h1 h2
    rw [third_apply, ld_one _ 2 _ (by decide)]
    exact congrArg (· + _) (reset_apply _)
  · obtain rfl : q = ⟨1, by decide⟩ := Fin.ext (h0.trans (by show 1 + (x 0).val = 1; omega))
    obtain rfl := place x i j h1 h2
    rw [second_apply, ld_one _ 1 _ (by decide)]
    exact congrArg (· + _) (reset_apply _)
  · obtain rfl : q = ⟨0, by decide⟩ := Fin.ext (h0.trans (by show (x 0).val = 0; omega))
    obtain rfl := place x i j h1 h2
    rw [first_apply, ld_one _ 0 _ (by decide)]
    exact congrArg (· + _) (reset_apply _)

/-- A later point adds to what the point before left. -/
theorem later (t : Fin cfg0.N) (h : ¬t.val % 8 = 0) (q : Fin 4) (i : Fin 512) (j : Fin 256) : outsAt0 m c t.val t.isLt (ix3 q i j)
    = outsAt0 m c (t.val - 1) (by omega) (ix3 q i j) + term m c t q i j := by
  rw [outsAt0_B m c t h]
  frame_open
  simp (disch := decide) only [↓ View.readCov_skip, ↓ View.readCov_cons_toLoadRect, ↓ View.readCov_fill]
  frame_out
  canon_tiles x h
  · obtain rfl : q = ⟨3, by decide⟩ := Fin.ext (h0.trans (by show 3 + (x 0).val = 3; omega))
    obtain rfl := place x i j h1 h2
    rw [fourth_apply, ld_one _ 3 _ (by decide)]
    rfl
  · obtain rfl : q = ⟨2, by decide⟩ := Fin.ext (h0.trans (by show 2 + (x 0).val = 2; omega))
    obtain rfl := place x i j h1 h2
    rw [third_apply, ld_one _ 2 _ (by decide)]
    rfl
  · obtain rfl : q = ⟨1, by decide⟩ := Fin.ext (h0.trans (by show 1 + (x 0).val = 1; omega))
    obtain rfl := place x i j h1 h2
    rw [second_apply, ld_one _ 1 _ (by decide)]
    rfl
  · obtain rfl : q = ⟨0, by decide⟩ := Fin.ext (h0.trans (by show (x 0).val = 0; omega))
    obtain rfl := place x i j h1 h2
    rw [first_apply, ld_one _ 0 _ (by decide)]
    rfl

/-- The output array. -/
theorem arr2 : (dats m 0 c).arrAt 2 cfg0.N = arr m c := by
  refine (dats m 0 c).arrAt_eq_of_covers 2 _ (by decide +kernel) fun t hf y => ?_
  have hr := (flush0_2 t).mp hf
  have ht : t.val < 8 := t.isLt
  obtain ⟨q, i, j, rfl⟩ : ∃ (q : Fin 4) (i : Fin 512) (j : Fin 256), y = ix3 q i j := ⟨y 0, y 1, y 2, by
    funext a; match a with | 0 => rfl | 1 => rfl | 2 => rfl⟩
  blk_simp
  rw [after0_2]
  have E := Pipeline.eq_sum_fin_of_reset_step_apply_of_flush (fun n h (i : Fin 4 × Fin 512 × Fin 256) => outsAt0 m c n h (ix3 i.1 i.2.1 i.2.2)) 8 (fun _ => 0)
    (fun p i => term m c p i.1 i.2.1 i.2.2) (fun p h i => first m c p h i.1 i.2.1 i.2.2) (fun p h i => later m c p h i.1 i.2.1 i.2.2) t hr (q, i, j)
  refine E.trans ?_
  have e : (win0_2.blk t).view.emb (ix3 q i j) = ix3 q i j := by
    blk_ext [idx t]
  refine Eq.trans ?_ (congrArg (arr m c) e).symm
  rw [zero_add]
  unfold arr gw term rows
  refine Eq.trans ?_ (Fin.sum_mul_add_fin 8 1024 _)
  refine Finset.sum_congr rfl fun s _ => Finset.sum_congr rfl fun k _ => ?_
  have hs : (8 * (t.val / 8) + s.val) % 8 = s.val := by omega
  refine congrArg₂ (· * ·) ?_ ?_
  · blk_ext [iblk, V, idx ⟨8 * (t.val / 8) + s.val, Pipeline.run_point_lt_of_flush t hr s⟩, hs]
  · blk_ext [iblk, V, idx ⟨8 * (t.val / 8) + s.val, Pipeline.run_point_lt_of_flush t hr s⟩, hs]

end Kernel

section Reference

open Cert.Reference18Ideal Cert.Reference18Ideal.Gen Cert.Reference18Ideal.Read

variable (f : Vec Ideal S8192x512 .bf16) (g : Vec Ideal S8192x1024 .bf16)

/-- The reference at one entry: each shard of the result reads its columns of the branch's gradient. -/
theorem ref (s : Fin 4) (i : Fin 512) (j : Fin 256) : val_main_v14 (F := Ideal) f g (ix3 s i j) = gw f g i ⟨s.val * 256 + j.val, by omega⟩ := by
  unfold gw
  match s with
  | 0 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 1 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 2 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 3 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _

end Reference

/-- The reference leaves its arguments as they were and declares no semaphore. -/
theorem reference_frame : Cert.quiescent_Reference18Ideal := fun m ρ _ =>
  (θ_run Cert.Reference18Ideal.defs _ _).mono (fun r h => ⟨fun c => (h c).2,
    sem_eq_zero_of_no_sems (by decide) r.2⟩) (Cert.Reference18Ideal.Value.run (F := Ideal) m ρ)

/-- The kernel and the reference end with the same gradient. -/
theorem algebraic : Cert.algebraic_Kernel18Ideal_Reference18Ideal := by
  intro m ρ m' ρ' hpre hargs
  refine ⟨fun c => arr m c, (θ_run Cert.Kernel18Ideal.defs _ _).mono (fun r h c => ?_) (Cert.Kernel18Ideal.Value.run_blocks (F := Ideal) m ρ),
    (θ_run Cert.Reference18Ideal.defs _ _).mono (fun r h c => ?_) (Cert.Reference18Ideal.Value.run (F := Ideal) m' ρ')⟩
  · exact ⟨(h c).1.trans (arr2 m c), (h c).2⟩
  · refine ⟨(h c).1.trans ((Cert.Reference18Ideal.Read.val_main_v14_eq _ _).trans ?_), (h c).2⟩
    rw [(hargs c).1, (hargs c).2]
    funext y
    obtain ⟨s, i, j, rfl⟩ : ∃ (s : Fin 4) (i : Fin 512) (j : Fin 256), y = ix3 s i j := ⟨y 0, y 1, y 2, by
      funext a; match a with | 0 => rfl | 1 => rfl | 2 => rfl⟩
    exact ref _ _ s i j

end Cert.SbBranchWeights

end
-- ==== Proof.SbBranchInput.lean ====
/- The gradient that the stick-breaking branch receives: the gradient of its product against the transpose of its weights, in four shards.
   Over the extended reals the kernel and the reference end with the same array, whatever the arguments. -/
module

public import proofs.«01_k».proof.Defs
public import proofs.«01_k».proof.Proof.Gen.Kernel19Ideal.Value
public import proofs.«01_k».proof.Proof.Gen.Reference19Ideal.Read
public import proofs.«01_k».proof.Proof.Gen.Reference19Ideal.Run
public import Idealize.ShloMosaic.Lib.Pipeline.ValueKit
public import Idealize.ShloMosaic.Lib.Pipeline.ReadBack
public import Idealize.ShloMosaic.Lib.Pointwise

@[expose] public section

noncomputable section

namespace Cert.SbBranchInput

open Idealize.ShloMosaic Idealize.ShloMosaic.TcCoe
open Idealize.ShloMosaic.Pipeline (Dat)

/-- A shard's part of one entry: the sum over the shard's columns. -/
def part (dy : Cert.Kernel19Ideal.S8192x1024.Idx → EReal) (w : Cert.Kernel19Ideal.S4x512x256.Idx → EReal) (s : Fin 4) (t : Fin 8192) (d : Fin 512) : EReal :=
  ∑ k : Fin 256, dy (ix2 t ⟨s.val * 256 + k.val, by omega⟩) * w (ix3 s d k)

/-- One entry of the gradient: the four shards' parts. -/
def grad (dy : Cert.Kernel19Ideal.S8192x1024.Idx → EReal) (w : Cert.Kernel19Ideal.S4x512x256.Idx → EReal) (t : Fin 8192) (d : Fin 512) : EReal :=
  part dy w 0 t d + part dy w 1 t d + part dy w 2 t d + part dy w 3 t d

section Kernel

open Cert.Kernel19Ideal Cert.Kernel19Ideal.Gen

/-- Where each window's block lies at a point of the grid. -/
theorem idx : ∀ t : Fin cfg0.N, win0_0.index t = ![t.val, 0] ∧ win0_1.index t = ![0, 0, 0] ∧ win0_2.index t = ![t.val, 1] ∧ win0_3.index t = ![1, 0, 0]
    ∧ win0_4.index t = ![t.val, 2] ∧ win0_5.index t = ![2, 0, 0] ∧ win0_6.index t = ![t.val, 3] ∧ win0_7.index t = ![3, 0, 0] ∧ win0_8.index t = ![t.val, 0] :=
  (by decide +kernel : ∀ t : Fin grid0.N, _)

variable (m : (ℓ : Loc nD τ sig) → Buf (Elt Ideal) ℓ) (c : Dev nD)

/-- The array that the kernel writes. -/
def arr : S8192x512.Idx → EReal := fun i =>
  grad (m ((c : Thread nD τ).loc main_arg0)) (m ((c : Thread nD τ).loc main_arg1)) (i 0) (i 1)

/-- The output array. -/
theorem arr8 : (dats m 0 c).arrAt 8 cfg0.N = arr m c := by
  refine (dats m 0 c).arrAt_eq_of_covers 8 _ (by decide +kernel) fun t hf y => ?_
  have ht : t.val < 8 := t.isLt
  obtain ⟨r, d, rfl⟩ : ∃ (r : Fin 1024) (d : Fin 512), y = ix2 r d := ⟨y 0, y 1, by
    funext a; match a with | 0 => rfl | 1 => rfl⟩
  blk_simp
  rw [after0_8]
  have e : (win0_8.blk t).view.emb (ix2 r d) = ix2 ⟨t.val * 1024 + r.val, by omega⟩ d := by
    blk_ext [idx t]
  refine Eq.trans ?_ (congrArg (arr m c) e).symm
  frame_out
  pointwise [k0_pay1]
  unfold arr grad part
  blk_point [iblk, V, idx t]

end Kernel

section Reference

open Cert.Reference19Ideal Cert.Reference19Ideal.Gen Cert.Reference19Ideal.Read

/-- The reference at one entry, cut into the four shards. -/
theorem ref (dy : Vec Ideal S8192x1024 .bf16) (w : Vec Ideal S4x512x256 .bf16) (t : Fin 8192) (d : Fin 512) : val_main_v14 (F := Ideal) dy w (ix2 t d) = grad dy w t d := by
  pointwise [val_main_v14, val_main_v13, val_main_v12, val_main_v11, val_main_v10, val_main_cst, val_main_v9, val_main_v8, val_main_v7, val_main_v6, val_main_v5,
      val_main_v4, val_main_v3, val_main_v2, val_main_v1, val_main_v0]
  rw [← Fin.sum_mul_add_fin 4 256, Fin.sum_univ_four]
  unfold grad part
  refine congrArg₂ (· + ·) (congrArg₂ (· + ·) (congrArg₂ (· + ·) ?_ ?_) ?_) ?_ <;> refine Finset.sum_congr rfl fun k _ => ?_
  · rw [dif_pos (by show 0 * 256 + k.val < 256; omega)]
    exact congrArg (fun l => dy (ix2 t _) * w (ix3 0 d l)) (Fin.ext (by show 0 * 256 + k.val = k.val; omega))
  · rw [dif_neg (by show ¬ 1 * 256 + k.val < 256; omega), dif_pos (by show 1 * 256 + k.val - 256 < 256; omega)]
    exact congrArg (fun l => dy (ix2 t _) * w (ix3 1 d l)) (Fin.ext (by show 1 * 256 + k.val - 256 = k.val; omega))
  · rw [dif_neg (by show ¬ 2 * 256 + k.val < 256; omega), dif_neg (by show ¬ 2 * 256 + k.val - 256 < 256; omega), dif_pos (by show 2 * 256 + k.val - 256 - 256 < 256; omega)]
    exact congrArg (fun l => dy (ix2 t _) * w (ix3 2 d l)) (Fin.ext (by show 2 * 256 + k.val - 256 - 256 = k.val; omega))
  · rw [dif_neg (by show ¬ 3 * 256 + k.val < 256; omega), dif_neg (by show ¬ 3 * 256 + k.val - 256 < 256; omega), dif_neg (by show ¬ 3 * 256 + k.val - 256 - 256 < 256; omega)]
    exact congrArg (fun l => dy (ix2 t _) * w (ix3 3 d l)) (Fin.ext (by show 3 * 256 + k.val - 256 - 256 - 256 = k.val; omega))

end Reference

/-- The reference leaves its arguments as they were and declares no semaphore. -/
theorem reference_frame : Cert.quiescent_Reference19Ideal := fun m ρ _ =>
  (θ_run Cert.Reference19Ideal.defs _ _).mono (fun r h => ⟨fun c => (h c).2,
    sem_eq_zero_of_no_sems (by decide) r.2⟩) (Cert.Reference19Ideal.Value.run (F := Ideal) m ρ)

/-- The kernel and the reference end with the same gradient. -/
theorem algebraic : Cert.algebraic_Kernel19Ideal_Reference19Ideal := by
  intro m ρ m' ρ' hpre hargs
  refine ⟨fun c => arr m c, (θ_run Cert.Kernel19Ideal.defs _ _).mono (fun r h c => ?_) (Cert.Kernel19Ideal.Value.run_blocks (F := Ideal) m ρ),
    (θ_run Cert.Reference19Ideal.defs _ _).mono (fun r h c => ?_) (Cert.Reference19Ideal.Value.run (F := Ideal) m' ρ')⟩
  · exact ⟨(h c).1.trans (arr8 m c), (h c).2⟩
  · refine ⟨(h c).1.trans ((Cert.Reference19Ideal.Read.val_main_v14_eq _ _).trans ?_), (h c).2⟩
    rw [(hargs c).1, (hargs c).2]
    funext y
    obtain ⟨t, d, rfl⟩ : ∃ (t : Fin 8192) (d : Fin 512), y = ix2 t d := ⟨y 0, y 1, by
      funext a; match a with | 0 => rfl | 1 => rfl⟩
    exact ref _ _ t d

end Cert.SbBranchInput

end
-- ==== Proof.MemBranchWeights.lean ====
/- The gradient of the weights of the memory branch, in four shards: the branch's transpose against the gradient of its product,
   summed over all tokens. The kernel runs through the tokens in eight blocks and keeps a running sum; over the extended reals
   it ends with the reference's array, whatever the arguments. -/
module

public import proofs.«01_k».proof.Defs
public import proofs.«01_k».proof.Proof.Gen.Kernel20Ideal.Value
public import proofs.«01_k».proof.Proof.Gen.Reference20Ideal.Read
public import proofs.«01_k».proof.Proof.Gen.Reference20Ideal.Run
public import Idealize.ShloMosaic.Lib.Pipeline.ValueKit
public import Idealize.ShloMosaic.Lib.Pipeline.ReadBack
public import Idealize.ShloMosaic.Lib.Pointwise
public import proofs.«01_k».proof.Proof.MemBlock

@[expose] public section

noncomputable section

namespace Cert.MemBranchWeights

open Idealize.ShloMosaic Idealize.ShloMosaic.TcCoe
open Idealize.ShloMosaic.Pipeline (Dat)

/-- The gradient of one weight: the sum over the tokens. -/
def gw (f : Cert.Kernel20Ideal.S8192x512.Idx → EReal) (g : Cert.Kernel20Ideal.S8192x1024.Idx → EReal) (i : Fin 512) (j : Fin 1024) : EReal :=
  ∑ l : Fin 8192, f (ix2 l i) * g (ix2 l j)

section Kernel

open Cert.Kernel20Ideal Cert.Kernel20Ideal.Gen

/-- Where each window's block lies at a point of the grid. -/
theorem idx : ∀ t : Fin cfg0.N, win0_0.index t = ![t.val % 8, 0] ∧ win0_1.index t = ![t.val % 8, 0] ∧ win0_2.index t = ![0, 0, 0] :=
  (by decide +kernel : ∀ t : Fin grid0.N, _)

variable (m : (ℓ : Loc nD τ sig) → Buf (Elt Ideal) ℓ) (c : Dev nD)

/-- The array that the kernel writes: a shard's columns lie one after the other in the gradient. -/
def arr : S4x512x256.Idx → EReal := fun i =>
  gw (m ((c : Thread nD τ).loc main_arg0)) (m ((c : Thread nD τ).loc main_arg1)) (i 1) ⟨(i 0).val * 256 + (i 2).val, by have h0 : (i 0).val < 4 := (i 0).isLt; have h2 : (i 2).val < 256 := (i 2).isLt; omega⟩

/-- A product of a block with the columns of one of four shards, over their rows, at one place. -/
def rows (a : Vec Ideal S1024x512 .bf16) (b : Vec Ideal S1024x1024 .bf16) (q : Fin 4) (i : Fin 512) (j : Fin 256) : EReal :=
  ∑ k : Fin 1024, a (ix2 k i) * b (ix2 k ⟨q.val * 256 + j.val, by omega⟩)

/-- What a point adds at one place of its block. -/
def term (t : Fin cfg0.N) (q : Fin 4) (i : Fin 512) (j : Fin 256) : EReal := rows (iblk m c 0 t) (iblk m c 1 t) q i j

/-- The reset's value is zero. -/
theorem reset_apply (i : S4x512x256.Idx) : k0_pay2 (F := Ideal) i = 0 := by
  pointwise [k0_pay2]

/-- One of the four shards, loaded. -/
theorem ld_one {e : EltTy} (X : Vec Ideal S4x512x256 e) (o : ℕ) (inb : ∀ a, ![o, 0, 0] a + ![1, 512, 256] a ≤ S4x512x256.size a) (ho : o < 4) (i : Fin 512) (j : Fin 256) :
    View.ld X (Rect.unit (s := S4x512x256) ![o, 0, 0] ![1, 512, 256] inb) (ix3 0 i j) = X (ix3 ⟨o, ho⟩ i j) := by
  pointwise

/-- The product at one place. -/
theorem prod_apply (a : Vec Ideal S1024x512 .bf16) (b : Vec Ideal S1024x1024 .bf16) (q : Fin 4) (i : Fin 512) (j : Fin 256) :
    k0_pay3 (F := Ideal) a b (ix2 i ⟨q.val * 256 + j.val, by omega⟩) = rows a b q i j := by
  pointwise [k0_pay3]
  rfl

/-- The arithmetic of the first shard's step at one place. -/
theorem first_apply (a : Vec Ideal S1024x512 .bf16) (b : Vec Ideal S1024x1024 .bf16) (acc : Vec Ideal S1x512x256 .f32) (i : Fin 512) (j : Fin 256) :
    k0_pay4 (F := Ideal) a b acc (ix3 0 i j) = acc (ix3 0 i j) + rows a b 0 i j := by
  rw [← prod_apply]
  pointwise [k0_pay4]

/-- The arithmetic of the second shard's step at one place. -/
theorem second_apply (a : Vec Ideal S1024x512 .bf16) (b : Vec Ideal S1024x1024 .bf16) (acc : Vec Ideal S1x512x256 .f32) (i : Fin 512) (j : Fin 256) :
    k0_pay5 (F := Ideal) a b acc (ix3 0 i j) = acc (ix3 0 i j) + rows a b 1 i j := by
  rw [← prod_apply]
  pointwise [k0_pay5]

/-- The arithmetic of the third shard's step at one place. -/
theorem third_apply (a : Vec Ideal S1024x512 .bf16) (b : Vec Ideal S1024x1024 .bf16) (acc : Vec Ideal S1x512x256 .f32) (i : Fin 512) (j : Fin 256) :
    k0_pay6 (F := Ideal) a b acc (ix3 0 i j) = acc (ix3 0 i j) + rows a b 2 i j := by
  rw [← prod_apply]
  pointwise [k0_pay6]

/-- The arithmetic of the fourth shard's step at one place. -/
theorem fourth_apply (a : Vec Ideal S1024x512 .bf16) (b : Vec Ideal S1024x1024 .bf16) (acc : Vec Ideal S1x512x256 .f32) (i : Fin 512) (j : Fin 256) :
    k0_pay1 (F := Ideal) (k0_pay3 a b) acc (ix3 0 i j) = acc (ix3 0 i j) + rows a b 3 i j := by
  rw [← prod_apply]
  pointwise [k0_pay1]

/-- A place of one shard's block, from its coordinates. -/
theorem place (x : S1x512x256.Idx) (i : Fin 512) (j : Fin 256) (h1 : i.val = (x 1).val) (h2 : j.val = (x 2).val) : x = ix3 0 i j := by
  funext a
  match a with
  | 0 => exact Subsingleton.elim (α := Fin 1) _ _
  | 1 => exact Fin.ext h1.symm
  | 2 => exact Fin.ext h2.symm

/-- The first point of the run starts from zero. -/
theorem first (t : Fin cfg0.N) (h : t.val % 8 = 0) (q : Fin 4) (i : Fin 512) (j : Fin 256) : outsAt0 m c t.val t.isLt (ix3 q i j) = 0 + term m c t q i j := by
  rw [outsAt0_A m c t h]
  frame_open
  simp (disch := decide) only [↓ View.readCov_skip, ↓ View.readCov_cons_toLoadRect, ↓ View.readCov_fill]
  frame_out
  refine (Cert.Mem.canon_covered [_, _, _, _] [_] _ ?_).trans ?_
  · exact View.cover_of_tiledBy _ ![1, 512, 256] (by sl_kernel_rfl) _
  canon_tiles x h
  · obtain rfl : q = ⟨3, by decide⟩ := Fin.ext (h0.trans (by show 3 + (x 0).val = 3; omega))
    obtain rfl := place x i j h1 h2
    rw [fourth_apply, ld_one _ 3 _ (by decide)]
    exact congrArg (· + _) (reset_apply _)
  · obtain rfl : q = ⟨2, by decide⟩ := Fin.ext (h0.trans (by show 2 + (x 0).val = 2; omega))
    obtain rfl := place x i j h1 h2
    rw [third_apply, ld_one _ 2 _ (by decide)]
    exact congrArg (· + _) (reset_apply _)
  · obtain rfl : q = ⟨1, by decide⟩ := Fin.ext (h0.trans (by show 1 + (x 0).val = 1; omega))
    obtain rfl := place x i j h1 h2
    rw [second_apply, ld_one _ 1 _ (by decide)]
    exact congrArg (· + _) (reset_apply _)
  · obtain rfl : q = ⟨0, by decide⟩ := Fin.ext (h0.trans (by show (x 0).val = 0; omega))
    obtain rfl := place x i j h1 h2
    rw [first_apply, ld_one _ 0 _ (by decide)]
    exact congrArg (· + _) (reset_apply _)

/-- A later point adds to what the point before left. -/
theorem later (t : Fin cfg0.N) (h : ¬t.val % 8 = 0) (q : Fin 4) (i : Fin 512) (j : Fin 256) : outsAt0 m c t.val t.isLt (ix3 q i j)
    = outsAt0 m c (t.val - 1) (by omega) (ix3 q i j) + term m c t q i j := by
  rw [outsAt0_B m c t h]
  frame_open
  simp (disch := decide) only [↓ View.readCov_skip, ↓ View.readCov_cons_toLoadRect, ↓ View.readCov_fill]
  frame_out
  canon_tiles x h
  · obtain rfl : q = ⟨3, by decide⟩ := Fin.ext (h0.trans (by show 3 + (x 0).val = 3; omega))
    obtain rfl := place x i j h1 h2
    rw [fourth_apply, ld_one _ 3 _ (by decide)]
    rfl
  · obtain rfl : q = ⟨2, by decide⟩ := Fin.ext (h0.trans (by show 2 + (x 0).val = 2; omega))
    obtain rfl := place x i j h1 h2
    rw [third_apply, ld_one _ 2 _ (by decide)]
    rfl
  · obtain rfl : q = ⟨1, by decide⟩ := Fin.ext (h0.trans (by show 1 + (x 0).val = 1; omega))
    obtain rfl := place x i j h1 h2
    rw [second_apply, ld_one _ 1 _ (by decide)]
    rfl
  · obtain rfl : q = ⟨0, by decide⟩ := Fin.ext (h0.trans (by show (x 0).val = 0; omega))
    obtain rfl := place x i j h1 h2
    rw [first_apply, ld_one _ 0 _ (by decide)]
    rfl

/-- The output array. -/
theorem arr2 : (dats m 0 c).arrAt 2 cfg0.N = arr m c := by
  refine (dats m 0 c).arrAt_eq_of_covers 2 _ (by decide +kernel) fun t hf y => ?_
  have hr := (flush0_2 t).mp hf
  have ht : t.val < 8 := t.isLt
  obtain ⟨q, i, j, rfl⟩ : ∃ (q : Fin 4) (i : Fin 512) (j : Fin 256), y = ix3 q i j := ⟨y 0, y 1, y 2, by
    funext a; match a with | 0 => rfl | 1 => rfl | 2 => rfl⟩
  blk_simp
  rw [after0_2]
  have E := Pipeline.eq_sum_fin_of_reset_step_apply_of_flush (fun n h (i : Fin 4 × Fin 512 × Fin 256) => outsAt0 m c n h (ix3 i.1 i.2.1 i.2.2)) 8 (fun _ => 0)
    (fun p i => term m c p i.1 i.2.1 i.2.2) (fun p h i => first m c p h i.1 i.2.1 i.2.2) (fun p h i => later m c p h i.1 i.2.1 i.2.2) t hr (q, i, j)
  refine E.trans ?_
  have e : (win0_2.blk t).view.emb (ix3 q i j) = ix3 q i j := by
    blk_ext [idx t]
  refine Eq.trans ?_ (congrArg (arr m c) e).symm
  rw [zero_add]
  unfold arr gw term rows
  refine Eq.trans ?_ (Fin.sum_mul_add_fin 8 1024 _)
  refine Finset.sum_congr rfl fun s _ => Finset.sum_congr rfl fun k _ => ?_
  have hs : (8 * (t.val / 8) + s.val) % 8 = s.val := by omega
  refine congrArg₂ (· * ·) ?_ ?_
  · blk_ext [iblk, V, idx ⟨8 * (t.val / 8) + s.val, Pipeline.run_point_lt_of_flush t hr s⟩, hs]
  · blk_ext [iblk, V, idx ⟨8 * (t.val / 8) + s.val, Pipeline.run_point_lt_of_flush t hr s⟩, hs]

end Kernel

section Reference

open Cert.Reference20Ideal Cert.Reference20Ideal.Gen Cert.Reference20Ideal.Read

variable (f : Vec Ideal S8192x512 .bf16) (g : Vec Ideal S8192x1024 .bf16)

/-- The reference at one entry: each shard of the result reads its columns of the branch's gradient. -/
theorem ref (s : Fin 4) (i : Fin 512) (j : Fin 256) : val_main_v14 (F := Ideal) f g (ix3 s i j) = gw f g i ⟨s.val * 256 + j.val, by omega⟩ := by
  unfold gw
  match s with
  | 0 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 1 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 2 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 3 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _

end Reference

/-- The reference leaves its arguments as they were and declares no semaphore. -/
theorem reference_frame : Cert.quiescent_Reference20Ideal := fun m ρ _ =>
  (θ_run Cert.Reference20Ideal.defs _ _).mono (fun r h => ⟨fun c => (h c).2,
    sem_eq_zero_of_no_sems (by decide) r.2⟩) (Cert.Reference20Ideal.Value.run (F := Ideal) m ρ)

/-- The kernel and the reference end with the same gradient. -/
theorem algebraic : Cert.algebraic_Kernel20Ideal_Reference20Ideal := by
  intro m ρ m' ρ' hpre hargs
  refine ⟨fun c => arr m c, (θ_run Cert.Kernel20Ideal.defs _ _).mono (fun r h c => ?_) (Cert.Kernel20Ideal.Value.run_blocks (F := Ideal) m ρ),
    (θ_run Cert.Reference20Ideal.defs _ _).mono (fun r h c => ?_) (Cert.Reference20Ideal.Value.run (F := Ideal) m' ρ')⟩
  · exact ⟨(h c).1.trans (arr2 m c), (h c).2⟩
  · refine ⟨(h c).1.trans ((Cert.Reference20Ideal.Read.val_main_v14_eq _ _).trans ?_), (h c).2⟩
    rw [(hargs c).1, (hargs c).2]
    funext y
    obtain ⟨s, i, j, rfl⟩ : ∃ (s : Fin 4) (i : Fin 512) (j : Fin 256), y = ix3 s i j := ⟨y 0, y 1, y 2, by
      funext a; match a with | 0 => rfl | 1 => rfl | 2 => rfl⟩
    exact ref _ _ s i j

end Cert.MemBranchWeights

end
-- ==== Proof.MemBranchInput.lean ====
/- The gradient that the memory branch receives: the gradient of its product against the transpose of its weights, in four shards.
   Over the extended reals the kernel and the reference end with the same array, whatever the arguments. -/
module

public import proofs.«01_k».proof.Defs
public import proofs.«01_k».proof.Proof.Gen.Kernel21Ideal.Value
public import proofs.«01_k».proof.Proof.Gen.Reference21Ideal.Read
public import proofs.«01_k».proof.Proof.Gen.Reference21Ideal.Run
public import Idealize.ShloMosaic.Lib.Pipeline.ValueKit
public import Idealize.ShloMosaic.Lib.Pipeline.ReadBack
public import Idealize.ShloMosaic.Lib.Pointwise

@[expose] public section

noncomputable section

namespace Cert.MemBranchInput

open Idealize.ShloMosaic Idealize.ShloMosaic.TcCoe
open Idealize.ShloMosaic.Pipeline (Dat)

/-- A shard's part of one entry: the sum over the shard's columns. -/
def part (dy : Cert.Kernel21Ideal.S8192x1024.Idx → EReal) (w : Cert.Kernel21Ideal.S4x512x256.Idx → EReal) (s : Fin 4) (t : Fin 8192) (d : Fin 512) : EReal :=
  ∑ k : Fin 256, dy (ix2 t ⟨s.val * 256 + k.val, by omega⟩) * w (ix3 s d k)

/-- One entry of the gradient: the four shards' parts. -/
def grad (dy : Cert.Kernel21Ideal.S8192x1024.Idx → EReal) (w : Cert.Kernel21Ideal.S4x512x256.Idx → EReal) (t : Fin 8192) (d : Fin 512) : EReal :=
  part dy w 0 t d + part dy w 1 t d + part dy w 2 t d + part dy w 3 t d

section Kernel

open Cert.Kernel21Ideal Cert.Kernel21Ideal.Gen

/-- Where each window's block lies at a point of the grid. -/
theorem idx : ∀ t : Fin cfg0.N, win0_0.index t = ![t.val, 0] ∧ win0_1.index t = ![0, 0, 0] ∧ win0_2.index t = ![t.val, 1] ∧ win0_3.index t = ![1, 0, 0]
    ∧ win0_4.index t = ![t.val, 2] ∧ win0_5.index t = ![2, 0, 0] ∧ win0_6.index t = ![t.val, 3] ∧ win0_7.index t = ![3, 0, 0] ∧ win0_8.index t = ![t.val, 0] :=
  (by decide +kernel : ∀ t : Fin grid0.N, _)

variable (m : (ℓ : Loc nD τ sig) → Buf (Elt Ideal) ℓ) (c : Dev nD)

/-- The array that the kernel writes. -/
def arr : S8192x512.Idx → EReal := fun i =>
  grad (m ((c : Thread nD τ).loc main_arg0)) (m ((c : Thread nD τ).loc main_arg1)) (i 0) (i 1)

/-- The output array. -/
theorem arr8 : (dats m 0 c).arrAt 8 cfg0.N = arr m c := by
  refine (dats m 0 c).arrAt_eq_of_covers 8 _ (by decide +kernel) fun t hf y => ?_
  have ht : t.val < 8 := t.isLt
  obtain ⟨r, d, rfl⟩ : ∃ (r : Fin 1024) (d : Fin 512), y = ix2 r d := ⟨y 0, y 1, by
    funext a; match a with | 0 => rfl | 1 => rfl⟩
  blk_simp
  rw [after0_8]
  have e : (win0_8.blk t).view.emb (ix2 r d) = ix2 ⟨t.val * 1024 + r.val, by omega⟩ d := by
    blk_ext [idx t]
  refine Eq.trans ?_ (congrArg (arr m c) e).symm
  frame_out
  pointwise [k0_pay1]
  unfold arr grad part
  blk_point [iblk, V, idx t]

end Kernel

section Reference

open Cert.Reference21Ideal Cert.Reference21Ideal.Gen Cert.Reference21Ideal.Read

/-- The reference at one entry, cut into the four shards. -/
theorem ref (dy : Vec Ideal S8192x1024 .bf16) (w : Vec Ideal S4x512x256 .bf16) (t : Fin 8192) (d : Fin 512) : val_main_v14 (F := Ideal) dy w (ix2 t d) = grad dy w t d := by
  pointwise [val_main_v14, val_main_v13, val_main_v12, val_main_v11, val_main_v10, val_main_cst, val_main_v9, val_main_v8, val_main_v7, val_main_v6, val_main_v5,
      val_main_v4, val_main_v3, val_main_v2, val_main_v1, val_main_v0]
  rw [← Fin.sum_mul_add_fin 4 256, Fin.sum_univ_four]
  unfold grad part
  refine congrArg₂ (· + ·) (congrArg₂ (· + ·) (congrArg₂ (· + ·) ?_ ?_) ?_) ?_ <;> refine Finset.sum_congr rfl fun k _ => ?_
  · rw [dif_pos (by show 0 * 256 + k.val < 256; omega)]
    exact congrArg (fun l => dy (ix2 t _) * w (ix3 0 d l)) (Fin.ext (by show 0 * 256 + k.val = k.val; omega))
  · rw [dif_neg (by show ¬ 1 * 256 + k.val < 256; omega), dif_pos (by show 1 * 256 + k.val - 256 < 256; omega)]
    exact congrArg (fun l => dy (ix2 t _) * w (ix3 1 d l)) (Fin.ext (by show 1 * 256 + k.val - 256 = k.val; omega))
  · rw [dif_neg (by show ¬ 2 * 256 + k.val < 256; omega), dif_neg (by show ¬ 2 * 256 + k.val - 256 < 256; omega), dif_pos (by show 2 * 256 + k.val - 256 - 256 < 256; omega)]
    exact congrArg (fun l => dy (ix2 t _) * w (ix3 2 d l)) (Fin.ext (by show 2 * 256 + k.val - 256 - 256 = k.val; omega))
  · rw [dif_neg (by show ¬ 3 * 256 + k.val < 256; omega), dif_neg (by show ¬ 3 * 256 + k.val - 256 < 256; omega), dif_neg (by show ¬ 3 * 256 + k.val - 256 - 256 < 256; omega)]
    exact congrArg (fun l => dy (ix2 t _) * w (ix3 3 d l)) (Fin.ext (by show 3 * 256 + k.val - 256 - 256 - 256 = k.val; omega))

end Reference

/-- The reference leaves its arguments as they were and declares no semaphore. -/
theorem reference_frame : Cert.quiescent_Reference21Ideal := fun m ρ _ =>
  (θ_run Cert.Reference21Ideal.defs _ _).mono (fun r h => ⟨fun c => (h c).2,
    sem_eq_zero_of_no_sems (by decide) r.2⟩) (Cert.Reference21Ideal.Value.run (F := Ideal) m ρ)

/-- The kernel and the reference end with the same gradient. -/
theorem algebraic : Cert.algebraic_Kernel21Ideal_Reference21Ideal := by
  intro m ρ m' ρ' hpre hargs
  refine ⟨fun c => arr m c, (θ_run Cert.Kernel21Ideal.defs _ _).mono (fun r h c => ?_) (Cert.Kernel21Ideal.Value.run_blocks (F := Ideal) m ρ),
    (θ_run Cert.Reference21Ideal.defs _ _).mono (fun r h c => ?_) (Cert.Reference21Ideal.Value.run (F := Ideal) m' ρ')⟩
  · exact ⟨(h c).1.trans (arr8 m c), (h c).2⟩
  · refine ⟨(h c).1.trans ((Cert.Reference21Ideal.Read.val_main_v14_eq _ _).trans ?_), (h c).2⟩
    rw [(hargs c).1, (hargs c).2]
    funext y
    obtain ⟨t, d, rfl⟩ : ∃ (t : Fin 8192) (d : Fin 512), y = ix2 t d := ⟨y 0, y 1, by
      funext a; match a with | 0 => rfl | 1 => rfl⟩
    exact ref _ _ t d

end Cert.MemBranchInput

end
-- ==== Proof.DilatedBranchWeights.lean ====
/- The gradient of the weights of the dilated branch, in four shards: the branch's transpose against the gradient of its product,
   summed over all tokens. The kernel runs through the tokens in eight blocks and keeps a running sum; over the extended reals
   it ends with the reference's array, whatever the arguments. -/
module

public import proofs.«01_k».proof.Defs
public import proofs.«01_k».proof.Proof.Gen.Kernel22Ideal.Value
public import proofs.«01_k».proof.Proof.Gen.Reference22Ideal.Read
public import proofs.«01_k».proof.Proof.Gen.Reference22Ideal.Run
public import Idealize.ShloMosaic.Lib.Pipeline.ValueKit
public import Idealize.ShloMosaic.Lib.Pipeline.ReadBack
public import Idealize.ShloMosaic.Lib.Pointwise
public import proofs.«01_k».proof.Proof.MemBlock

@[expose] public section

noncomputable section

namespace Cert.DilatedBranchWeights

open Idealize.ShloMosaic Idealize.ShloMosaic.TcCoe
open Idealize.ShloMosaic.Pipeline (Dat)

/-- The gradient of one weight: the sum over the tokens. -/
def gw (f : Cert.Kernel22Ideal.S8192x256.Idx → EReal) (g : Cert.Kernel22Ideal.S8192x1024.Idx → EReal) (i : Fin 256) (j : Fin 1024) : EReal :=
  ∑ l : Fin 8192, f (ix2 l i) * g (ix2 l j)

section Kernel

open Cert.Kernel22Ideal Cert.Kernel22Ideal.Gen

/-- Where each window's block lies at a point of the grid. -/
theorem idx : ∀ t : Fin cfg0.N, win0_0.index t = ![t.val % 8, 0] ∧ win0_1.index t = ![t.val % 8, 0] ∧ win0_2.index t = ![0, 0, 0] :=
  (by decide +kernel : ∀ t : Fin grid0.N, _)

variable (m : (ℓ : Loc nD τ sig) → Buf (Elt Ideal) ℓ) (c : Dev nD)

/-- The array that the kernel writes: a shard's columns lie one after the other in the gradient. -/
def arr : S4x256x256.Idx → EReal := fun i =>
  gw (m ((c : Thread nD τ).loc main_arg0)) (m ((c : Thread nD τ).loc main_arg1)) (i 1) ⟨(i 0).val * 256 + (i 2).val, by have h0 : (i 0).val < 4 := (i 0).isLt; have h2 : (i 2).val < 256 := (i 2).isLt; omega⟩

/-- A product of a block with the columns of one of four shards, over their rows, at one place. -/
def rows (a : Vec Ideal S1024x256 .bf16) (b : Vec Ideal S1024x1024 .bf16) (q : Fin 4) (i : Fin 256) (j : Fin 256) : EReal :=
  ∑ k : Fin 1024, a (ix2 k i) * b (ix2 k ⟨q.val * 256 + j.val, by omega⟩)

/-- What a point adds at one place of its block. -/
def term (t : Fin cfg0.N) (q : Fin 4) (i : Fin 256) (j : Fin 256) : EReal := rows (iblk m c 0 t) (iblk m c 1 t) q i j

/-- The reset's value is zero. -/
theorem reset_apply (i : S4x256x256.Idx) : k0_pay2 (F := Ideal) i = 0 := by
  pointwise [k0_pay2]

/-- One of the four shards, loaded. -/
theorem ld_one {e : EltTy} (X : Vec Ideal S4x256x256 e) (o : ℕ) (inb : ∀ a, ![o, 0, 0] a + ![1, 256, 256] a ≤ S4x256x256.size a) (ho : o < 4) (i : Fin 256) (j : Fin 256) :
    View.ld X (Rect.unit (s := S4x256x256) ![o, 0, 0] ![1, 256, 256] inb) (ix3 0 i j) = X (ix3 ⟨o, ho⟩ i j) := by
  pointwise

/-- The product at one place. -/
theorem prod_apply (a : Vec Ideal S1024x256 .bf16) (b : Vec Ideal S1024x1024 .bf16) (q : Fin 4) (i : Fin 256) (j : Fin 256) :
    k0_pay3 (F := Ideal) a b (ix2 i ⟨q.val * 256 + j.val, by omega⟩) = rows a b q i j := by
  pointwise [k0_pay3]
  rfl

/-- The arithmetic of the first shard's step at one place. -/
theorem first_apply (a : Vec Ideal S1024x256 .bf16) (b : Vec Ideal S1024x1024 .bf16) (acc : Vec Ideal S1x256x256 .f32) (i : Fin 256) (j : Fin 256) :
    k0_pay4 (F := Ideal) a b acc (ix3 0 i j) = acc (ix3 0 i j) + rows a b 0 i j := by
  rw [← prod_apply]
  pointwise [k0_pay4]

/-- The arithmetic of the second shard's step at one place. -/
theorem second_apply (a : Vec Ideal S1024x256 .bf16) (b : Vec Ideal S1024x1024 .bf16) (acc : Vec Ideal S1x256x256 .f32) (i : Fin 256) (j : Fin 256) :
    k0_pay5 (F := Ideal) a b acc (ix3 0 i j) = acc (ix3 0 i j) + rows a b 1 i j := by
  rw [← prod_apply]
  pointwise [k0_pay5]

/-- The arithmetic of the third shard's step at one place. -/
theorem third_apply (a : Vec Ideal S1024x256 .bf16) (b : Vec Ideal S1024x1024 .bf16) (acc : Vec Ideal S1x256x256 .f32) (i : Fin 256) (j : Fin 256) :
    k0_pay6 (F := Ideal) a b acc (ix3 0 i j) = acc (ix3 0 i j) + rows a b 2 i j := by
  rw [← prod_apply]
  pointwise [k0_pay6]

/-- The arithmetic of the fourth shard's step at one place. -/
theorem fourth_apply (a : Vec Ideal S1024x256 .bf16) (b : Vec Ideal S1024x1024 .bf16) (acc : Vec Ideal S1x256x256 .f32) (i : Fin 256) (j : Fin 256) :
    k0_pay1 (F := Ideal) (k0_pay3 a b) acc (ix3 0 i j) = acc (ix3 0 i j) + rows a b 3 i j := by
  rw [← prod_apply]
  pointwise [k0_pay1]

/-- A place of one shard's block, from its coordinates. -/
theorem place (x : S1x256x256.Idx) (i : Fin 256) (j : Fin 256) (h1 : i.val = (x 1).val) (h2 : j.val = (x 2).val) : x = ix3 0 i j := by
  funext a
  match a with
  | 0 => exact Subsingleton.elim (α := Fin 1) _ _
  | 1 => exact Fin.ext h1.symm
  | 2 => exact Fin.ext h2.symm

/-- The first point of the run starts from zero. -/
theorem first (t : Fin cfg0.N) (h : t.val % 8 = 0) (q : Fin 4) (i : Fin 256) (j : Fin 256) : outsAt0 m c t.val t.isLt (ix3 q i j) = 0 + term m c t q i j := by
  rw [outsAt0_A m c t h]
  frame_open
  simp (disch := decide) only [↓ View.readCov_skip, ↓ View.readCov_cons_toLoadRect, ↓ View.readCov_fill]
  frame_out
  refine (Cert.Mem.canon_covered [_, _, _, _] [_] _ ?_).trans ?_
  · exact View.cover_of_tiledBy _ ![1, 256, 256] (by sl_kernel_rfl) _
  canon_tiles x h
  · obtain rfl : q = ⟨3, by decide⟩ := Fin.ext (h0.trans (by show 3 + (x 0).val = 3; omega))
    obtain rfl := place x i j h1 h2
    rw [fourth_apply, ld_one _ 3 _ (by decide)]
    exact congrArg (· + _) (reset_apply _)
  · obtain rfl : q = ⟨2, by decide⟩ := Fin.ext (h0.trans (by show 2 + (x 0).val = 2; omega))
    obtain rfl := place x i j h1 h2
    rw [third_apply, ld_one _ 2 _ (by decide)]
    exact congrArg (· + _) (reset_apply _)
  · obtain rfl : q = ⟨1, by decide⟩ := Fin.ext (h0.trans (by show 1 + (x 0).val = 1; omega))
    obtain rfl := place x i j h1 h2
    rw [second_apply, ld_one _ 1 _ (by decide)]
    exact congrArg (· + _) (reset_apply _)
  · obtain rfl : q = ⟨0, by decide⟩ := Fin.ext (h0.trans (by show (x 0).val = 0; omega))
    obtain rfl := place x i j h1 h2
    rw [first_apply, ld_one _ 0 _ (by decide)]
    exact congrArg (· + _) (reset_apply _)

/-- A later point adds to what the point before left. -/
theorem later (t : Fin cfg0.N) (h : ¬t.val % 8 = 0) (q : Fin 4) (i : Fin 256) (j : Fin 256) : outsAt0 m c t.val t.isLt (ix3 q i j)
    = outsAt0 m c (t.val - 1) (by omega) (ix3 q i j) + term m c t q i j := by
  rw [outsAt0_B m c t h]
  frame_open
  simp (disch := decide) only [↓ View.readCov_skip, ↓ View.readCov_cons_toLoadRect, ↓ View.readCov_fill]
  frame_out
  canon_tiles x h
  · obtain rfl : q = ⟨3, by decide⟩ := Fin.ext (h0.trans (by show 3 + (x 0).val = 3; omega))
    obtain rfl := place x i j h1 h2
    rw [fourth_apply, ld_one _ 3 _ (by decide)]
    rfl
  · obtain rfl : q = ⟨2, by decide⟩ := Fin.ext (h0.trans (by show 2 + (x 0).val = 2; omega))
    obtain rfl := place x i j h1 h2
    rw [third_apply, ld_one _ 2 _ (by decide)]
    rfl
  · obtain rfl : q = ⟨1, by decide⟩ := Fin.ext (h0.trans (by show 1 + (x 0).val = 1; omega))
    obtain rfl := place x i j h1 h2
    rw [second_apply, ld_one _ 1 _ (by decide)]
    rfl
  · obtain rfl : q = ⟨0, by decide⟩ := Fin.ext (h0.trans (by show (x 0).val = 0; omega))
    obtain rfl := place x i j h1 h2
    rw [first_apply, ld_one _ 0 _ (by decide)]
    rfl

/-- The output array. -/
theorem arr2 : (dats m 0 c).arrAt 2 cfg0.N = arr m c := by
  refine (dats m 0 c).arrAt_eq_of_covers 2 _ (by decide +kernel) fun t hf y => ?_
  have hr := (flush0_2 t).mp hf
  have ht : t.val < 8 := t.isLt
  obtain ⟨q, i, j, rfl⟩ : ∃ (q : Fin 4) (i : Fin 256) (j : Fin 256), y = ix3 q i j := ⟨y 0, y 1, y 2, by
    funext a; match a with | 0 => rfl | 1 => rfl | 2 => rfl⟩
  blk_simp
  rw [after0_2]
  have E := Pipeline.eq_sum_fin_of_reset_step_apply_of_flush (fun n h (i : Fin 4 × Fin 256 × Fin 256) => outsAt0 m c n h (ix3 i.1 i.2.1 i.2.2)) 8 (fun _ => 0)
    (fun p i => term m c p i.1 i.2.1 i.2.2) (fun p h i => first m c p h i.1 i.2.1 i.2.2) (fun p h i => later m c p h i.1 i.2.1 i.2.2) t hr (q, i, j)
  refine E.trans ?_
  have e : (win0_2.blk t).view.emb (ix3 q i j) = ix3 q i j := by
    blk_ext [idx t]
  refine Eq.trans ?_ (congrArg (arr m c) e).symm
  rw [zero_add]
  unfold arr gw term rows
  refine Eq.trans ?_ (Fin.sum_mul_add_fin 8 1024 _)
  refine Finset.sum_congr rfl fun s _ => Finset.sum_congr rfl fun k _ => ?_
  have hs : (8 * (t.val / 8) + s.val) % 8 = s.val := by omega
  refine congrArg₂ (· * ·) ?_ ?_
  · blk_ext [iblk, V, idx ⟨8 * (t.val / 8) + s.val, Pipeline.run_point_lt_of_flush t hr s⟩, hs]
  · blk_ext [iblk, V, idx ⟨8 * (t.val / 8) + s.val, Pipeline.run_point_lt_of_flush t hr s⟩, hs]

end Kernel

section Reference

open Cert.Reference22Ideal Cert.Reference22Ideal.Gen Cert.Reference22Ideal.Read

variable (f : Vec Ideal S8192x256 .bf16) (g : Vec Ideal S8192x1024 .bf16)

/-- The reference at one entry: each shard of the result reads its columns of the branch's gradient. -/
theorem ref (s : Fin 4) (i : Fin 256) (j : Fin 256) : val_main_v14 (F := Ideal) f g (ix3 s i j) = gw f g i ⟨s.val * 256 + j.val, by omega⟩ := by
  unfold gw
  match s with
  | 0 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 1 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 2 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _
  | 3 =>
    pointwise [val_main_v14, val_main_v13, val_main_v12, val_main_v11, val_main_v10, val_main_v9, val_main_v8, val_main_v7, val_main_v6, val_main_v5, val_main_v4,
      val_main_v3, val_main_v2, val_main_v1, val_main_v0, val_main_cst]
    exact Finset.sum_congr rfl fun l _ => mul_comm _ _

end Reference

/-- The reference leaves its arguments as they were and declares no semaphore. -/
theorem reference_frame : Cert.quiescent_Reference22Ideal := fun m ρ _ =>
  (θ_run Cert.Reference22Ideal.defs _ _).mono (fun r h => ⟨fun c => (h c).2,
    sem_eq_zero_of_no_sems (by decide) r.2⟩) (Cert.Reference22Ideal.Value.run (F := Ideal) m ρ)

/-- The kernel and the reference end with the same gradient. -/
theorem algebraic : Cert.algebraic_Kernel22Ideal_Reference22Ideal := by
  intro m ρ m' ρ' hpre hargs
  refine ⟨fun c => arr m c, (θ_run Cert.Kernel22Ideal.defs _ _).mono (fun r h c => ?_) (Cert.Kernel22Ideal.Value.run_blocks (F := Ideal) m ρ),
    (θ_run Cert.Reference22Ideal.defs _ _).mono (fun r h c => ?_) (Cert.Reference22Ideal.Value.run (F := Ideal) m' ρ')⟩
  · exact ⟨(h c).1.trans (arr2 m c), (h c).2⟩
  · refine ⟨(h c).1.trans ((Cert.Reference22Ideal.Read.val_main_v14_eq _ _).trans ?_), (h c).2⟩
    rw [(hargs c).1, (hargs c).2]
    funext y
    obtain ⟨s, i, j, rfl⟩ : ∃ (s : Fin 4) (i : Fin 256) (j : Fin 256), y = ix3 s i j := ⟨y 0, y 1, y 2, by
      funext a; match a with | 0 => rfl | 1 => rfl | 2 => rfl⟩
    exact ref _ _ s i j

end Cert.DilatedBranchWeights

end
-- ==== Proof.DilatedBranchInput.lean ====
/- The gradient that the dilated branch receives: the gradient of its product against the transpose of its weights, in four shards.
   Over the extended reals the kernel and the reference end with the same array, whatever the arguments. -/
module

public import proofs.«01_k».proof.Defs
public import proofs.«01_k».proof.Proof.Gen.Kernel23Ideal.Value
public import proofs.«01_k».proof.Proof.Gen.Reference23Ideal.Read
public import proofs.«01_k».proof.Proof.Gen.Reference23Ideal.Run
public import Idealize.ShloMosaic.Lib.Pipeline.ValueKit
public import Idealize.ShloMosaic.Lib.Pipeline.ReadBack
public import Idealize.ShloMosaic.Lib.Pointwise

@[expose] public section

noncomputable section

namespace Cert.DilatedBranchInput

open Idealize.ShloMosaic Idealize.ShloMosaic.TcCoe
open Idealize.ShloMosaic.Pipeline (Dat)

/-- A shard's part of one entry: the sum over the shard's columns. -/
def part (dy : Cert.Kernel23Ideal.S8192x1024.Idx → EReal) (w : Cert.Kernel23Ideal.S4x256x256.Idx → EReal) (s : Fin 4) (t : Fin 8192) (d : Fin 256) : EReal :=
  ∑ k : Fin 256, dy (ix2 t ⟨s.val * 256 + k.val, by omega⟩) * w (ix3 s d k)

/-- One entry of the gradient: the four shards' parts. -/
def grad (dy : Cert.Kernel23Ideal.S8192x1024.Idx → EReal) (w : Cert.Kernel23Ideal.S4x256x256.Idx → EReal) (t : Fin 8192) (d : Fin 256) : EReal :=
  part dy w 0 t d + part dy w 1 t d + part dy w 2 t d + part dy w 3 t d

section Kernel

open Cert.Kernel23Ideal Cert.Kernel23Ideal.Gen

/-- Where each window's block lies at a point of the grid. -/
theorem idx : ∀ t : Fin cfg0.N, win0_0.index t = ![t.val, 0] ∧ win0_1.index t = ![0, 0, 0] ∧ win0_2.index t = ![t.val, 1] ∧ win0_3.index t = ![1, 0, 0]
    ∧ win0_4.index t = ![t.val, 2] ∧ win0_5.index t = ![2, 0, 0] ∧ win0_6.index t = ![t.val, 3] ∧ win0_7.index t = ![3, 0, 0] ∧ win0_8.index t = ![t.val, 0] :=
  (by decide +kernel : ∀ t : Fin grid0.N, _)

variable (m : (ℓ : Loc nD τ sig) → Buf (Elt Ideal) ℓ) (c : Dev nD)

/-- The array that the kernel writes. -/
def arr : S8192x256.Idx → EReal := fun i =>
  grad (m ((c : Thread nD τ).loc main_arg0)) (m ((c : Thread nD τ).loc main_arg1)) (i 0) (i 1)

/-- The output array. -/
theorem arr8 : (dats m 0 c).arrAt 8 cfg0.N = arr m c := by
  refine (dats m 0 c).arrAt_eq_of_covers 8 _ (by decide +kernel) fun t hf y => ?_
  have ht : t.val < 8 := t.isLt
  obtain ⟨r, d, rfl⟩ : ∃ (r : Fin 1024) (d : Fin 256), y = ix2 r d := ⟨y 0, y 1, by
    funext a; match a with | 0 => rfl | 1 => rfl⟩
  blk_simp
  rw [after0_8]
  have e : (win0_8.blk t).view.emb (ix2 r d) = ix2 ⟨t.val * 1024 + r.val, by omega⟩ d := by
    blk_ext [idx t]
  refine Eq.trans ?_ (congrArg (arr m c) e).symm
  frame_out
  pointwise [k0_pay1]
  unfold arr grad part
  blk_point [iblk, V, idx t]

end Kernel

section Reference

open Cert.Reference23Ideal Cert.Reference23Ideal.Gen Cert.Reference23Ideal.Read

/-- The reference at one entry, cut into the four shards. -/
theorem ref (dy : Vec Ideal S8192x1024 .bf16) (w : Vec Ideal S4x256x256 .bf16) (t : Fin 8192) (d : Fin 256) : val_main_v14 (F := Ideal) dy w (ix2 t d) = grad dy w t d := by
  pointwise [val_main_v14, val_main_v13, val_main_v12, val_main_v11, val_main_v10, val_main_cst, val_main_v9, val_main_v8, val_main_v7, val_main_v6, val_main_v5,
      val_main_v4, val_main_v3, val_main_v2, val_main_v1, val_main_v0]
  rw [← Fin.sum_mul_add_fin 4 256, Fin.sum_univ_four]
  unfold grad part
  refine congrArg₂ (· + ·) (congrArg₂ (· + ·) (congrArg₂ (· + ·) ?_ ?_) ?_) ?_ <;> refine Finset.sum_congr rfl fun k _ => ?_
  · rw [dif_pos (by show 0 * 256 + k.val < 256; omega)]
    exact congrArg (fun l => dy (ix2 t _) * w (ix3 0 d l)) (Fin.ext (by show 0 * 256 + k.val = k.val; omega))
  · rw [dif_neg (by show ¬ 1 * 256 + k.val < 256; omega), dif_pos (by show 1 * 256 + k.val - 256 < 256; omega)]
    exact congrArg (fun l => dy (ix2 t _) * w (ix3 1 d l)) (Fin.ext (by show 1 * 256 + k.val - 256 = k.val; omega))
  · rw [dif_neg (by show ¬ 2 * 256 + k.val < 256; omega), dif_neg (by show ¬ 2 * 256 + k.val - 256 < 256; omega), dif_pos (by show 2 * 256 + k.val - 256 - 256 < 256; omega)]
    exact congrArg (fun l => dy (ix2 t _) * w (ix3 2 d l)) (Fin.ext (by show 2 * 256 + k.val - 256 - 256 = k.val; omega))
  · rw [dif_neg (by show ¬ 3 * 256 + k.val < 256; omega), dif_neg (by show ¬ 3 * 256 + k.val - 256 < 256; omega), dif_neg (by show ¬ 3 * 256 + k.val - 256 - 256 < 256; omega)]
    exact congrArg (fun l => dy (ix2 t _) * w (ix3 3 d l)) (Fin.ext (by show 3 * 256 + k.val - 256 - 256 - 256 = k.val; omega))

end Reference

/-- The reference leaves its arguments as they were and declares no semaphore. -/
theorem reference_frame : Cert.quiescent_Reference23Ideal := fun m ρ _ =>
  (θ_run Cert.Reference23Ideal.defs _ _).mono (fun r h => ⟨fun c => (h c).2,
    sem_eq_zero_of_no_sems (by decide) r.2⟩) (Cert.Reference23Ideal.Value.run (F := Ideal) m ρ)

/-- The kernel and the reference end with the same gradient. -/
theorem algebraic : Cert.algebraic_Kernel23Ideal_Reference23Ideal := by
  intro m ρ m' ρ' hpre hargs
  refine ⟨fun c => arr m c, (θ_run Cert.Kernel23Ideal.defs _ _).mono (fun r h c => ?_) (Cert.Kernel23Ideal.Value.run_blocks (F := Ideal) m ρ),
    (θ_run Cert.Reference23Ideal.defs _ _).mono (fun r h c => ?_) (Cert.Reference23Ideal.Value.run (F := Ideal) m' ρ')⟩
  · exact ⟨(h c).1.trans (arr8 m c), (h c).2⟩
  · refine ⟨(h c).1.trans ((Cert.Reference23Ideal.Read.val_main_v14_eq _ _).trans ?_), (h c).2⟩
    rw [(hargs c).1, (hargs c).2]
    funext y
    obtain ⟨t, d, rfl⟩ : ∃ (t : Fin 8192) (d : Fin 256), y = ix2 t d := ⟨y 0, y 1, by
      funext a; match a with | 0 => rfl | 1 => rfl⟩
    exact ref _ _ t d

end Cert.DilatedBranchInput

end
-- ==== Proof.lean ====
module

public import proofs.«01_k».proof.Defs
public import proofs.«01_k».proof.Proof.SbClaim
public import proofs.«01_k».proof.Proof.MemClaim
public import proofs.«01_k».proof.Proof.FfnInput
public import proofs.«01_k».proof.Proof.ProjInput
public import proofs.«01_k».proof.Proof.ProjWeights
public import proofs.«01_k».proof.Proof.FfnWeights
public import proofs.«01_k».proof.Proof.FfnAct
public import proofs.«01_k».proof.Proof.GateWeights
public import proofs.«01_k».proof.Proof.FfnUpWeights
public import proofs.«01_k».proof.Proof.Merged
public import proofs.«01_k».proof.Proof.OutWeights
public import proofs.«01_k».proof.Proof.FfnForward
public import proofs.«01_k».proof.Proof.Proj
public import proofs.«01_k».proof.Proof.Gates
public import proofs.«01_k».proof.Proof.FfnOut
public import proofs.«01_k».proof.Proof.Mix
public import proofs.«01_k».proof.Proof.BranchMerge
public import proofs.«01_k».proof.Proof.SbBranchWeights
public import proofs.«01_k».proof.Proof.SbBranchInput
public import proofs.«01_k».proof.Proof.MemBranchWeights
public import proofs.«01_k».proof.Proof.MemBranchInput
public import proofs.«01_k».proof.Proof.DilatedBranchWeights
public import proofs.«01_k».proof.Proof.DilatedBranchInput
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Gen.Kernel13.Frame
public import proofs.«01_k».proof.Proof.Gen.Kernel14.Frame
public import proofs.«01_k».proof.Proof.Gen.Kernel15.Frame
public import proofs.«01_k».proof.Proof.Gen.Kernel16.Frame
public import proofs.«01_k».proof.Proof.Gen.Kernel17.Frame
public import proofs.«01_k».proof.Proof.Gen.Kernel18.Frame
public import proofs.«01_k».proof.Proof.Gen.Kernel19.Frame
public import proofs.«01_k».proof.Proof.Gen.Kernel20.Frame
public import proofs.«01_k».proof.Proof.Gen.Kernel21.Frame
public import proofs.«01_k».proof.Proof.Gen.Kernel22.Frame
public import proofs.«01_k».proof.Proof.Gen.Kernel23.Frame

@[expose] public section

noncomputable section

namespace Cert.Proof

/-- The certificate. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts,
  Cert.Kernel18.Gen.facts, Cert.Kernel18Ideal.Gen.facts, Cert.Reference18Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Pre_finite2.Gen.facts, Cert.Pre_finite7.Gen.facts,
  Cert.Sb.kernel_frame, Cert.Sb.ideal_frame, Cert.Sb.reference_frame,
  fun m ρ _ => Cert.Kernel2.Gen.frame m ρ, fun m ρ _ => Cert.Kernel2Ideal.Gen.frame m ρ, fun m ρ _ => Cert.Kernel2Ideal.Gen.frame m ρ,
  Cert.Mem.reference_frame, fun m ρ _ => Cert.Mem.reference_frame m ρ trivial,
  fun m ρ _ => Cert.Kernel3.Gen.frame m ρ, fun m ρ _ => Cert.Kernel3Ideal.Gen.frame m ρ, Cert.FfnInput.reference_frame,
  fun m ρ _ => Cert.Kernel4.Gen.frame m ρ, fun m ρ _ => Cert.Kernel4Ideal.Gen.frame m ρ, Cert.ProjInput.reference_frame,
  fun m ρ _ => Cert.Kernel5.Gen.frame m ρ, fun m ρ _ => Cert.Kernel5Ideal.Gen.frame m ρ, Cert.ProjWeights.reference_frame,
  fun m ρ _ => Cert.Kernel6.Gen.frame m ρ, fun m ρ _ => Cert.Kernel6Ideal.Gen.frame m ρ, Cert.FfnWeights.reference_frame,
  fun m ρ _ => Cert.Kernel7.Gen.frame m ρ, fun m ρ _ => Cert.Kernel7Ideal.Gen.frame m ρ, fun m ρ _ => Cert.Kernel7Ideal.Gen.frame m ρ, Cert.FfnAct.reference_frame, fun m ρ _ => Cert.FfnAct.reference_frame m ρ trivial,
  fun m ρ _ => Cert.Kernel8.Gen.frame m ρ, fun m ρ _ => Cert.Kernel8Ideal.Gen.frame m ρ, Cert.GateWeights.reference_frame,
  fun m ρ _ => Cert.Kernel9.Gen.frame m ρ, fun m ρ _ => Cert.Kernel9Ideal.Gen.frame m ρ, Cert.FfnUpWeights.reference_frame,
  fun m ρ _ => Cert.Kernel10.Gen.frame m ρ, fun m ρ _ => Cert.Kernel10Ideal.Gen.frame m ρ, Cert.Merged.reference_frame,
  fun m ρ _ => Cert.Kernel11.Gen.frame m ρ, fun m ρ _ => Cert.Kernel11Ideal.Gen.frame m ρ, Cert.OutWeights.reference_frame,
  fun m ρ _ => Cert.Kernel12.Gen.frame m ρ, fun m ρ _ => Cert.Kernel12Ideal.Gen.frame m ρ, Cert.FfnForward.reference_frame,
  fun m ρ _ => Cert.Kernel13.Gen.frame m ρ, fun m ρ _ => Cert.Kernel13Ideal.Gen.frame m ρ, Cert.Proj.reference_frame,
  fun m ρ _ => Cert.Kernel14.Gen.frame m ρ, fun m ρ _ => Cert.Kernel14Ideal.Gen.frame m ρ, Cert.Gates.reference_frame,
  fun m ρ _ => Cert.Kernel15.Gen.frame m ρ, fun m ρ _ => Cert.Kernel15Ideal.Gen.frame m ρ, Cert.FfnOut.reference_frame,
  fun m ρ _ => Cert.Kernel16.Gen.frame m ρ, fun m ρ _ => Cert.Kernel16Ideal.Gen.frame m ρ, Cert.Mix.reference_frame,
  fun m ρ _ => Cert.Kernel17.Gen.frame m ρ, fun m ρ _ => Cert.Kernel17Ideal.Gen.frame m ρ, Cert.BranchMerge.reference_frame,
  fun m ρ _ => Cert.Kernel18.Gen.frame m ρ, fun m ρ _ => Cert.Kernel18Ideal.Gen.frame m ρ, Cert.SbBranchWeights.reference_frame,
  fun m ρ _ => Cert.Kernel19.Gen.frame m ρ, fun m ρ _ => Cert.Kernel19Ideal.Gen.frame m ρ, Cert.SbBranchInput.reference_frame,
  fun m ρ _ => Cert.Kernel20.Gen.frame m ρ, fun m ρ _ => Cert.Kernel20Ideal.Gen.frame m ρ, Cert.MemBranchWeights.reference_frame,
  fun m ρ _ => Cert.Kernel21.Gen.frame m ρ, fun m ρ _ => Cert.Kernel21Ideal.Gen.frame m ρ, Cert.MemBranchInput.reference_frame,
  fun m ρ _ => Cert.Kernel22.Gen.frame m ρ, fun m ρ _ => Cert.Kernel22Ideal.Gen.frame m ρ, Cert.DilatedBranchWeights.reference_frame,
  fun m ρ _ => Cert.Kernel23.Gen.frame m ρ, fun m ρ _ => Cert.Kernel23Ideal.Gen.frame m ρ, Cert.DilatedBranchInput.reference_frame,
  trivial, trivial, Cert.Mem.algebraic,
  trivial, Cert.FfnInput.algebraic,
  trivial, Cert.ProjInput.algebraic,
  trivial, Cert.ProjWeights.algebraic,
  trivial, Cert.FfnWeights.algebraic,
  trivial, Cert.FfnAct.algebraic,
  trivial, Cert.GateWeights.algebraic,
  trivial, Cert.FfnUpWeights.algebraic,
  trivial, Cert.Merged.algebraic,
  trivial, Cert.OutWeights.algebraic,
  trivial, Cert.FfnForward.algebraic,
  trivial, Cert.Proj.algebraic,
  trivial, Cert.Gates.algebraic,
  trivial, Cert.FfnOut.algebraic,
  trivial, Cert.Mix.algebraic,
  trivial, Cert.BranchMerge.algebraic,
  trivial, Cert.SbBranchWeights.algebraic,
  trivial, Cert.SbBranchInput.algebraic,
  trivial, Cert.MemBranchWeights.algebraic,
  trivial, Cert.MemBranchInput.algebraic,
  trivial, Cert.DilatedBranchWeights.algebraic,
  trivial, Cert.DilatedBranchInput.algebraic⟩

end Cert.Proof

end
